-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2 = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_Reference [hPre_routed : Cert.Pre_routed.Facts] (m : (ℓ : Loc Cert.Reference.nD Cert.Reference.τ Cert.Reference.sig) → Buf (Elt Bits) ℓ) : Prop :=
  ∀ c : Dev Cert.Reference.nD,
    (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.1 = (fun _ => 1#1)
    ∧ (Cert.Pre_routed.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2.2 = (fun _ => 1#1)

def Pre_Kernel2 [hPre_blocks : Cert.Pre_blocks.Facts] (m : (ℓ : Loc Cert.Kernel2.nD Cert.Kernel2.τ Cert.Kernel2.sig) → Buf (Elt Bits) ℓ) : Prop :=
  ∀ c : Dev Cert.Kernel2.nD,
    (Cert.Pre_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_blocks.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2 = (fun _ => 1#1)

def Pre_Kernel2Ideal [hPre_blocks : Cert.Pre_blocks.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_blocks.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2 = (fun _ => 1#1)

def Pre_Reference2Ideal [hPre_blocks : Cert.Pre_blocks.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_blocks.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2 = (fun _ => 1#1)

def Pre_Kernel3 [hPre_placed : Cert.Pre_placed.Facts] (m : (ℓ : Loc Cert.Kernel3.nD Cert.Kernel3.τ Cert.Kernel3.sig) → Buf (Elt Bits) ℓ) : Prop :=
  ∀ c : Dev Cert.Kernel3.nD,
    (Cert.Pre_placed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_placed : Cert.Pre_placed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_placed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_placed : Cert.Pre_placed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_placed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_routed : Cert.Pre_routed.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] [hPre_blocks : Cert.Pre_blocks.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_blocks : Cert.Pre_blocks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] [hPre_blocks : Cert.Pre_blocks.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_placed : Cert.Pre_placed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_placed : Cert.Pre_placed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v26)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v26) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v74) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def preserves_Kernel2_Kernel2Ideal : Prop :=
  True

def algebraic_Kernel2Ideal_Reference2Ideal [hKernel2Ideal : Cert.Kernel2Ideal.Facts] [hReference2Ideal : Cert.Reference2Ideal.Facts] [hPre_blocks : Cert.Pre_blocks.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_placed : Cert.Pre_placed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_blocks : Cert.Pre_blocks.Facts) (hPre_placed : Cert.Pre_placed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal) (hPre_routed := hPre_routed)
    ∧ quiescent_Reference (hReference := hReference) (hPre_routed := hPre_routed)
    ∧ quiescent_Kernel2 (hKernel2 := hKernel2) (hPre_blocks := hPre_blocks)
    ∧ quiescent_Kernel2Ideal (hKernel2Ideal := hKernel2Ideal) (hPre_blocks := hPre_blocks)
    ∧ quiescent_Reference2Ideal (hReference2Ideal := hReference2Ideal) (hPre_blocks := hPre_blocks)
    ∧ quiescent_Kernel3 (hKernel3 := hKernel3) (hPre_placed := hPre_placed)
    ∧ quiescent_Kernel3Ideal (hKernel3Ideal := hKernel3Ideal) (hPre_placed := hPre_placed)
    ∧ quiescent_Reference3Ideal (hReference3Ideal := hReference3Ideal) (hPre_placed := hPre_placed)
    ∧ preserves_Kernel_KernelIdeal
    ∧ algebraic_KernelIdeal_ReferenceIdeal (hKernelIdeal := hKernelIdeal) (hReferenceIdeal := hReferenceIdeal) (hPre_routed := hPre_routed)
    ∧ bitexact_Kernel_Reference (hKernel := hKernel) (hReference := hReference) (hPre_routed := hPre_routed)
    ∧ preserves_Kernel2_Kernel2Ideal
    ∧ algebraic_Kernel2Ideal_Reference2Ideal (hKernel2Ideal := hKernel2Ideal) (hReference2Ideal := hReference2Ideal) (hPre_blocks := hPre_blocks)
    ∧ preserves_Kernel3_Kernel3Ideal
    ∧ algebraic_Kernel3Ideal_Reference3Ideal (hKernel3Ideal := hKernel3Ideal) (hReference3Ideal := hReference3Ideal) (hPre_placed := hPre_placed)
-- ==== Pre_blocks.lean ====
abbrev S288 : Shape := ⟨1, ![288]⟩
abbrev S1 : Shape := ⟨1, ![1]⟩
abbrev S147456x512 : Shape := ⟨2, ![147456, 512]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : IVec S147456x512 32) (main_arg3 : FVec F S32x1024x1024 .f32) (main_arg4 : FVec F S32x1024x1024 .f32) (main_arg5 : FVec F S32x1024x1024 .f32) (main_arg6 : FVec F S32x1024 .f32) (main_arg7 : FVec F S32x1024 .f32) (main_arg8 : FVec F S32x1024 .f32) : IVec S_ 1 × IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  (main_v5, main_v11)
-- ==== Pre_placed.lean ====
abbrev S131072 : Shape := ⟨1, ![131072]⟩
abbrev S32768x1024 : Shape := ⟨2, ![32768, 1024]⟩
abbrev S32768x128 : Shape := ⟨2, ![32768, 128]⟩
abbrev S1024 : Shape := ⟨1, ![1024]⟩
abbrev S147456x512 : Shape := ⟨2, ![147456, 512]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : IVec S131072 32) (main_arg1 : FVec F S32768x1024 .f32) (main_arg2 : FVec F S32768x128 .f32) (main_arg3 : FVec F S1024 .f32) (main_arg4 : IVec S147456x512 32) : IVec S_ 1 :=
  let main_c : IVec S_ 32 := constantI S_ 32 0#32
  let main_v0 : IVec S131072 32 := broadcastInDim S131072 ![] bcast_S_S131072 main_c
  let main_v1 : IVec S131072 1 := cmpi .sge main_arg0 main_v0
  let main_c_0 : IVec S_ 32 := constantI S_ 32 147456#32
  let main_v2 : IVec S131072 32 := broadcastInDim S131072 ![] bcast_S_S131072 main_c_0
  let main_v3 : IVec S131072 1 := cmpi .slt main_arg0 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Pre_routed.lean ====
abbrev S32768x128 : Shape := ⟨2, ![32768, 128]⟩
abbrev S8x128 : Shape := ⟨2, ![8, 128]⟩
abbrev S32768x512 : Shape := ⟨2, ![32768, 512]⟩
abbrev S32768x4 : Shape := ⟨2, ![32768, 4]⟩
abbrev S1x32 : Shape := ⟨2, ![1, 32]⟩
abbrev S32 : Shape := ⟨1, ![32]⟩
abbrev S32768x4x1 : Shape := ⟨3, ![32768, 4, 1]⟩
abbrev S1x1x32 : Shape := ⟨3, ![1, 1, 32]⟩
abbrev S32768x4x32 : Shape := ⟨3, ![32768, 4, 32]⟩
abbrev S_ : Shape := ⟨0, ![]⟩
abbrev S32768x32 : Shape := ⟨2, ![32768, 32]⟩
abbrev S32768x1x32 : Shape := ⟨3, ![32768, 1, 32]⟩

class Facts : Prop where
  slices_S32768x128_S32768x4_0_0 : S32768x128.Slices ![0, 0] S32768x4
  slices_S32768x128_S32768x4_0_8 : S32768x128.Slices ![0, 8] S32768x4
  slices_S8x128_S1x32_0_0 : S8x128.Slices ![0, 0] S1x32
  shapeCasts_S1x32_S32 : S1x32.ShapeCasts S32
  bcast_S32768x4_S32768x4x1_0_1 : S32768x4.BroadcastsInDim S32768x4x1 (![0, 1] : Fin 2 → Fin S32768x4x1.rank)
  bcast_S32_S1x1x32_2 : S32.BroadcastsInDim S1x1x32 (![2] : Fin 1 → Fin S1x1x32.rank)
  bcast_S32768x4x1_S32768x4x32_0_1_2 : S32768x4x1.BroadcastsInDim S32768x4x32 (![0, 1, 2] : Fin 3 → Fin S32768x4x32.rank)
  bcast_S1x1x32_S32768x4x32_0_1_2 : S1x1x32.BroadcastsInDim S32768x4x32 (![0, 1, 2] : Fin 3 → Fin S32768x4x32.rank)
  natLt_1_32 : 1 < 32
  reducesTo_S32768x4x32_S32768x32_d1 : S32768x4x32.ReducesTo [1] S32768x32
  h_S_ : 0 < S_.numel
  bcast_S_S_ : S_.BroadcastsInDim S_ (![] : Fin 0 → Fin S_.rank)
  reduceWindows_S32768x32_S32768x32_w32768s1p32767_0_w1s1p0_0 : S32768x32.ReduceWindows (![32768, 1] : Fin 2 → Nat) ![1, 1] ![32767, 0] ![0, 0] S32768x32
  bcast_S_S32768x4 : S_.BroadcastsInDim S32768x4 (![] : Fin 0 → Fin S32768x4.rank)
  reducesTo_S32768x4_S_d0_1 : S32768x4.ReducesTo [0, 1] S_
  bcast_S_S32768x32 : S_.BroadcastsInDim S32768x32 (![] : Fin 0 → Fin S32768x32.rank)
  reducesTo_S32768x32_S_d0_1 : S32768x32.ReducesTo [0, 1] S_
  bcast_S32768x32_S32768x1x32_0_2 : S32768x32.BroadcastsInDim S32768x1x32 (![0, 2] : Fin 2 → Fin S32768x1x32.rank)
  bcast_S32768x1x32_S32768x4x32_0_1_2 : S32768x1x32.BroadcastsInDim S32768x4x32 (![0, 1, 2] : Fin 3 → Fin S32768x4x32.rank)
  reducesTo_S32768x4x32_S32768x4_d2 : S32768x4x32.ReducesTo [2] S32768x4
  reducesTo_S32768x32_S32_d0 : S32768x32.ReducesTo [0] S32
  reducesTo_S32_S_d0 : S32.ReducesTo [0] S_

variable [Facts]

def fn_cumsum_0 {F : FTy → Type} [FloatOps F] (arg0 : IVec S32768x32 32) : IVec S32768x32 32 :=
  let c : IVec S_ 32 := constantI S_ 32 0#32
  let v0 : IVec S_ 32 := broadcastInDim S_ ![] bcast_S_S_ c
  let v1 : IVec S32768x32 32 := (fun x v => Host.reduceWindow IntOp.addi ![32768, 1] ![1, 1] ![32767, 0] ![0, 0] x v reduceWindows_S32768x32_S32768x32_w32768s1p32767_0_w1s1p0_0 h_S_) arg0 v0
  v1

def fn_cumsum {F : FTy → Type} [FloatOps F] (arg0 : IVec S32768x32 32) : IVec S32768x32 32 :=
  let v0 : IVec S32768x32 32 := fn_cumsum_0 (F := F) arg0
  v0

def fn_part1 {F : FTy → Type} [FloatOps F] (main_v3 : IVec S32768x4 32) (main_v6 : IVec S32 32) (main_v13 : IVec S32768x4x32 32) (main_v14 : IVec S32768x32 32) (main_v16 : IVec S32768x32 32) (main_v18 : IVec S32768x4 1) (main_v20 : IVec S32768x4 1) : IVec S_ 1 × IVec S_ 1 × IVec S_ 1 × IVec S_ 1 :=
  let main_v21 : IVec S32768x4 1 := andi main_v18 main_v20
  let main_c_2 : IVec S_ 1 := constantI S_ 1 1#1
  let main_v22 : IVec S_ 1 := (fun x v => Host.reduce IntOp.andi x v reducesTo_S32768x4_S_d0_1 h_S_) main_v21 main_c_2
  let main_c_3 : IVec S_ 32 := constantI S_ 32 1#32
  let main_v23 : IVec S32768x32 32 := broadcastInDim S32768x32 ![] bcast_S_S32768x32 main_c_3
  let main_v24 : IVec S32768x32 1 := cmpi .sle main_v14 main_v23
  let main_c_4 : IVec S_ 1 := constantI S_ 1 1#1
  let main_v25 : IVec S_ 1 := (fun x v => Host.reduce IntOp.andi x v reducesTo_S32768x32_S_d0_1 h_S_) main_v24 main_c_4
  let main_v26 : IVec S32768x1x32 32 := broadcastInDim S32768x1x32 ![0, 2] bcast_S32768x32_S32768x1x32_0_2 main_v16
  let main_v27 : IVec S32768x4x32 32 := broadcastInDim S32768x4x32 ![0, 1, 2] bcast_S32768x1x32_S32768x4x32_0_1_2 main_v26
  let main_v28 : IVec S32768x4x32 32 := muli main_v13 main_v27
  let main_c_5 : IVec S_ 32 := constantI S_ 32 0#32
  let main_v29 : IVec S32768x4 32 := (fun x v => Host.reduce IntOp.addi x v reducesTo_S32768x4x32_S32768x4_d2 h_S_) main_v28 main_c_5
  let main_v30 : IVec S32768x4 1 := cmpi .eq main_v29 main_v3
  let main_c_6 : IVec S_ 1 := constantI S_ 1 1#1
  let main_v31 : IVec S_ 1 := (fun x v => Host.reduce IntOp.andi x v reducesTo_S32768x4_S_d0_1 h_S_) main_v30 main_c_6
  let main_c_7 : IVec S_ 32 := constantI S_ 32 0#32
  let main_v32 : IVec S32 32 := (fun x v => Host.reduce IntOp.addi x v reducesTo_S32768x32_S32_d0 h_S_) main_v14 main_c_7
  let main_v33 : IVec S32 1 := cmpi .eq main_v32 main_v6
  let main_c_8 : IVec S_ 1 := constantI S_ 1 1#1
  let main_v34 : IVec S_ 1 := (fun x v => Host.reduce IntOp.andi x v reducesTo_S32_S_d0 h_S_) main_v33 main_c_8
  (main_v22, main_v25, main_v31, main_v34)

def fn {F : FTy → Type} [FloatOps F] (main_arg0 : FVec F S32768x128 .f32) (main_arg1 : FVec F S8x128 .f32) (main_arg2 : IVec S32768x512 32) : IVec S_ 1 × IVec S_ 1 × IVec S_ 1 × IVec S_ 1 :=
  let main_v0 : FVec F S32768x4 .f32 := (extractStridedSlice S32768x4 ![0, 0] · slices_S32768x128_S32768x4_0_0) main_arg0
  let main_v1 : IVec S32768x4 32 := fptosi 32 main_v0
  let main_v2 : FVec F S32768x4 .f32 := (extractStridedSlice S32768x4 ![0, 8] · slices_S32768x128_S32768x4_0_8) main_arg0
  let main_v3 : IVec S32768x4 32 := fptosi 32 main_v2
  let main_v4 : FVec F S1x32 .f32 := (extractStridedSlice S1x32 ![0, 0] · slices_S8x128_S1x32_0_0) main_arg1
  let main_v5 : FVec F S32 .f32 := shapeCast S32 main_v4 shapeCasts_S1x32_S32
  let main_v6 : IVec S32 32 := fptosi 32 main_v5
  let main_v7 : IVec S32768x4x1 32 := broadcastInDim S32768x4x1 ![0, 1] bcast_S32768x4_S32768x4x1_0_1 main_v1
  let main_v8 : IVec S32 32 := iotaInDim S32 32 0
  let main_v9 : IVec S1x1x32 32 := broadcastInDim S1x1x32 ![2] bcast_S32_S1x1x32_2 main_v8
  let main_v10 : IVec S32768x4x32 32 := broadcastInDim S32768x4x32 ![0, 1, 2] bcast_S32768x4x1_S32768x4x32_0_1_2 main_v7
  let main_v11 : IVec S32768x4x32 32 := broadcastInDim S32768x4x32 ![0, 1, 2] bcast_S1x1x32_S32768x4x32_0_1_2 main_v9
  let main_v12 : IVec S32768x4x32 1 := cmpi .eq main_v10 main_v11
  let main_v13 : IVec S32768x4x32 32 := (extui 32 · natLt_1_32) main_v12
  let main_c : IVec S_ 32 := constantI S_ 32 0#32
  let main_v14 : IVec S32768x32 32 := (fun x v => Host.reduce IntOp.addi x v reducesTo_S32768x4x32_S32768x32_d1 h_S_) main_v13 main_c
  let main_v15 : IVec S32768x32 32 := fn_cumsum (F := F) main_v14
  let main_v16 : IVec S32768x32 32 := subi main_v15 main_v14
  let main_c_0 : IVec S_ 32 := constantI S_ 32 0#32
  let main_v17 : IVec S32768x4 32 := broadcastInDim S32768x4 ![] bcast_S_S32768x4 main_c_0
  let main_v18 : IVec S32768x4 1 := cmpi .sge main_v1 main_v17
  let main_c_1 : IVec S_ 32 := constantI S_ 32 32#32
  let main_v19 : IVec S32768x4 32 := broadcastInDim S32768x4 ![] bcast_S_S32768x4 main_c_1
  let main_v20 : IVec S32768x4 1 := cmpi .slt main_v1 main_v19
  fn_part1 (F := F) main_v3 main_v6 main_v13 main_v14 main_v16 main_v18 main_v20
-- ==== Kernel.lean ====
abbrev S32768x128 : Shape := ⟨2, ![32768, 128]⟩
abbrev S8x128 : Shape := ⟨2, ![8, 128]⟩
abbrev S32768x512 : Shape := ⟨2, ![32768, 512]⟩
abbrev S1x128 : Shape := ⟨2, ![1, 128]⟩
abbrev S128 : Shape := ⟨1, ![128]⟩
abbrev S32 : Shape := ⟨1, ![32]⟩
abbrev S_ : Shape := ⟨0, ![]⟩
abbrev S32768x4 : Shape := ⟨2, ![32768, 4]⟩
abbrev S32768x4x1 : Shape := ⟨3, ![32768, 4, 1]⟩
abbrev S131072 : Shape := ⟨1, ![131072]⟩
abbrev S147456x512 : Shape := ⟨2, ![147456, 512]⟩
abbrev S2048 : Shape := ⟨1, ![2048]⟩
abbrev S512x512 : Shape := ⟨2, ![512, 512]⟩
abbrev S1 : Shape := ⟨1, ![1]⟩
abbrev S1x512 : Shape := ⟨2, ![1, 512]⟩

abbrev nBuf : Space → Nat
  | .hbm => 55
  | .vmem => 2
  | .smem => 2
  | _ => 0

abbrev bufTy : (tb : Table) → Fin (tcTables nBuf tb) → BufTy
  | .hbm, ⟨0, _⟩ => ⟨S32768x128, .f32⟩
  | .hbm, ⟨1, _⟩ => ⟨S8x128, .f32⟩
  | .hbm, ⟨2, _⟩ => ⟨S32768x512, .i32⟩
  | .hbm, ⟨3, _⟩ => ⟨S1x128, .f32⟩
  | .hbm, ⟨4, _⟩ => ⟨S128, .f32⟩
  | .hbm, ⟨5, _⟩ => ⟨S32, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S32768x4, .f32⟩
  | .hbm, ⟨39, _⟩ => ⟨S32768x4, .i32⟩
  | .hbm, ⟨40, _⟩ => ⟨S32768x4, .f32⟩
  | .hbm, ⟨41, _⟩ => ⟨S32768x4, .i32⟩
  | .hbm, ⟨42, _⟩ => ⟨S_, .i32⟩
  | .hbm, ⟨43, _⟩ => ⟨S32768x4, .i32⟩
  | .hbm, ⟨44, _⟩ => ⟨S32768x4, .i1⟩
  | .hbm, ⟨45, _⟩ => ⟨S_, .i32⟩
  | .hbm, ⟨46, _⟩ => ⟨S32768x4, .i32⟩
  | .hbm, ⟨47, _⟩ => ⟨S32768x4, .i32⟩
  | .hbm, ⟨48, _⟩ => ⟨S32768x4, .i32⟩
  | .hbm, ⟨49, _⟩ => ⟨S32768x4x1, .i32⟩
  | .hbm, ⟨50, _⟩ => ⟨S32768x4, .i32⟩
  | .hbm, ⟨51, _⟩ => ⟨S32768x4, .i32⟩
  | .hbm, ⟨52, _⟩ => ⟨S131072, .i32⟩
  | .hbm, ⟨53, _⟩ => ⟨S_, .i32⟩
  | .hbm, ⟨54, _⟩ => ⟨S147456x512, .i32⟩
  | .local _ .vmem, ⟨0, _⟩ => ⟨S512x512, .i32⟩
  | .local _ .vmem, ⟨1, _⟩ => ⟨S512x512, .i32⟩
  | .local _ .smem, ⟨0, _⟩ => ⟨S2048, .i32⟩
  | .local _ .smem, ⟨1, _⟩ => ⟨S2048, .i32⟩
  | _, _ => ⟨S32768x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_c_2 : Ref sig .tc := ⟨.hbm, 31, rfl⟩
abbrev main_v9 : Ref sig .tc := ⟨.hbm, 32, rfl⟩
abbrev main_v10 : Ref sig .tc := ⟨.hbm, 33, rfl⟩
abbrev main_call1_call0_c : Ref sig .tc := ⟨.hbm, 34, rfl⟩
abbrev main_call1_call0_v0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_c_4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c0_i32_4 : BitVec 32 := 0#32
  let v3 : BitVec 32 := Scalar.addi v2 c0_i32_4
  let v4 : Index := Scalar.indexCast v3
  ![v4.toNat]
def k0_off2 (v5 : BitVec 32) : Fin 2 → Nat :=
  let c0_i32_5 : BitVec 32 := 0#32
  ![v5.toNat, 0]

def k0_chk1 (v5 : BitVec 32) : Prop :=
  (∀ a, (k0_off2 v5) a + S1x512.size a ≤ S147456x512.size a)
theorem k0_off2_inb : ∀ (v5 : BitVec 32) (k0_hw1 : k0_chk1 v5), ∀ a, (k0_off2 v5) a + S1x512.size a ≤ S147456x512.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_6 : BitVec 32 := 0#32
  ![arg6.toNat, 0]
def k0_off4 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_7 : BitVec 32 := 4#32
  let v8 : BitVec 32 := Scalar.muli arg6 c4_i32_7
  let c1_i32_8 : BitVec 32 := 1#32
  let v9 : BitVec 32 := Scalar.addi v8 c1_i32_8
  let v10 : Index := Scalar.indexCast v9
  ![v10.toNat]
def k0_off5 (v11 : BitVec 32) : Fin 2 → Nat :=
  let c0_i32_9 : BitVec 32 := 0#32
  ![v11.toNat, 0]

def k0_chk2 (v11 : BitVec 32) : Prop :=
  (∀ a, (k0_off5 v11) a + S1x512.size a ≤ S147456x512.size a)
theorem k0_off5_inb : ∀ (v11 : BitVec 32) (k0_hw2 : k0_chk2 v11), ∀ a, (k0_off5 v11) a + S1x512.size a ≤ S147456x512.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_10 : BitVec 32 := 0#32
  ![arg6.toNat, 0]
def k0_off7 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_11 : BitVec 32 := 4#32
  let v14 : BitVec 32 := Scalar.muli arg6 c4_i32_11
  let c2_i32 : BitVec 32 := 2#32
  let v15 : BitVec 32 := Scalar.addi v14 c2_i32
  let v16 : Index := Scalar.indexCast v15
  ![v16.toNat]
def k0_off8 (v17 : BitVec 32) : Fin 2 → Nat :=
  let c0_i32_12 : BitVec 32 := 0#32
  ![v17.toNat, 0]

def k0_chk3 (v17 : BitVec 32) : Prop :=
  (∀ a, (k0_off8 v17) a + S1x512.size a ≤ S147456x512.size a)
theorem k0_off8_inb : ∀ (v17 : BitVec 32) (k0_hw3 : k0_chk3 v17), ∀ a, (k0_off8 v17) a + S1x512.size a ≤ S147456x512.size a := fun v17 k0_hw3 => k0_hw3

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_13 : BitVec 32 := 0#32
  ![arg6.toNat, 0]
def k0_off10 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_14 : BitVec 32 := 4#32
  let v20 : BitVec 32 := Scalar.muli arg6 c4_i32_14
  let c3_i32 : BitVec 32 := 3#32
  let v21 : BitVec 32 := Scalar.addi v20 c3_i32
  let v22 : Index := Scalar.indexCast v21
  ![v22.toNat]
def k0_off11 (v23 : BitVec 32) : Fin 2 → Nat :=
  let c0_i32_15 : BitVec 32 := 0#32
  ![v23.toNat, 0]

def k0_chk4 (v23 : BitVec 32) : Prop :=
  (∀ a, (k0_off11 v23) a + S1x512.size a ≤ S147456x512.size a)
theorem k0_off11_inb : ∀ (v23 : BitVec 32) (k0_hw4 : k0_chk4 v23), ∀ a, (k0_off11 v23) a + S1x512.size a ≤ S147456x512.size a := fun v23 k0_hw4 => k0_hw4

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_16 : BitVec 32 := 0#32
  ![arg6.toNat, 0]
@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S32768x128 : Shape := ⟨2, ![32768, 128]⟩
abbrev S8x128 : Shape := ⟨2, ![8, 128]⟩
abbrev S32768x512 : Shape := ⟨2, ![32768, 512]⟩
abbrev S32768x4 : Shape := ⟨2, ![32768, 4]⟩
abbrev S131072 : Shape := ⟨1, ![131072]⟩
abbrev S_ : Shape := ⟨0, ![]⟩
abbrev S131072x1 : Shape := ⟨2, ![131072, 1]⟩
abbrev S32 : Shape := ⟨1, ![32]⟩
abbrev S147456 : Shape := ⟨1, ![147456]⟩
abbrev S1x512 : Shape := ⟨2, ![1, 512]⟩
abbrev S32769x512 : Shape := ⟨2, ![32769, 512]⟩
abbrev S147456x1 : Shape := ⟨2, ![147456, 1]⟩
abbrev S147456x512 : Shape := ⟨2, ![147456, 512]⟩

abbrev nBuf : Space → Nat
  | .hbm => 142
  | .vmem => 0
  | .smem => 0
  | _ => 0

abbrev hbmTy0_0 (i : Nat) : BufTy := match i % 128 with
  | 0 => ⟨S32768x128, .f32⟩
  | 1 => ⟨S8x128, .f32⟩
  | 2 => ⟨S32768x512, .i32⟩
  | 3 => ⟨S32768x4, .f32⟩
  | 4 => ⟨S32768x4, .i32⟩
  | 5 => ⟨S131072, .i32⟩
  | 6 => ⟨S131072, .i32⟩
  | 7 => ⟨S_, .i32⟩
  | 8 => ⟨S_, .i32⟩
  | 9 => ⟨S131072, .i32⟩
  | 10 => ⟨S131072, .i32⟩
  | 11 => ⟨S131072, .i32⟩
  | 12 => ⟨S_, .i32⟩
  | 13 => ⟨S131072, .i32⟩
  | 14 => ⟨S131072, .i1⟩
  | 15 => ⟨S131072, .i32⟩
  | 16 => ⟨S131072, .i32⟩
  | 17 => ⟨S_, .i32⟩
  | 18 => ⟨S131072, .i32⟩
  | 19 => ⟨S131072, .i1⟩
  | 20 => ⟨S131072, .i1⟩
  | 21 => ⟨S_, .i32⟩
  | 22 => ⟨S131072, .i32⟩
  | 23 => ⟨S131072, .i32⟩
  | 24 => ⟨S131072, .i32⟩
  | 25 => ⟨S131072, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S131072x1, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072, .i32⟩
  | 46 => ⟨S_, .i32⟩
  | 47 => ⟨S32, .i32⟩
  | 48 => ⟨S_, .i32⟩
  | 49 => ⟨S_, .i32⟩
  | 50 => ⟨S131072, .i32⟩
  | 51 => ⟨S131072, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S_, .i32⟩
  | 61 => ⟨S131072, .i32⟩
  | 62 => ⟨S32, .i32⟩
  | 63 => ⟨S_, .i32⟩
  | 64 => ⟨S32, .i32⟩
  | 65 => ⟨S32, .i32⟩
  | 66 => ⟨S_, .i32⟩
  | 67 => ⟨S32, .i32⟩
  | 68 => ⟨S32, .i32⟩
  | 69 => ⟨S_, .i32⟩
  | 70 => ⟨S_, .i32⟩
  | 71 => ⟨S32, .i32⟩
  | 72 => ⟨S32, .i32⟩
  | 73 => ⟨S32, .i32⟩
  | 74 => ⟨S_, .i32⟩
  | 75 => ⟨S32, .i32⟩
  | 76 => ⟨S32, .i1⟩
  | 77 => ⟨S32, .i32⟩
  | 78 => ⟨S32, .i32⟩
  | 79 => ⟨S_, .i32⟩
  | 80 => ⟨S32, .i32⟩
  | 81 => ⟨S32, .i1⟩
  | 82 => ⟨S32, .i1⟩
  | 83 => ⟨S_, .i32⟩
  | 84 => ⟨S32, .i32⟩
  | 85 => ⟨S32, .i32⟩
  | 86 => ⟨S32, .i32⟩
  | 87 => ⟨S_, .i32⟩
  | 88 => ⟨S32, .i32⟩
  | 89 => ⟨S32, .i32⟩
  | 90 => ⟨S_, .i32⟩
  | 91 => ⟨S_, .i32⟩
  | 92 => ⟨S32, .i32⟩
  | 93 => ⟨S32, .i32⟩
  | 94 => ⟨S_, .i32⟩
  | 95 => ⟨S_, .i32⟩
  | 96 => ⟨S32, .i32⟩
  | 97 => ⟨S32, .i32⟩
  | 98 => ⟨S_, .i32⟩
  | 99 => ⟨S131072, .i32⟩
  | 100 => ⟨S131072, .i1⟩
  | 101 => ⟨S_, .i32⟩
  | 102 => ⟨S131072, .i32⟩
  | 103 => ⟨S131072, .i32⟩
  | 104 => ⟨S131072, .i32⟩
  | 105 => ⟨S131072x1, .i32⟩
  | 106 => ⟨S131072, .i32⟩
  | 107 => ⟨S131072, .i32⟩
  | 108 => ⟨S_, .i32⟩
  | 109 => ⟨S131072, .i32⟩
  | 110 => ⟨S131072, .i1⟩
  | 111 => ⟨S_, .i32⟩
  | 112 => ⟨S131072, .i32⟩
  | 113 => ⟨S131072, .i32⟩
  | 114 => ⟨S131072, .i32⟩
  | 115 => ⟨S131072x1, .i32⟩
  | 116 => ⟨S131072, .i32⟩
  | 117 => ⟨S131072, .i32⟩
  | 118 => ⟨S131072, .i32⟩
  | 119 => ⟨S_, .i32⟩
  | 120 => ⟨S147456, .i32⟩
  | 121 => ⟨S_, .i32⟩
  | 122 => ⟨S131072, .i32⟩
  | 123 => ⟨S131072, .i1⟩
  | 124 => ⟨S_, .i32⟩
  | 125 => ⟨S131072, .i32⟩
  | 126 => ⟨S131072, .i32⟩
  | 127 => ⟨S131072, .i32⟩
  | _ => ⟨S32768x128, .f32⟩

abbrev hbmTy0_1 (i : Nat) : BufTy := match i % 128 with
  | 0 => ⟨S131072x1, .i32⟩
  | 1 => ⟨S147456, .i32⟩
  | 2 => ⟨S_, .i32⟩
  | 3 => ⟨S1x512, .i32⟩
  | 4 => ⟨S32769x512, .i32⟩
  | 5 => ⟨S_, .i32⟩
  | 6 => ⟨S147456, .i32⟩
  | 7 => ⟨S147456, .i1⟩
  | 8 => ⟨S_, .i32⟩
  | 9 => ⟨S147456, .i32⟩
  | 10 => ⟨S147456, .i32⟩
  | 11 => ⟨S147456, .i32⟩
  | 12 => ⟨S147456x1, .i32⟩
  | 13 => ⟨S147456x512, .i32⟩
  | _ => ⟨S32768x128, .f32⟩

abbrev hbmTy (i : Nat) : BufTy := match i / 128 with
  | 0 => hbmTy0_0 i
  | 1 => hbmTy0_1 i
  | _ => ⟨S32768x128, .f32⟩

abbrev bufTy : (tb : Table) → Fin (tcTables nBuf tb) → BufTy
  | .hbm, ⟨i, _⟩ => hbmTy i
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v4 : Ref sig .tc := ⟨.hbm, 24, rfl⟩
abbrev main_call1_v0 : Ref sig .tc := ⟨.hbm, 25, rfl⟩
abbrev main_call1_v1_0 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_c_2 : Ref sig .tc := ⟨.hbm, 37, rfl⟩
abbrev main_v13 : Ref sig .tc := ⟨.hbm, 38, rfl⟩
abbrev main_v14 : Ref sig .tc := ⟨.hbm, 39, rfl⟩
abbrev main_c_3 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_c_5 : Ref sig .tc := ⟨.hbm, 48, rfl⟩
abbrev main_call2_v0 : Ref sig .tc := ⟨.hbm, 49, rfl⟩
abbrev main_call2_v1 : Ref sig .tc := ⟨.hbm, 50, rfl⟩
abbrev main_v21 : Ref sig .tc := ⟨.hbm, 51, rfl⟩
abbrev main_c_6 : Ref sig .tc := ⟨.hbm, 52, rfl⟩
abbrev main_v22 : Ref sig .tc := ⟨.hbm, 53, rfl⟩
abbrev main_v23 : Ref sig .tc := ⟨.hbm, 54, rfl⟩
abbrev main_c_7 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_c_10 : Ref sig .tc := ⟨.hbm, 66, rfl⟩
abbrev main_v32 : Ref sig .tc := ⟨.hbm, 67, rfl⟩
abbrev main_v33 : Ref sig .tc := ⟨.hbm, 68, rfl⟩
abbrev main_c_11 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_c : Ref sig .tc := ⟨.hbm, 79, rfl⟩
abbrev main_call3_v9 : Ref sig .tc := ⟨.hbm, 80, rfl⟩
abbrev main_call3_v10 : Ref sig .tc := ⟨.hbm, 81, rfl⟩
abbrev main_call3_v11 : Ref sig .tc := ⟨.hbm, 82, rfl⟩
abbrev main_call3_c_0 : Ref sig .tc := ⟨.hbm, 83, rfl⟩
abbrev main_call3_v12 : Ref sig .tc := ⟨.hbm, 84, rfl⟩
abbrev main_call3_v13 : Ref sig .tc := ⟨.hbm, 85, rfl⟩
abbrev main_v34 : Ref sig .tc := ⟨.hbm, 86, rfl⟩
abbrev main_c_12 : Ref sig .tc := ⟨.hbm, 87, rfl⟩
abbrev main_v35 : Ref sig .tc := ⟨.hbm, 88, rfl⟩
abbrev main_v36 : Ref sig .tc := ⟨.hbm, 89, rfl⟩
abbrev main_call4_call0_c : Ref sig .tc := ⟨.hbm, 90, rfl⟩
abbrev main_call4_call0_v0 : Ref sig .tc := ⟨.hbm, 91, rfl⟩
abbrev main_v37 : Ref sig .tc := ⟨.hbm, 92, rfl⟩
abbrev main_v38 : Ref sig .tc := ⟨.hbm, 93, rfl⟩
abbrev main_call5_call0_c : Ref sig .tc := ⟨.hbm, 94, rfl⟩
abbrev main_call5_call0_v0 : Ref sig .tc := ⟨.hbm, 95, rfl⟩
abbrev main_v39 : Ref sig .tc := ⟨.hbm, 96, rfl⟩
abbrev main_v40 : Ref sig .tc := ⟨.hbm, 97, rfl⟩
abbrev main_c_13 : Ref sig .tc := ⟨.hbm, 98, rfl⟩
abbrev main_v41 : Ref sig .tc := ⟨.hbm, 99, rfl⟩
abbrev main_v42 : Ref sig .tc := ⟨.hbm, 100, rfl⟩
abbrev main_c_14 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_c_15 : Ref sig .tc := ⟨.hbm, 108, rfl⟩
abbrev main_v49 : Ref sig .tc := ⟨.hbm, 109, rfl⟩
abbrev main_v50 : Ref sig .tc := ⟨.hbm, 110, rfl⟩
abbrev main_c_16 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_c_17 : Ref sig .tc := ⟨.hbm, 119, rfl⟩
abbrev main_v58 : Ref sig .tc := ⟨.hbm, 120, rfl⟩
abbrev main_c_18 : Ref sig .tc := ⟨.hbm, 121, rfl⟩
abbrev main_v59 : Ref sig .tc := ⟨.hbm, 122, rfl⟩
abbrev main_v60 : Ref sig .tc := ⟨.hbm, 123, rfl⟩
abbrev main_c_19 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_20 : Ref sig .tc := ⟨.hbm, 130, rfl⟩
abbrev main_v66 : Ref sig .tc := ⟨.hbm, 131, rfl⟩
abbrev main_v67 : Ref sig .tc := ⟨.hbm, 132, rfl⟩
abbrev main_c_21 : Ref sig .tc := ⟨.hbm, 133, rfl⟩
abbrev main_v68 : Ref sig .tc := ⟨.hbm, 134, rfl⟩
abbrev main_v69 : Ref sig .tc := ⟨.hbm, 135, rfl⟩
abbrev main_c_22 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S147456x512 : Shape := ⟨2, ![147456, 512]⟩
abbrev S32x1024x1024 : Shape := ⟨3, ![32, 1024, 1024]⟩
abbrev S32x1024 : Shape := ⟨2, ![32, 1024]⟩
abbrev S147456 : Shape := ⟨1, ![147456]⟩
abbrev S_ : Shape := ⟨0, ![]⟩
abbrev S147456x1 : Shape := ⟨2, ![147456, 1]⟩
abbrev S147456x1024 : Shape := ⟨2, ![147456, 1024]⟩
abbrev S32x1x1024 : Shape := ⟨3, ![32, 1, 1024]⟩
abbrev S288x1 : Shape := ⟨2, ![288, 1]⟩
abbrev S512x512 : Shape := ⟨2, ![512, 512]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 37
  | .vmem => 19
  | .smem => 2
  | _ => 0

abbrev bufTy : (tb : Table) → Fin (tcTables nBuf tb) → BufTy
  | .hbm, ⟨0, _⟩ => ⟨S288, .i32⟩
  | .hbm, ⟨1, _⟩ => ⟨S147456x512, .i32⟩
  | .hbm, ⟨2, _⟩ => ⟨S32x1024x1024, .f32⟩
  | .hbm, ⟨3, _⟩ => ⟨S32x1024x1024, .f32⟩
  | .hbm, ⟨4, _⟩ => ⟨S32x1024x1024, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S147456, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S147456, .i32⟩
  | .hbm, ⟨13, _⟩ => ⟨S147456, .i1⟩
  | .hbm, ⟨14, _⟩ => ⟨S147456x1, .i1⟩
  | .hbm, ⟨15, _⟩ => ⟨S147456x1024, .i1⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S288, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S147456x1024, .bf16⟩
  | .hbm, ⟨34, _⟩ => ⟨S_, .bf16⟩
  | .hbm, ⟨35, _⟩ => ⟨S147456x1024, .bf16⟩
  | .hbm, ⟨36, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S288, .i32⟩
  | .local _ .smem, ⟨1, _⟩ => ⟨S1, .i32⟩
  | _, _ => ⟨S288, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v22 : Ref sig .tc := ⟨.hbm, 33, rfl⟩
abbrev main_cst : Ref sig .tc := ⟨.hbm, 34, rfl⟩
abbrev main_call0_v0 : Ref sig .tc := ⟨.hbm, 35, rfl⟩
abbrev main_v23 : Ref sig .tc := ⟨.hbm, 36, rfl⟩
abbrev main_v21 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v21.idx, main_arg1.idx], fun | 0 => main_v21.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v1 : BitVec 32 := Scalar.subi arg0 c1_i32
  let c0_i32 : BitVec 32 := 0#32
  let v2 : BitVec 32 := Scalar.maxsi v1 c0_i32
  let v3 : Index := Scalar.indexCast v2
  ![v3.toNat]
def k0_cond2 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_2 : BitVec 32 := 0#32
  let v16 : BitVec 1 := Scalar.cmpi .ne v15 c0_i32_2
  v16

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S288 : Shape := ⟨1, ![288]⟩
abbrev S1 : Shape := ⟨1, ![1]⟩
abbrev S147456x512 : Shape := ⟨2, ![147456, 512]⟩
abbrev S32x1024x1024 : Shape := ⟨3, ![32, 1024, 1024]⟩
abbrev S32x1024 : Shape := ⟨2, ![32, 1024]⟩
abbrev S_ : Shape := ⟨0, ![]⟩
abbrev S147456x1024 : Shape := ⟨2, ![147456, 1024]⟩
abbrev S288x512x1024 : Shape := ⟨3, ![288, 512, 1024]⟩
abbrev S288x1 : Shape := ⟨2, ![288, 1]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x512, .i32⟩
  | .hbm, ⟨3, _⟩ => ⟨S32x1024x1024, .f32⟩
  | .hbm, ⟨4, _⟩ => ⟨S32x1024x1024, .f32⟩
  | .hbm, ⟨5, _⟩ => ⟨S32x1024x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S_, .i32⟩
  | .hbm, ⟨10, _⟩ => ⟨S147456x512, .i32⟩
  | .hbm, ⟨11, _⟩ => ⟨S147456x512, .i32⟩
  | .hbm, ⟨12, _⟩ => ⟨S147456x512, .f32⟩
  | .hbm, ⟨13, _⟩ => ⟨S_, .i32⟩
  | .hbm, ⟨14, _⟩ => ⟨S147456x512, .i32⟩
  | .hbm, ⟨15, _⟩ => ⟨S147456x512, .i32⟩
  | .hbm, ⟨16, _⟩ => ⟨S147456x512, .f32⟩
  | .hbm, ⟨17, _⟩ => ⟨S147456x1024, .f32⟩
  | .hbm, ⟨18, _⟩ => ⟨S288x512x1024, .f32⟩
  | .hbm, ⟨19, _⟩ => ⟨S_, .i32⟩
  | .hbm, ⟨20, _⟩ => ⟨S288, .i32⟩
  | .hbm, ⟨21, _⟩ => ⟨S288, .i1⟩
  | .hbm, ⟨22, _⟩ => ⟨S_, .i32⟩
  | .hbm, ⟨23, _⟩ => ⟨S288, .i32⟩
  | .hbm, ⟨24, _⟩ => ⟨S288, .i32⟩
  | .hbm, ⟨25, _⟩ => ⟨S288, .i32⟩
  | .hbm, ⟨26, _⟩ => ⟨S288x1, .i32⟩
  | .hbm, ⟨27, _⟩ => ⟨S288x1024x1024, .f32⟩
  | .hbm, ⟨28, _⟩ => ⟨S288x512x1024, .f32⟩
  | .hbm, ⟨29, _⟩ => ⟨S_, .i32⟩
  | .hbm, ⟨30, _⟩ => ⟨S288, .i32⟩
  | .hbm, ⟨31, _⟩ => ⟨S288, .i1⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S288, .i32⟩
  | .hbm, ⟨36, _⟩ => ⟨S288x1, .i32⟩
  | .hbm, ⟨37, _⟩ => ⟨S288x1024, .f32⟩
  | .hbm, ⟨38, _⟩ => ⟨S288x1x1024, .f32⟩
  | .hbm, ⟨39, _⟩ => ⟨S288x512x1024, .f32⟩
  | .hbm, ⟨40, _⟩ => ⟨S288x512x1024, .f32⟩
  | .hbm, ⟨41, _⟩ => ⟨S_, .f32⟩
  | .hbm, ⟨42, _⟩ => ⟨S288x512x1024, .f32⟩
  | .hbm, ⟨43, _⟩ => ⟨S288x512x1024, .f32⟩
  | .hbm, ⟨44, _⟩ => ⟨S_, .i32⟩
  | .hbm, ⟨45, _⟩ => ⟨S288, .i32⟩
  | .hbm, ⟨46, _⟩ => ⟨S288, .i1⟩
  | .hbm, ⟨47, _⟩ => ⟨S_, .i32⟩
  | .hbm, ⟨48, _⟩ => ⟨S288, .i32⟩
  | .hbm, ⟨49, _⟩ => ⟨S288, .i32⟩
  | .hbm, ⟨50, _⟩ => ⟨S288, .i32⟩
  | .hbm, ⟨51, _⟩ => ⟨S288x1, .i32⟩
  | .hbm, ⟨52, _⟩ => ⟨S288x1024x1024, .f32⟩
  | .hbm, ⟨53, _⟩ => ⟨S288x512x1024, .f32⟩
  | .hbm, ⟨54, _⟩ => ⟨S_, .i32⟩
  | .hbm, ⟨55, _⟩ => ⟨S288, .i32⟩
  | .hbm, ⟨56, _⟩ => ⟨S288, .i1⟩
  | .hbm, ⟨57, _⟩ => ⟨S_, .i32⟩
  | .hbm, ⟨58, _⟩ => ⟨S288, .i32⟩
  | .hbm, ⟨59, _⟩ => ⟨S288, .i32⟩
  | .hbm, ⟨60, _⟩ => ⟨S288, .i32⟩
  | .hbm, ⟨61, _⟩ => ⟨S288x1, .i32⟩
  | .hbm, ⟨62, _⟩ => ⟨S288x1024, .f32⟩
  | .hbm, ⟨63, _⟩ => ⟨S288x1x1024, .f32⟩
  | .hbm, ⟨64, _⟩ => ⟨S288x512x1024, .f32⟩
  | .hbm, ⟨65, _⟩ => ⟨S288x512x1024, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S288x512x1024, .f32⟩
  | .hbm, ⟨70, _⟩ => ⟨S288x512x1024, .f32⟩
  | .hbm, ⟨71, _⟩ => ⟨S_, .f32⟩
  | .hbm, ⟨72, _⟩ => ⟨S288x512x1024, .f32⟩
  | .hbm, ⟨73, _⟩ => ⟨S288x512x1024, .f32⟩
  | .hbm, ⟨74, _⟩ => ⟨S_, .f32⟩
  | .hbm, ⟨75, _⟩ => ⟨S288x512x1024, .f32⟩
  | .hbm, ⟨76, _⟩ => ⟨S288x512x1024, .f32⟩
  | .hbm, ⟨77, _⟩ => ⟨S288x512x1024, .f32⟩
  | .hbm, ⟨78, _⟩ => ⟨S288x512x1024, .f32⟩
  | .hbm, ⟨79, _⟩ => ⟨S_, .f32⟩
  | .hbm, ⟨80, _⟩ => ⟨S288x512x1024, .f32⟩
  | .hbm, ⟨81, _⟩ => ⟨S288x512x1024, .f32⟩
  | .hbm, ⟨82, _⟩ => ⟨S_, .f32⟩
  | .hbm, ⟨83, _⟩ => ⟨S288x512x1024, .f32⟩
  | .hbm, ⟨84, _⟩ => ⟨S288x512x1024, .f32⟩
  | .hbm, ⟨85, _⟩ => ⟨S288x512x1024, .f32⟩
  | .hbm, ⟨86, _⟩ => ⟨S_, .f32⟩
  | .hbm, ⟨87, _⟩ => ⟨S288x512x1024, .f32⟩
  | .hbm, ⟨88, _⟩ => ⟨S288x512x1024, .f32⟩
  | .hbm, ⟨89, _⟩ => ⟨S288x512x1024, .f32⟩
  | .hbm, ⟨90, _⟩ => ⟨S_, .i32⟩
  | .hbm, ⟨91, _⟩ => ⟨S288, .i32⟩
  | .hbm, ⟨92, _⟩ => ⟨S288, .i1⟩
  | .hbm, ⟨93, _⟩ => ⟨S_, .i32⟩
  | .hbm, ⟨94, _⟩ => ⟨S288, .i32⟩
  | .hbm, ⟨95, _⟩ => ⟨S288, .i32⟩
  | .hbm, ⟨96, _⟩ => ⟨S288, .i32⟩
  | .hbm, ⟨97, _⟩ => ⟨S288x1, .i32⟩
  | .hbm, ⟨98, _⟩ => ⟨S288x1024x1024, .f32⟩
  | .hbm, ⟨99, _⟩ => ⟨S288x512x1024, .f32⟩
  | .hbm, ⟨100, _⟩ => ⟨S_, .i32⟩
  | .hbm, ⟨101, _⟩ => ⟨S288, .i32⟩
  | .hbm, ⟨102, _⟩ => ⟨S288, .i1⟩
  | .hbm, ⟨103, _⟩ => ⟨S_, .i32⟩
  | .hbm, ⟨104, _⟩ => ⟨S288, .i32⟩
  | .hbm, ⟨105, _⟩ => ⟨S288, .i32⟩
  | .hbm, ⟨106, _⟩ => ⟨S288, .i32⟩
  | .hbm, ⟨107, _⟩ => ⟨S288x1, .i32⟩
  | .hbm, ⟨108, _⟩ => ⟨S288x1024, .f32⟩
  | .hbm, ⟨109, _⟩ => ⟨S288x1x1024, .f32⟩
  | .hbm, ⟨110, _⟩ => ⟨S288x512x1024, .f32⟩
  | .hbm, ⟨111, _⟩ => ⟨S288x512x1024, .f32⟩
  | .hbm, ⟨112, _⟩ => ⟨S288, .i32⟩
  | .hbm, ⟨113, _⟩ => ⟨S_, .i32⟩
  | .hbm, ⟨114, _⟩ => ⟨S288, .i32⟩
  | .hbm, ⟨115, _⟩ => ⟨S288, .i1⟩
  | .hbm, ⟨116, _⟩ => ⟨S288x1x1, .i1⟩
  | .hbm, ⟨117, _⟩ => ⟨S_, .f32⟩
  | .hbm, ⟨118, _⟩ => ⟨S_, .f32⟩
  | .hbm, ⟨119, _⟩ => ⟨S288x512x1024, .i1⟩
  | .hbm, ⟨120, _⟩ => ⟨S288x512x1024, .f32⟩
  | .hbm, ⟨121, _⟩ => ⟨S288x512x1024, .f32⟩
  | .hbm, ⟨122, _⟩ => ⟨S147456x1024, .f32⟩
  | .hbm, ⟨123, _⟩ => ⟨S147456x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_cst_10 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_v46 : Ref sig .tc := ⟨.hbm, 73, rfl⟩
abbrev main_cst_11 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_12 : Ref sig .tc := ⟨.hbm, 79, rfl⟩
abbrev main_v51 : Ref sig .tc := ⟨.hbm, 80, rfl⟩
abbrev main_v52 : Ref sig .tc := ⟨.hbm, 81, rfl⟩
abbrev main_cst_13 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_c_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]
-- ==== Kernel3.lean ====
abbrev S131072 : Shape := ⟨1, ![131072]⟩
abbrev S32768x1024 : Shape := ⟨2, ![32768, 1024]⟩
abbrev S32768x128 : Shape := ⟨2, ![32768, 128]⟩
abbrev S1024 : Shape := ⟨1, ![1024]⟩
abbrev S147456x512 : Shape := ⟨2, ![147456, 512]⟩
abbrev S1x1024 : Shape := ⟨2, ![1, 1024]⟩
abbrev S256x1024 : Shape := ⟨2, ![256, 1024]⟩
abbrev S256x128 : Shape := ⟨2, ![256, 128]⟩
abbrev S4x256x512 : Shape := ⟨3, ![4, 256, 512]⟩
abbrev S_ : Shape := ⟨0, ![]⟩
abbrev S1 : Shape := ⟨1, ![1]⟩
abbrev S1x1x512 : Shape := ⟨3, ![1, 1, 512]⟩
abbrev S1x512 : Shape := ⟨2, ![1, 512]⟩
abbrev S256x1 : Shape := ⟨2, ![256, 1]⟩
abbrev S1x256x512 : Shape := ⟨3, ![1, 256, 512]⟩
abbrev S256x512 : Shape := ⟨2, ![256, 512]⟩
abbrev S256 : Shape := ⟨1, ![256]⟩

abbrev nBuf : Space → Nat
  | .hbm => 7
  | .vmem => 8
  | .smem => 2
  | _ => 0

abbrev bufTy : (tb : Table) → Fin (tcTables nBuf tb) → BufTy
  | .hbm, ⟨0, _⟩ => ⟨S131072, .i32⟩
  | .hbm, ⟨1, _⟩ => ⟨S32768x1024, .f32⟩
  | .hbm, ⟨2, _⟩ => ⟨S32768x128, .f32⟩
  | .hbm, ⟨3, _⟩ => ⟨S1024, .f32⟩
  | .hbm, ⟨4, _⟩ => ⟨S147456x512, .i32⟩
  | .hbm, ⟨5, _⟩ => ⟨S1x1024, .f32⟩
  | .hbm, ⟨6, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S4x256x512, .i32⟩
  | .local _ .smem, ⟨0, _⟩ => ⟨S1024, .i32⟩
  | .local _ .smem, ⟨1, _⟩ => ⟨S1024, .i32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32 : BitVec 32 := 4#32
  let v71 : BitVec 32 := Scalar.muli arg9 c4_i32
  let c0_i32_28 : BitVec 32 := 0#32
  let v72 : BitVec 32 := Scalar.addi v71 c0_i32_28
  let v73 : Index := Scalar.indexCast v72
  ![v73.toNat]
def k0_off2 (k0_t1 : Fin k0_t1_loop.trips) : Fin 3 → Nat :=
  let c0_i32_29 : BitVec 32 := 0#32
  let c0_i32 : BitVec 32 := 0#32
  let c1_i32 : BitVec 32 := 1#32
  let arg9 : BitVec 32 := Scf.iv c0_i32 c1_i32 k0_t1
  let c0_i32_30 : BitVec 32 := 0#32
  ![0, arg9.toNat, 0]
def k0_off3 (v74 : BitVec 32) : Fin 2 → Nat :=
  let c0_i32_31 : BitVec 32 := 0#32
  ![v74.toNat, 0]

def k0_chk1 (v74 : BitVec 32) : Prop :=
  (∀ a, (k0_off3 v74) a + S1x512.size a ≤ S147456x512.size a)
theorem k0_off3_inb : ∀ (v74 : BitVec 32) (k0_hw1 : k0_chk1 v74), ∀ a, (k0_off3 v74) a + S1x512.size a ≤ S147456x512.size a := fun v74 k0_hw1 => k0_hw1

def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_32 : BitVec 32 := 4#32
  let v78 : BitVec 32 := Scalar.muli arg9 c4_i32_32
  let c1_i32_33 : BitVec 32 := 1#32
  let v79 : BitVec 32 := Scalar.addi v78 c1_i32_33
  let v80 : Index := Scalar.indexCast v79
  ![v80.toNat]
def k0_off5 (k0_t1 : Fin k0_t1_loop.trips) : Fin 3 → Nat :=
  let c1_i32_34 : BitVec 32 := 1#32
  let c0_i32 : BitVec 32 := 0#32
  let c1_i32 : BitVec 32 := 1#32
  let arg9 : BitVec 32 := Scf.iv c0_i32 c1_i32 k0_t1
  let c0_i32_35 : BitVec 32 := 0#32
  ![1, arg9.toNat, 0]
def k0_off6 (v81 : BitVec 32) : Fin 2 → Nat :=
  let c0_i32_36 : BitVec 32 := 0#32
  ![v81.toNat, 0]

def k0_chk2 (v81 : BitVec 32) : Prop :=
  (∀ a, (k0_off6 v81) a + S1x512.size a ≤ S147456x512.size a)
theorem k0_off6_inb : ∀ (v81 : BitVec 32) (k0_hw2 : k0_chk2 v81), ∀ a, (k0_off6 v81) a + S1x512.size a ≤ S147456x512.size a := fun v81 k0_hw2 => k0_hw2

def k0_off7 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_37 : BitVec 32 := 4#32
  let v85 : BitVec 32 := Scalar.muli arg9 c4_i32_37
  let c2_i32 : BitVec 32 := 2#32
  let v86 : BitVec 32 := Scalar.addi v85 c2_i32
  let v87 : Index := Scalar.indexCast v86
  ![v87.toNat]
def k0_off8 (k0_t1 : Fin k0_t1_loop.trips) : Fin 3 → Nat :=
  let c2_i32_38 : BitVec 32 := 2#32
  let c0_i32 : BitVec 32 := 0#32
  let c1_i32 : BitVec 32 := 1#32
  let arg9 : BitVec 32 := Scf.iv c0_i32 c1_i32 k0_t1
  let c0_i32_39 : BitVec 32 := 0#32
  ![2, arg9.toNat, 0]
def k0_off9 (v88 : BitVec 32) : Fin 2 → Nat :=
  let c0_i32_40 : BitVec 32 := 0#32
  ![v88.toNat, 0]

def k0_chk3 (v88 : BitVec 32) : Prop :=
  (∀ a, (k0_off9 v88) a + S1x512.size a ≤ S147456x512.size a)
theorem k0_off9_inb : ∀ (v88 : BitVec 32) (k0_hw3 : k0_chk3 v88), ∀ a, (k0_off9 v88) a + S1x512.size a ≤ S147456x512.size a := fun v88 k0_hw3 => k0_hw3

def k0_off10 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_41 : BitVec 32 := 4#32
  let v92 : BitVec 32 := Scalar.muli arg9 c4_i32_41
  let c3_i32 : BitVec 32 := 3#32
  let v93 : BitVec 32 := Scalar.addi v92 c3_i32
  let v94 : Index := Scalar.indexCast v93
  ![v94.toNat]
def k0_off11 (k0_t1 : Fin k0_t1_loop.trips) : Fin 3 → Nat :=
  let c3_i32_42 : BitVec 32 := 3#32
  let c0_i32 : BitVec 32 := 0#32
  let c1_i32 : BitVec 32 := 1#32
  let arg9 : BitVec 32 := Scf.iv c0_i32 c1_i32 k0_t1
  let c0_i32_43 : BitVec 32 := 0#32
  ![3, arg9.toNat, 0]
def k0_off12 (v95 : BitVec 32) : Fin 2 → Nat :=
  let c0_i32_44 : BitVec 32 := 0#32
  ![v95.toNat, 0]

def k0_chk4 (v95 : BitVec 32) : Prop :=
  (∀ a, (k0_off12 v95) a + S1x512.size a ≤ S147456x512.size a)
theorem k0_off12_inb : ∀ (v95 : BitVec 32) (k0_hw4 : k0_chk4 v95), ∀ a, (k0_off12 v95) a + S1x512.size a ≤ S147456x512.size a := fun v95 k0_hw4 => k0_hw4

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S131072 : Shape := ⟨1, ![131072]⟩
abbrev S32768x1024 : Shape := ⟨2, ![32768, 1024]⟩
abbrev S32768x128 : Shape := ⟨2, ![32768, 128]⟩
abbrev S1024 : Shape := ⟨1, ![1024]⟩
abbrev S147456x512 : Shape := ⟨2, ![147456, 512]⟩
abbrev S32768x4 : Shape := ⟨2, ![32768, 4]⟩
abbrev S_ : Shape := ⟨0, ![]⟩
abbrev S147456x1024 : Shape := ⟨2, ![147456, 1024]⟩
abbrev S131072x1 : Shape := ⟨2, ![131072, 1]⟩
abbrev S131072x1024 : Shape := ⟨2, ![131072, 1024]⟩
abbrev S32768x4x1024 : Shape := ⟨3, ![32768, 4, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S131072, .i32⟩
  | .hbm, ⟨1, _⟩ => ⟨S32768x1024, .f32⟩
  | .hbm, ⟨2, _⟩ => ⟨S32768x128, .f32⟩
  | .hbm, ⟨3, _⟩ => ⟨S1024, .f32⟩
  | .hbm, ⟨4, _⟩ => ⟨S147456x512, .i32⟩
  | .hbm, ⟨5, _⟩ => ⟨S32768x4, .f32⟩
  | .hbm, ⟨6, _⟩ => ⟨S131072, .f32⟩
  | .hbm, ⟨7, _⟩ => ⟨S_, .i32⟩
  | .hbm, ⟨8, _⟩ => ⟨S147456x512, .i32⟩
  | .hbm, ⟨9, _⟩ => ⟨S147456x512, .i32⟩
  | .hbm, ⟨10, _⟩ => ⟨S147456x512, .f32⟩
  | .hbm, ⟨11, _⟩ => ⟨S_, .i32⟩
  | .hbm, ⟨12, _⟩ => ⟨S147456x512, .i32⟩
  | .hbm, ⟨13, _⟩ => ⟨S147456x512, .i32⟩
  | .hbm, ⟨14, _⟩ => ⟨S147456x512, .f32⟩
  | .hbm, ⟨15, _⟩ => ⟨S147456x1024, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x1024, .f32⟩
  | .hbm, ⟨25, _⟩ => ⟨S131072x1, .f32⟩
  | .hbm, ⟨26, _⟩ => ⟨S131072x1024, .f32⟩
  | .hbm, ⟨27, _⟩ => ⟨S131072x1024, .f32⟩
  | .hbm, ⟨28, _⟩ => ⟨S32768x4x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S1x1024, .f32⟩
  | .hbm, ⟨46, _⟩ => ⟨S32768x1024, .f32⟩
  | .hbm, ⟨47, _⟩ => ⟨S32768x1024, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Proof.Body.lean ====
/-
  The dispatch's body at one grid point: 512 trips of four row copies each, all on one DMA cell, then 512 trips of
  four waits. The 2048 copies are one batch (`Transfers.Batch`): copy `t` takes row `t / 4` of the point's block to
  the output row the table names at `t`. The source is lent as one read token a copy, of which only the copy's row
  goes into its delivery; the output's rows are taken apart by the table and joined again after the last wait.
-/
module

public import proofs.«01_k».proof.Proof.Gen.Kernel.Loops
public import Idealize.ShloMosaic.Lib.Batch
public import Idealize.ShloMosaic.Lib.Ring
public import Idealize.ShloMosaic.Lib.Pointwise.Index
public import Idealize.ShloMosaic.Lib.Pipeline.Routed
public import Idealize.ShloMosaic.Lib.Tactic
public import Idealize.ShloMosaic.Lib.WordArith.Masks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-! ## Rows -/

theorem dRow_inb (r : Fin 147456) : ∀ a, (![r.val, 0] : Fin 2 → ℕ) a + S1x512.size a ≤ S147456x512.size a := by
  have h := r.isLt
  intro a; fin_cases a
  · show r.val + 1 ≤ 147456; omega
  · show 0 + 512 ≤ 512; omega

theorem sRow_inb (k : Fin 512) : ∀ a, (![k.val, 0] : Fin 2 → ℕ) a + S1x512.size a ≤ S512x512.size a := by
  have h := k.isLt
  intro a; fin_cases a
  · show k.val + 1 ≤ 512; omega
  · show 0 + 512 ≤ 512; omega

/-- Row `r` of the output. -/
def dRow (r : Fin 147456) : Memref sig .tc .hbm S1x512 .i32 :=
  (Memref.whole main_v26).slice (Rect.unit (s := S147456x512) ![r.val, 0] S1x512.size (dRow_inb r)) (fun _ => rfl)

/-- Row `k` of a block of packed rows. -/
def sRow (a2 : Memref sig .tc .vmem S512x512 .i32) (k : Fin 512) : Memref sig .tc .vmem S1x512 .i32 :=
  a2.slice (Rect.unit (s := S512x512) ![k.val, 0] S1x512.size (sRow_inb k)) (fun _ => rfl)

/-- The units one row's copy puts on its cell. -/
abbrev NN : ℕ := 64

theorem amount_row (r : Fin 147456) (sm : DmaSem sig) : (dRow r).view.amount (.dma sm) = NN := rfl

theorem mem_dRow (r : Fin 147456) (i : S147456x512.Idx) : i ∈ (dRow r).view.set ↔ i 0 = r := by
  unfold dRow
  rw [show ((Memref.whole main_v26).slice (Rect.unit (s := S147456x512) ![r.val, 0] S1x512.size (dRow_inb r)) (fun _ => rfl)).view.set
    = (Rect.unit (s := S147456x512) ![r.val, 0] S1x512.size (dRow_inb r)).set from View.set_slice_whole _ _]
  rw [Rect.mem_set_unit]
  constructor
  · intro h
    have h0 := h 0
    apply Fin.ext
    have h1 : r.val ≤ (i 0).val ∧ (i 0).val < r.val + 1 := h0
    omega
  · intro h a
    have h' : (i 0).val = r.val := by rw [h]
    fin_cases a
    · show r.val ≤ (i 0).val ∧ (i 0).val < r.val + 1; omega
    · have := (i 1).isLt
      show 0 ≤ (i 1).val ∧ (i 1).val < 0 + 512
      exact ⟨Nat.zero_le _, by rw [Nat.zero_add]; exact this⟩

/-- What the batch is stated over at a point: the row block's and the output's contents, the rows the table names, the
    output's contents afterwards. -/
structure Pt (c : Dev nD) where
  a1 : Memref sig .tc .smem S2048 .i32
  a2 : Memref sig .tc .vmem S512x512 .i32
  f1 : Buf (Elt F) (a1.view.loc (c : Thread nD τ))
  f2 : Buf (Elt F) (a2.view.loc (c : Thread nD τ))
  fo : Buf (Elt F) ((Memref.whole main_v26).view.loc (c : Thread nD τ))
  g : Buf (Elt F) ((Memref.whole main_v26).view.loc (c : Thread nD τ))
  ds : Fin 2048 → Fin 147456
  inj : Function.Injective ds
  tab : ∀ t : Fin 2048, (a1.view.read (Elt F) f1 (ix1 t) : BitVec 32).toNat = (ds t).val
  hit : ∀ (t : Fin 2048) (col : Fin 512), (g : S147456x512.Idx → Elt F .i32) (ix2 (ds t) col)
    = a2.view.read (Elt F) f2 (ix2 (⟨t.val / 4, by omega⟩ : Fin 512) col)
  off : ∀ i : S147456x512.Idx, (∀ t, ds t ≠ i 0) → (g : S147456x512.Idx → Elt F .i32) i = (fo : S147456x512.Idx → Elt F .i32) i

section
variable {c : Dev nD} (P : Pt (F := F) c)

def q4 (t : Fin 2048) : Fin 512 := ⟨t.val / 4, by omega⟩

/-- The output's contents, read as the contents of the buffer row `r` lies in, -/
def dBuf (r : Fin 147456) (f : Buf (Elt F) ((Memref.whole main_v26).view.loc (c : Thread nD τ))) : Buf (Elt F) ((dRow r).view.loc (c : Thread nD τ)) := f
/-- and the block's. -/
def sBuf (a2 : Memref sig .tc .vmem S512x512 .i32) (k : Fin 512) (f : Buf (Elt F) (a2.view.loc (c : Thread nD τ))) :
    Buf (Elt F) ((sRow a2 k).view.loc (c : Thread nD τ)) := f

/-- Copy `t`'s row of the output, before and after. -/
def dPt (t : Fin 2048) (f : Buf (Elt F) ((Memref.whole main_v26).view.loc (c : Thread nD τ))) : sProp 𝕄 :=
  ((dRow (P.ds t)).view.loc (c : Thread nD τ)) ↦[(dRow (P.ds t)).view.set]{fullShare} dBuf (P.ds t) f
/-- Copy `t`'s row of the block, at the copy's own token. -/
def sPt (t : Fin 2048) : sProp 𝕄 :=
  ((sRow P.a2 (q4 t)).view.loc (c : Thread nD τ)) ↦[(sRow P.a2 (q4 t)).view.set]{Transfers.shareTokN fullShare t.val} sBuf P.a2 (q4 t) P.f2
/-- What copy `t` takes. -/
def give (t : Fin 2048) : sProp 𝕄 := iprop(dPt P t P.fo ∗ sPt P t)
/-- What copy `t` delivers. -/
def back (t : Fin 2048) : sProp 𝕄 := iprop(dPt P t P.g ∗ sPt P t)

instance (t : Fin 2048) : Storable (upEmb : UEmb _ 𝕄) (back P t) := by
  unfold back dPt sPt; infer_instance

/-- The batch with `j` copies issued and `u` units consumed. -/
abbrev batch (j u : ℕ) : sProp 𝕄 :=
  Transfers.Batch (countersEmb (U := Pipeline.UC sig nD τ)) (c : Thread nD τ) (.dma (4 : DmaSem sig)) () NN (back P) j u

theorem sRow_read (a2 : Memref sig .tc .vmem S512x512 .i32) (f2 : Buf (Elt F) (a2.view.loc (c : Thread nD τ))) (k : Fin 512) (x : S1x512.Idx) :
    (sRow a2 k).view.read (Elt F) (sBuf a2 k f2) x = a2.view.read (Elt F) f2 (ix2 k (x 1 : Fin 512)) := by
  have e : (Rect.unit (s := S512x512) ![k.val, 0] S1x512.size (sRow_inb k)).emb x = (ix2 k (x 1 : Fin 512) : S512x512.Idx) := by
    have h0 : (x 0).val = 0 := by have := (x 0).isLt; have : (x 0).val < 1 := this; omega
    funext a; apply Fin.ext; rw [Rect.emb_apply]
    fin_cases a
    · show k.val + 1 * (x 0).val = k.val; omega
    · show 0 + 1 * (x 1).val = (x 1).val; omega
  have h : (sRow a2 k).view.read (Elt F) (sBuf a2 k f2) x
    = a2.view.read (Elt F) f2 ((Rect.unit (s := S512x512) ![k.val, 0] S1x512.size (sRow_inb k)).emb x) := rfl
  exact h.trans (congrArg _ e)

theorem dRow_emb (r : Fin 147456) (x : S1x512.Idx) : (dRow r).view.emb x = (ix2 r (x 1 : Fin 512) : S147456x512.Idx) := by
  have h0 : (x 0).val = 0 := by have := (x 0).isLt; have : (x 0).val < 1 := this; omega
  have e : (Rect.unit (s := S147456x512) ![r.val, 0] S1x512.size (dRow_inb r)).emb x = (ix2 r (x 1 : Fin 512) : S147456x512.Idx) := by
    funext a; apply Fin.ext; rw [Rect.emb_apply]
    fin_cases a
    · show r.val + 1 * (x 0).val = r.val; omega
    · show 0 + 1 * (x 1).val = (x 1).val; omega
  exact e

theorem dRow_write (r : Fin 147456) (f : Buf (Elt F) ((Memref.whole main_v26).view.loc (c : Thread nD τ))) (w : S1x512.Idx → Elt F .i32) (x : S1x512.Idx) :
    (dRow r).view.write (Elt F) (dBuf (c := c) r f) w Finset.univ ((dRow r).view.emb x) = w x :=
  (View.write_emb_of_mem _ _ (Finset.mem_univ x)).trans rfl

/-- Copy `t`'s delivery: the row written is the row the point's final contents have there. -/
theorem delivers (t : Fin 2048) :
    iprop((((dRow (P.ds t)).view.loc (c : Thread nD τ)) ↦[(dRow (P.ds t)).view.set]{fullShare}
        ((dRow (P.ds t)).view.write (Elt F) (dBuf (P.ds t) P.fo) (ReadAs.same.apply ((sRow P.a2 (q4 t)).view.read (Elt F) (sBuf P.a2 (q4 t) P.f2))) Finset.univ))
      ∗ (((sRow P.a2 (q4 t)).view.loc (c : Thread nD τ)) ↦[(sRow P.a2 (q4 t)).view.set]{Transfers.shareTokN fullShare t.val} sBuf P.a2 (q4 t) P.f2))
      ⊢ (back P t : sProp 𝕄) := by
  unfold back dPt sPt
  refine Entails.of_eq ?_
  congr 1
  refine pointsTo_congr fun i hi => ?_
  obtain ⟨x, -, rfl⟩ := Finset.mem_map.mp hi
  refine (dRow_write _ _ _ x).trans ?_
  refine (sRow_read P.a2 P.f2 (q4 t) x).trans ?_
  refine (P.hit t (x 1 : Fin 512)).symm.trans ?_
  exact congrArg (P.g : S147456x512.Idx → Elt F .i32) (dRow_emb _ x).symm

/-- The batch's copy `t` issued at the head of a program. -/
theorem wp_issue {α : Type} {Q : α → sProp 𝕄} (t : ℕ) (ht : t < 2048)
    {src : Memref sig .tc .vmem S1x512 .i32} {dst : Memref sig .tc .hbm S1x512 .i32}
    (hs : src = sRow P.a2 (q4 ⟨t, ht⟩)) (hd : dst = dRow (P.ds ⟨t, ht⟩))
    {hsrc : src.view.WordExact} {hdst : dst.view.WordExact} {hsem : DmaTarget.Typed (nD := nD) (τ := τ) (p := (c : Thread nD τ).2) .vmem (.dma (4 : DmaSem sig)) (.here dst)}
    {k : PUnit → Prog (TpuEff nD τ sig (Elt F) Λ₀ .tc) α} :
    iprop(bigSep (Transfers.pending t) (give P) ∗ batch P t 0)
      ⊢ iprop((iprop(bigSep (Transfers.pending (t + 1)) (give P) ∗ batch P (t + 1) 0) -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma (4 : DmaSem sig)) hsrc hdst hsem) k) Q) := by
  subst hs; subst hd
  iintro ⟨Hp, HB⟩ Hk
  ihave Hp' := (show bigSep (Transfers.pending t) (give P)
      ⊢ iprop((((dRow (P.ds ⟨t, ht⟩)).view.loc (c : Thread nD τ)) ↦[(dRow (P.ds ⟨t, ht⟩)).view.set]{fullShare} dBuf (P.ds ⟨t, ht⟩) P.fo)
        ∗ (((sRow P.a2 (q4 ⟨t, ht⟩)).view.loc (c : Thread nD τ)) ↦[(sRow P.a2 (q4 ⟨t, ht⟩)).view.set]{Transfers.shareTokN fullShare t} sBuf P.a2 (q4 ⟨t, ht⟩) P.f2)
        ∗ bigSep (Transfers.pending (t + 1)) (give P))
    from (Entails.of_eq (show bigSep (Transfers.pending t) (give P) = iprop(give P ⟨t, ht⟩ ∗ bigSep (Transfers.pending (t + 1)) (give P)) by
        rw [Transfers.pending_succ ht]; exact bigSep_insert (Transfers.not_mem_pending_succ ht))).trans sep_assoc.1) $$ Hp
  icases Hp' with ⟨Hd, Hs, Hr⟩
  iapply (Transfers.wp_dmaBatch (countersEmb (U := Pipeline.UC sig nD τ)) Variants.none (c : Thread nD τ) none (src := sRow P.a2 (q4 ⟨t, ht⟩))
    (dst := dRow (P.ds ⟨t, ht⟩)) () NN rfl subset_rfl (D := back P) (j := t) (u := 0) ht (Nat.zero_le _) (delivers P ⟨t, ht⟩)) $$ [Hs Hd HB]
  · isplitl [Hs]; · iexact Hs
    isplitl [Hd]; · iexact Hd
    iexact HB
  iintro HB
  iapply Hk
  isplitl [Hr]; · iexact Hr
  iexact HB

theorem bind_ret_unit {E : Type → Type} {α β : Type} (a : α) (k : α → Prog E β) : (Prog.ret a).bind k = k a := rfl

/-- The point's table, as the run holds it. -/
def tabPt : sProp 𝕄 := (P.a1.view.loc (c : Thread nD τ)) ↦[P.a1.view.set]{fullShare} P.f1

/-- The table's word `t` read at the head of a program. -/
theorem wp_word {α : Type} {Q : α → sProp 𝕄} (t : Fin 2048) (off : Fin 1 → ℕ) (ho : off = ![t.val]) (inb : ∀ a, off a + S1.size a ≤ S2048.size a)
    {k : Elt F .i32 → Prog (TpuEff nD τ sig (Elt F) Λ₀ .tc) α} :
    (tabPt P : sProp 𝕄)
      ⊢ iprop((tabPt P -∗ wp frame (wpE (defs₀ (F := F)) Variants.none (c : Thread nD τ) none) Set.univ (k (P.a1.view.read (Elt F) P.f1 (ix1 t))) Q)
          -∗ wp frame (wpE (defs₀ (F := F)) Variants.none (c : Thread nD τ) none) Set.univ ((smemLoad P.a1 (Rect.unit (s := S2048) off S1.size inb) numel1_S1 rfl).bind k) Q) := by
  subst ho
  unfold tabPt
  have h := wp_smemLoadElt (Ix := Unit) (Name := ℕ) (U := Pipeline.UC sig nD τ) (Lvl := ℕ) (defs := defs₀ (F := F)) Variants.none (c : Thread nD τ) none Set.univ (Γ := ∅) (Q := Q)
    (m := P.a1) (r := Rect.unit (s := S2048) ![t.val] S1.size inb) (hw := View.loads_smem_one rfl numel1_S1)
    (x := Shape.Idx.first (numel1_S1.symm ▸ Nat.one_pos)) (k := k) (S := P.a1.view.set) (q := fullShare) (f := P.f1) (View.set_slice_subset _ _)
  have e : (P.a1.access (Rect.unit (s := S2048) ![t.val] S1.size inb)).read (Elt F) P.f1 (Shape.Idx.first (numel1_S1.symm ▸ Nat.one_pos))
      = P.a1.view.read (Elt F) P.f1 (ix1 t) := by
    have e' : (Rect.unit (s := S2048) ![t.val] S1.size inb).emb (Shape.Idx.first (numel1_S1.symm ▸ Nat.one_pos)) = (ix1 t : S2048.Idx) := by
      funext a; apply Fin.ext; rw [Rect.emb_apply]
      fin_cases a
      show t.val + 1 * 0 = t.val; omega
    exact congrArg (P.a1.view.read (Elt F) P.f1) e'
  rw [e] at h
  exact h

theorem chk_of (t : Fin 2048) : ∀ a, (![(P.a1.view.read (Elt F) P.f1 (ix1 t) : BitVec 32).toNat, 0] : Fin 2 → ℕ) a + S1x512.size a ≤ S147456x512.size a := by
  rw [P.tab t]; exact dRow_inb (P.ds t)

theorem iv_toNat (k : ℕ) (hk : k < 512) : (Scf.iv 0#32 1#32 k).toNat = k :=
  WordArith.toNat_iv_zero_one k (by omega)

theorem iv_mul (k j : ℕ) (hk : k < 512) (hj : j < 4) :
    (Scalar.addi (Scalar.muli (Scf.iv 0#32 1#32 k) 4#32) (BitVec.ofNat 32 j)).toNat = 4 * k + j := by
  have h := iv_toNat k hk
  show (Scf.iv 0#32 1#32 k * 4#32 + BitVec.ofNat 32 j).toNat = 4 * k + j
  rw [BitVec.toNat_add, BitVec.toNat_mul, h, BitVec.toNat_ofNat]
  show (k * 4 % 2 ^ 32 + j % 2 ^ 32) % 2 ^ 32 = 4 * k + j
  omega

theorem row_eq (t : Fin 2048) (off : Fin 2 → ℕ) (ho : off = ![(P.a1.view.read (Elt F) P.f1 (ix1 t) : BitVec 32).toNat, 0])
    (inb : ∀ a, off a + S1x512.size a ≤ S147456x512.size a) (hs) :
    (Memref.whole main_v26).slice (Rect.unit (s := S147456x512) off S1x512.size inb) hs = dRow (P.ds t) := by
  unfold dRow
  exact Memref.slice_unit_congr _ (by rw [ho, P.tab t]) _ _ _ _

theorem src_eq (a2 : Memref sig .tc .vmem S512x512 .i32) (k : Fin 512) (off : Fin 2 → ℕ) (ho : off = ![k.val, 0])
    (inb : ∀ a, off a + S1x512.size a ≤ S512x512.size a) (hs) :
    a2.slice (Rect.unit (s := S512x512) off S1x512.size inb) hs = sRow a2 k := by
  unfold sRow
  exact Memref.slice_unit_congr _ ho _ _ _ _

/-- Before trip `k` of the issuing loop: the table, the copies from `4 k` on still to issue, the batch. -/
def issueAt (k : ℕ) (_ : Unit) : sProp 𝕄 :=
  iprop(tabPt P ∗ bigSep (Transfers.pending (4 * k)) (give P) ∗ batch P (4 * k) 0)

theorem issue_step (i : grid0.Coords) (h1 : P.a1.IsWhole) (h2 : P.a2.IsWhole) (h3 h4) (k : Fin k0_t1_loop.trips) (acc : Unit) :
    issueAt P k acc ⊢ wp frame (wpE (defs₀ (F := F)) Variants.none (c : Thread nD τ) none) Set.univ
      (k0_t1_body (F := F) i P.a1 h1 P.a2 h2 (Memref.whole main_v26) h3 (Memref.whole main_v26) h4 cc0_scratch0 k acc) (issueAt P (k.val + 1)) := by
  have hk : k.val < 512 := k.isLt
  unfold issueAt k0_t1_body
  iintro ⟨HT, Hp, HB⟩
  iapply (wp_word P ⟨4 * k.val, by omega⟩ (k0_off1 k) (by unfold k0_off1; exact congrArg (fun z => (![z] : Fin 1 → ℕ)) (iv_mul k 0 hk (by omega))) (k0_off1_inb k)) $$ HT
  iintro HT
  iapply (wp_assume Variants.none (c : Thread nD τ) none Set.univ (chk_of P _))
  iapply (wp_issue P (4 * k.val) (by omega)
    (src_eq P.a2 (q4 ⟨4 * k.val, by omega⟩) _ (by
      unfold k0_off3 q4
      exact congrArg (fun z => (![z, 0] : Fin 2 → ℕ)) ((iv_toNat k hk).trans (by show k.val = (4 * k.val) / 4; omega))) _ _)
    (row_eq P ⟨4 * k.val, by omega⟩ _ rfl _ _)) $$ [Hp HB]
  · isplitl [Hp] <;> iassumption
  iintro ⟨Hp, HB⟩
  iapply (wp_word P ⟨4 * k.val + 1, by omega⟩ (k0_off4 k) (by unfold k0_off4; exact congrArg (fun z => (![z] : Fin 1 → ℕ)) (iv_mul k 1 hk (by omega))) (k0_off4_inb k)) $$ HT
  iintro HT
  iapply (wp_assume Variants.none (c : Thread nD τ) none Set.univ (chk_of P _))
  iapply (wp_issue P (4 * k.val + 1) (by omega)
    (src_eq P.a2 (q4 ⟨4 * k.val + 1, by omega⟩) _ (by
      unfold k0_off6 q4
      exact congrArg (fun z => (![z, 0] : Fin 2 → ℕ)) ((iv_toNat k hk).trans (by show k.val = (4 * k.val + 1) / 4; omega))) _ _)
    (row_eq P ⟨4 * k.val + 1, by omega⟩ _ rfl _ _)) $$ [Hp HB]
  · isplitl [Hp] <;> iassumption
  iintro ⟨Hp, HB⟩
  iapply (wp_word P ⟨4 * k.val + 2, by omega⟩ (k0_off7 k) (by unfold k0_off7; exact congrArg (fun z => (![z] : Fin 1 → ℕ)) (iv_mul k 2 hk (by omega))) (k0_off7_inb k)) $$ HT
  iintro HT
  iapply (wp_assume Variants.none (c : Thread nD τ) none Set.univ (chk_of P _))
  iapply (wp_issue P (4 * k.val + 2) (by omega)
    (src_eq P.a2 (q4 ⟨4 * k.val + 2, by omega⟩) _ (by
      unfold k0_off9 q4
      exact congrArg (fun z => (![z, 0] : Fin 2 → ℕ)) ((iv_toNat k hk).trans (by show k.val = (4 * k.val + 2) / 4; omega))) _ _)
    (row_eq P ⟨4 * k.val + 2, by omega⟩ _ rfl _ _)) $$ [Hp HB]
  · isplitl [Hp] <;> iassumption
  iintro ⟨Hp, HB⟩
  iapply (wp_word P ⟨4 * k.val + 3, by omega⟩ (k0_off10 k) (by unfold k0_off10; exact congrArg (fun z => (![z] : Fin 1 → ℕ)) (iv_mul k 3 hk (by omega))) (k0_off10_inb k)) $$ HT
  iintro HT
  iapply (wp_assume Variants.none (c : Thread nD τ) none Set.univ (chk_of P _))
  iapply (wp_issue P (4 * k.val + 3) (by omega)
    (src_eq P.a2 (q4 ⟨4 * k.val + 3, by omega⟩) _ (by
      unfold k0_off12 q4
      exact congrArg (fun z => (![z, 0] : Fin 2 → ℕ)) ((iv_toNat k hk).trans (by show k.val = (4 * k.val + 3) / 4; omega))) _ _)
    (row_eq P ⟨4 * k.val + 3, by omega⟩ _ rfl _ _)) $$ [Hp HB]
  · isplitl [Hp] <;> iassumption
  iintro ⟨Hp, HB⟩
  simp only [bind_ret_unit]
  sl_step
  isplitl [HT]; · iexact HT
  isplitl [Hp]; · iexact Hp
  iexact HB

/-- Before trip `k` of the draining loop: until the last trip has run the batch with `4 k` copies' units consumed, after
    it the cell at zero and every delivery. -/
def drainAt (k : ℕ) (_ : Unit) : sProp 𝕄 :=
  iprop((∃ W, owes (c : Thread nD τ) 0 W)
    ∗ (if k < 512 then batch P 2048 (4 * k * NN)
       else iprop(semVal ((c : Thread nD τ), SemLoc.dma (4 : DmaSem sig)) 0 ∗ bigSep Finset.univ (back P))))

theorem wp_wait {α : Type} {Q : α → sProp 𝕄} (u : ℕ) (hu : u + NN < NN * 2048)
    {src : Memref sig .tc .vmem S1x512 .i32} {dst : Memref sig .tc .hbm S1x512 .i32} (hd : dst.view.dmaCredit = NN)
    {hsrc : src.view.WordExact} {hdst : dst.view.WordExact}
    {k : PUnit → Prog (TpuEff nD τ sig (Elt F) Λ₀ .tc) α} :
    iprop(batch P 2048 u ∗ ∃ W, owes (c : Thread nD τ) 0 W)
      ⊢ iprop((iprop(batch P 2048 (u + NN) ∗ ∃ W, owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ (.op (.waitDma2 (4 : DmaSem sig) src dst hsrc hdst) k) Q) := by
  iintro ⟨HB, ⟨%W, HO⟩⟩ Hk
  iapply (Transfers.wp_waitBatch (countersEmb (U := Pipeline.UC sig nD τ)) Variants.none (c : Thread nD τ) none (srcw := src) (dstw := dst) () (N := NN) hd hu) $$ [HB HO]
  · isplitl [HB] <;> iassumption
  iintro ⟨HB, HO⟩
  iapply Hk
  isplitl [HB]; · iexact HB
  iexists _; iexact HO

theorem wp_waitLast {α : Type} {Q : α → sProp 𝕄} (u : ℕ) (hu : u + NN = NN * 2048)
    {src : Memref sig .tc .vmem S1x512 .i32} {dst : Memref sig .tc .hbm S1x512 .i32} (hd : dst.view.dmaCredit = NN)
    {hsrc : src.view.WordExact} {hdst : dst.view.WordExact}
    {k : PUnit → Prog (TpuEff nD τ sig (Elt F) Λ₀ .tc) α} :
    iprop(batch P 2048 u ∗ ∃ W, owes (c : Thread nD τ) 0 W)
      ⊢ iprop((iprop(semVal ((c : Thread nD τ), SemLoc.dma (4 : DmaSem sig)) 0 ∗ bigSep Finset.univ (back P) ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ (.op (.waitDma2 (4 : DmaSem sig) src dst hsrc hdst) k) Q) := by
  iintro ⟨HB, ⟨%W, HO⟩⟩ Hk
  iapply (Transfers.wp_waitBatchLast (countersEmb (U := Pipeline.UC sig nD τ)) Variants.none (c : Thread nD τ) none (srcw := src) (dstw := dst) () (N := NN) hd (by decide) hu) $$ [HB HO]
  · isplitl [HB] <;> iassumption
  iintro ⟨HA, Hc, HO⟩
  iapply Hk
  isplitl [Hc]; · iexact Hc
  isplitl [HA]; · iexact HA
  iexists _; iexact HO

theorem drain_step (i : grid0.Coords) (h1 : P.a1.IsWhole) (h2 : P.a2.IsWhole) (h3 h4) (k : Fin k0_t2_loop.trips) (acc : Unit) :
    drainAt P k acc ⊢ wp frame (wpE (defs₀ (F := F)) Variants.none (c : Thread nD τ) none) Set.univ
      (k0_t2_body (F := F) i P.a1 h1 P.a2 h2 (Memref.whole main_v26) h3 (Memref.whole main_v26) h4 cc0_scratch0 k acc) (drainAt P (k.val + 1)) := by
  have hk : k.val < 512 := k.isLt
  unfold drainAt k0_t2_body
  simp only [if_pos hk]
  iintro ⟨HO, HB⟩
  iapply (wp_wait P (4 * k.val * NN) (by unfold NN; omega) rfl) $$ [HB HO]
  · isplitl [HB] <;> iassumption
  iintro ⟨HB, HO⟩
  iapply (wp_wait P (4 * k.val * NN + NN) (by unfold NN; omega) rfl) $$ [HB HO]
  · isplitl [HB] <;> iassumption
  iintro ⟨HB, HO⟩
  iapply (wp_wait P (4 * k.val * NN + NN + NN) (by unfold NN; omega) rfl) $$ [HB HO]
  · isplitl [HB] <;> iassumption
  iintro ⟨HB, HO⟩
  rcases Nat.lt_or_ge (k.val + 1) 512 with hl | hl
  · simp only [if_pos hl]
    iapply (wp_wait P (4 * k.val * NN + NN + NN + NN) (by unfold NN; omega) rfl) $$ [HB HO]
    · isplitl [HB] <;> iassumption
    iintro ⟨HB, HO⟩
    simp only [bind_ret_unit]
    sl_step
    isplitl [HO]; · iexact HO
    rw [show 4 * (k.val + 1) * NN = 4 * k.val * NN + NN + NN + NN + NN by unfold NN; omega]
    iexact HB
  · simp only [if_neg (Nat.not_lt.mpr hl)]
    iapply (wp_waitLast P (4 * k.val * NN + NN + NN + NN) (by unfold NN; omega) rfl) $$ [HB HO]
    · isplitl [HB] <;> iassumption
    iintro ⟨Hc, HA, HO⟩
    simp only [bind_ret_unit]
    sl_step
    isplitl [HO]; · iexact HO
    isplitl [Hc] <;> iassumption

/-! ## The rows taken apart and joined -/

/-- The block, whole. -/
def blkPt : sProp 𝕄 := (P.a2.view.loc (c : Thread nD τ)) ↦[P.a2.view.set]{fullShare} P.f2
/-- The output, whole. -/
def outPt (f : Buf (Elt F) ((Memref.whole main_v26).view.loc (c : Thread nD τ))) : sProp 𝕄 :=
  ((Memref.whole main_v26).view.loc (c : Thread nD τ)) ↦[Finset.univ]{fullShare} f

/-- Row `r`'s elements among the output's, -/
def dSet (r : Fin 147456) : Finset (Idx ((Memref.whole main_v26).view.loc (c : Thread nD τ))) := (dRow r).view.set
/-- and row `k`'s among the block's. -/
def sSet (k : Fin 512) : Finset (Idx (P.a2.view.loc (c : Thread nD τ))) := (sRow P.a2 k).view.set
theorem mem_dSet (r : Fin 147456) (i : Idx ((Memref.whole main_v26).view.loc (c : Thread nD τ))) : i ∈ dSet (c := c) r ↔ (i : S147456x512.Idx) 0 = r := mem_dRow r i

/-- The output rows the table names. -/
def named : Finset (Idx ((Memref.whole main_v26).view.loc (c : Thread nD τ))) :=
  (Finset.univ : Finset (Fin 2048)).biUnion fun t => dSet (P.ds t)

theorem mem_named (i : Idx ((Memref.whole main_v26).view.loc (c : Thread nD τ))) : i ∈ named P ↔ ∃ t, P.ds t = (i : S147456x512.Idx) 0 := by
  unfold named
  rw [Finset.mem_biUnion]
  constructor
  · rintro ⟨t, -, h⟩; exact ⟨t, ((mem_dSet _ _).mp h).symm⟩
  · rintro ⟨t, h⟩; exact ⟨t, Finset.mem_univ _, (mem_dSet _ _).mpr h.symm⟩

/-- What no copy takes of the block. -/
def blkRest : sProp 𝕄 := iprop(((P.a2.view.loc (c : Thread nD τ)) ↦[P.a2.view.set]{Transfers.shareDrop fullShare 2048} P.f2)
  ∗ bigSep Finset.univ (fun t : Fin 2048 => ((P.a2.view.loc (c : Thread nD τ)) ↦[P.a2.view.set \ sSet P (q4 t)]{Transfers.shareTokN fullShare t.val} P.f2 : sProp 𝕄)))

theorem swap3 (A B C : sProp 𝕄) : iprop(A ∗ B ∗ C) = iprop(B ∗ A ∗ C) :=
  Entails.antisymm
    (show iprop(A ∗ B ∗ C) ⊢ iprop(B ∗ A ∗ C) by
      iintro ⟨a, b, d⟩; isplitl [b]; · iexact b
      isplitl [a] <;> iassumption)
    (show iprop(B ∗ A ∗ C) ⊢ iprop(A ∗ B ∗ C) by
      iintro ⟨b, a, d⟩; isplitl [a]; · iexact a
      isplitl [b] <;> iassumption)

theorem blk_split : blkPt P = iprop(bigSep Finset.univ (sPt P) ∗ blkRest P) := by
  have h1 : blkPt P = iprop(((P.a2.view.loc (c : Thread nD τ)) ↦[P.a2.view.set]{Transfers.shareDrop fullShare 2048} P.f2)
      ∗ bigSep (Finset.range 2048) (fun t => ((P.a2.view.loc (c : Thread nD τ)) ↦[P.a2.view.set]{Transfers.shareTokN fullShare t} P.f2 : sProp 𝕄))) :=
    Entails.antisymm (Transfers.pointsTo_toks_range fullShare 2048).1 (Transfers.pointsTo_toks_range fullShare 2048).2
  have h2 : bigSep (Finset.range 2048) (fun t => ((P.a2.view.loc (c : Thread nD τ)) ↦[P.a2.view.set]{Transfers.shareTokN fullShare t} P.f2 : sProp 𝕄))
      = bigSep Finset.univ (fun t : Fin 2048 => ((P.a2.view.loc (c : Thread nD τ)) ↦[P.a2.view.set]{Transfers.shareTokN fullShare t.val} P.f2 : sProp 𝕄)) :=
    (Ring.bigSep_fin_eq_range 2048 _ _ fun t h => rfl).symm
  have h3 : bigSep Finset.univ (fun t : Fin 2048 => ((P.a2.view.loc (c : Thread nD τ)) ↦[P.a2.view.set]{Transfers.shareTokN fullShare t.val} P.f2 : sProp 𝕄))
      = bigSep Finset.univ (fun t : Fin 2048 => iprop(sPt P t ∗ ((P.a2.view.loc (c : Thread nD τ)) ↦[P.a2.view.set \ sSet P (q4 t)]{Transfers.shareTokN fullShare t.val} P.f2))) :=
    bigSep_congr fun t _ => by
      have h := pointsTo_split_subset (Ix := Unit) (Val := Elt F) (Name := ℕ) (U := Pipeline.UC sig nD τ) (Lvl := ℕ) (ℓ := P.a2.view.loc (c : Thread nD τ)) (q := Transfers.shareTokN fullShare t.val) (f := P.f2)
        (I := sSet P (q4 t)) (S := P.a2.view.set) (View.set_slice_subset _ _)
      exact Entails.antisymm h.1 h.2
  rw [h1, h2, h3, show bigSep Finset.univ (fun t : Fin 2048 => iprop(sPt P t ∗ ((P.a2.view.loc (c : Thread nD τ)) ↦[P.a2.view.set \ sSet P (q4 t)]{Transfers.shareTokN fullShare t.val} P.f2)))
      = iprop(bigSep Finset.univ (sPt P) ∗ bigSep Finset.univ (fun t : Fin 2048 => ((P.a2.view.loc (c : Thread nD τ)) ↦[P.a2.view.set \ sSet P (q4 t)]{Transfers.shareTokN fullShare t.val} P.f2 : sProp 𝕄)))
    from bigSep_sep _ _ _]
  unfold blkRest
  exact swap3 _ _ _

theorem out_split (f : Buf (Elt F) ((Memref.whole main_v26).view.loc (c : Thread nD τ))) :
    outPt (c := c) f = iprop(bigSep Finset.univ (fun t => dPt P t f)
      ∗ (((Memref.whole main_v26).view.loc (c : Thread nD τ)) ↦[Finset.univ \ named P]{fullShare} f)) := by
  have h := pointsTo_split_subset (Ix := Unit) (Val := Elt F) (Name := ℕ) (U := Pipeline.UC sig nD τ) (Lvl := ℕ) (ℓ := (Memref.whole main_v26).view.loc (c : Thread nD τ)) (q := fullShare) (f := f)
        (I := named P) (S := Finset.univ) (Finset.subset_univ _)
  have h' := Entails.antisymm h.1 h.2
  unfold outPt
  rw [h']
  have hU := pointsTo_biUnion (Ix := Unit) (Val := Elt F) (Name := ℕ) (U := Pipeline.UC sig nD τ) (Lvl := ℕ) (ℓ := (Memref.whole main_v26).view.loc (c : Thread nD τ)) (q := fullShare) (f := f)
    (Finset.univ : Finset (Fin 2048)) (fun t => dSet (P.ds t)) (by
      intro t _ t' _ hne
      rw [Finset.disjoint_left]
      intro i hi hi'
      exact hne (P.inj (((mem_dSet _ _).mp hi).symm.trans ((mem_dSet _ _).mp hi'))))
  unfold named
  rw [hU]
  rfl

attribute [irreducible] named

theorem off_named (i : Idx ((Memref.whole main_v26).view.loc (c : Thread nD τ))) (hi : i ∉ named P) : P.fo i = P.g i := by
  have hn := mem_named P i
  have h : ¬ ∃ t, P.ds t = (i : S147456x512.Idx) 0 := fun he => hi (hn.mpr he)
  clear hn hi
  exact (P.off i (not_exists.mp h)).symm

theorem rest_eq : (((Memref.whole main_v26).view.loc (c : Thread nD τ)) ↦[Finset.univ \ named P]{fullShare} P.fo : sProp 𝕄)
    = (((Memref.whole main_v26).view.loc (c : Thread nD τ)) ↦[Finset.univ \ named P]{fullShare} P.g) := by
  refine pointsTo_congr fun i hi => off_named P i ?_
  rw [Finset.mem_sdiff] at hi
  exact hi.2

/-- THE BODY at a point: from the table, the block and the output whole, the cell at zero, to the same with the output at
    the point's final contents. -/
theorem body_run (i : grid0.Coords) (h1 : P.a1.IsWhole) (h2 : P.a2.IsWhole) (h3 h4) (W : Waits sig Unit) :
    iprop(tabPt P ∗ blkPt P ∗ outPt P.fo ∗ semVal ((c : Thread nD τ), SemLoc.dma (4 : DmaSem sig)) 0 ∗ owes (c : Thread nD τ) 0 W)
      ⊢ wp frame (wpE (defs₀ (F := F)) Variants.none (c : Thread nD τ) none) Set.univ
        (cc0_moe_dispatch (F := F) i P.a1 h1 P.a2 h2 (Memref.whole main_v26) h3 (Memref.whole main_v26) h4 cc0_scratch0)
        (fun _ => iprop(tabPt P ∗ blkPt P ∗ outPt P.g ∗ semVal ((c : Thread nD τ), SemLoc.dma (4 : DmaSem sig)) 0 ∗ ∃ W, owes (c : Thread nD τ) 0 W)) := by
  rw [cc0_moe_dispatch_eq_skeleton]
  unfold cc0_moe_dispatch_skel
  iintro ⟨HT, HS, HD, Hc, HO⟩
  ihave HS' := (Entails.of_eq (blk_split P)) $$ HS
  icases HS' with ⟨HS, HSr⟩
  ihave HD' := (Entails.of_eq (out_split P P.fo)) $$ HD
  icases HD' with ⟨HD, HDr⟩
  ihave HG := (show iprop(bigSep Finset.univ (fun t => dPt P t P.fo) ∗ bigSep Finset.univ (sPt P)) ⊢ bigSep (Transfers.pending (4 * 0)) (give P) from
    Entails.of_eq (by rw [show 4 * 0 = 0 from rfl, Transfers.pending_zero]; exact (bigSep_sep _ _ _).symm)) $$ [HD HS]
  · isplitl [HD] <;> iassumption
  imod (Transfers.batch_alloc' (Lvl := ℕ) (countersEmb (U := Pipeline.UC sig nD τ)) (c : Thread nD τ) () NN (back P) (sm := .dma (4 : DmaSem sig)) (E := Set.univ)) $$ Hc with HB
  sl_for (issueAt P) $$ [HT HG HB]
  · intro k acc; exact issue_step P i h1 h2 h3 h4 k acc
  · unfold issueAt
    isplitl [HT]; · iexact HT
    isplitl [HG]; · iexact HG
    iexact HB
  iintro %acc HL
  ihave HL' := (show issueAt P k0_t1_loop.trips acc ⊢ iprop(tabPt P ∗ batch P 2048 0) from by
    unfold issueAt
    rw [show 4 * k0_t1_loop.trips = 2048 from by decide]
    iintro ⟨HT, -, HB⟩
    isplitl [HT] <;> iassumption) $$ HL
  icases HL' with ⟨HT, HB⟩
  sl_for (drainAt P) $$ [HB HO]
  · intro k acc; exact drain_step P i h1 h2 h3 h4 k acc
  · unfold drainAt
    rw [if_pos (by decide)]
    isplitl [HO]; · iexists _; iexact HO
    iexact HB
  iintro %acc2 HL
  ihave HL' := (show drainAt P k0_t2_loop.trips acc2 ⊢ iprop((∃ W, owes (c : Thread nD τ) 0 W) ∗ semVal ((c : Thread nD τ), SemLoc.dma (4 : DmaSem sig)) 0 ∗ bigSep Finset.univ (back P)) from by
    unfold drainAt
    rw [if_neg (by decide)]) $$ HL
  icases HL' with ⟨HO, Hc, HA⟩
  ihave HA' := (show bigSep Finset.univ (back P) ⊢ iprop(bigSep Finset.univ (fun t => dPt P t P.g) ∗ bigSep Finset.univ (sPt P)) from
    Entails.of_eq (bigSep_sep _ _ _)) $$ HA
  icases HA' with ⟨HD, HS⟩
  ihave HDr' := (Entails.of_eq (rest_eq P)) $$ HDr
  ihave HD' := (Entails.of_eq (out_split P P.g).symm) $$ [HD HDr']
  · isplitl [HD] <;> iassumption
  ihave HS' := (Entails.of_eq (blk_split P).symm) $$ [HS HSr]
  · isplitl [HS] <;> iassumption
  sl_step
  isplitl [HT]; · iexact HT
  isplitl [HS']; · iexact HS'
  isplitl [HD']; · iexact HD'
  isplitl [Hc]; · iexact Hc
  iexact HO

end

end Cert.Kernel.Hand
-- ==== Proof.Frame.lean ====
/-
  The dispatch's run. Every grid point runs `body_run` on its block of the destination table and its block of rows; the
  output, left in HBM, goes from point to point at what the rows scattered so far make of it (`outAt`). Parameter: the
  destinations as a function `dest`, injective, which the table `main_v25` holds as words when the region is entered.
-/
module

public import proofs.«01_k».proof.Proof.Body
public import proofs.«01_k».proof.Proof.Gen.Kernel.Frame
public import proofs.«01_k».proof.Proof.Gen.Kernel.Launch
public import proofs.«01_k».proof.Proof.Gen.Kernel.Points
public import Idealize.ShloMosaic.Lib.Pipeline.Routed
public import Idealize.ShloMosaic.Lib.Pipeline.FrameBody
public import Idealize.ShloMosaic.Lib.Pipeline.ValueKit.Point

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The scattered output -/

/-- The output after the first `n` rows of the routing are scattered over `z`: row `r` is the source row of the one
    assignment among them sent to `r`, if there is one. -/
def scat (dest : Fin 131072 → Fin 147456) (x : S32768x512.Idx → Elt F .i32) (z : S147456x512.Idx → Elt F .i32) (n : ℕ) :
    S147456x512.Idx → Elt F .i32 := fun i =>
  open Classical in
  if h : ∃ a : Fin 131072, a.val < n ∧ dest a = i 0 then x (ix2 (⟨h.choose.val / 4, by omega⟩ : Fin 32768) (i 1 : Fin 512)) else z i

section scat
variable {dest : Fin 131072 → Fin 147456} (hinj : Function.Injective dest) (x : S32768x512.Idx → Elt F .i32) (z : S147456x512.Idx → Elt F .i32)

theorem scat_hit (hinj : Function.Injective dest) (n : ℕ) (a : Fin 131072) (ha : a.val < n) (i : S147456x512.Idx) (hi : dest a = i 0) :
    scat dest x z n i = x (ix2 (⟨a.val / 4, by omega⟩ : Fin 32768) (i 1 : Fin 512)) := by
  have h : ∃ a : Fin 131072, a.val < n ∧ dest a = i 0 := ⟨a, ha, hi⟩
  unfold scat
  rw [dif_pos h]
  have e : h.choose = a := hinj (h.choose_spec.2.trans hi.symm)
  simp only [e]

theorem scat_miss (n : ℕ) (i : S147456x512.Idx) (hi : ∀ a : Fin 131072, a.val < n → dest a ≠ i 0) : scat dest x z n i = z i := by
  unfold scat
  rw [dif_neg (fun ⟨a, ha, h⟩ => hi a ha h)]

theorem scat_zero (i : S147456x512.Idx) : scat dest x z 0 i = z i := scat_miss x z 0 i fun a ha => absurd ha (Nat.not_lt_zero _)

theorem scat_step (hinj : Function.Injective dest) (n k : ℕ) (i : S147456x512.Idx) (hi : ∀ a : Fin 131072, n ≤ a.val → a.val < n + k → dest a ≠ i 0) :
    scat dest x z (n + k) i = scat dest x z n i := by
  by_cases h : ∃ a : Fin 131072, a.val < n ∧ dest a = i 0
  · obtain ⟨a, ha, hd⟩ := h
    rw [scat_hit x z hinj n a ha i hd, scat_hit x z hinj (n + k) a (by omega) i hd]
  · have h' : ∀ a : Fin 131072, a.val < n → dest a ≠ i 0 := fun a ha hd => h ⟨a, ha, hd⟩
    rw [scat_miss x z n i h', scat_miss x z (n + k) i fun a ha => by
      by_cases hn : a.val < n
      · exact h' a hn
      · exact hi a (by omega) ha]

end scat

/-! ## @main up to the region, at this algebra -/

set_option maxHeartbeats 800000 in
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The blocks -/

theorem idx : ∀ t : Fin cfg0.N, win0_0.index t = ![t.val] ∧ win0_1.index t = ![t.val, 0] :=
  (by decide +kernel : ∀ t : Fin grid0.N, _)

theorem point_lt (t : Fin cfg0.N) : t.val < 64 := by
  have h : t.val < grid0.N := t.isLt
  rw [N_0] at h; exact h

theorem iblk0_apply (c : Dev nD) (t : Fin cfg0.N) (j : Fin 2048) :
    (iblk m c 0 t : S2048.Idx → Elt F .i32) (ix1 j) = (V m c main_v25 : S131072.Idx → Elt F .i32) (ix1 (⟨2048 * t.val + j.val, by have := point_lt t; omega⟩ : Fin 131072)) := by
  blk_ext [iblk, idx t]

theorem iblk1_apply (c : Dev nD) (t : Fin cfg0.N) (k : Fin 512) (col : Fin 512) :
    (iblk m c 1 t : S512x512.Idx → Elt F .i32) (ix2 k col) = (V m c main_arg2 : S32768x512.Idx → Elt F .i32) (ix2 (⟨512 * t.val + k.val, by have := point_lt t; omega⟩ : Fin 32768) col) := by
  blk_ext [iblk, idx t]

/-! ## The proof data -/

section
variable (dest : Dev nD → Fin 131072 → Fin 147456)

theorem outPt_eq {c : Dev nD} (f : Buf (Elt F) ((Memref.whole main_v26).view.loc (c : Thread nD τ))) :
    outPt (c := c) f = iprop(((c : Thread nD τ).loc main_v26) ↦{fullShare} (f : Buf (Elt F) ((c : Thread nD τ).loc main_v26))) := rfl

/-- What `main` has put into the table and the output when the region is entered. -/
structure Entry : Prop where
  inj : ∀ c, Function.Injective (dest c)
  tab : ∀ (c : Dev nD) (a : Fin 131072), ((V m c main_v25 : S131072.Idx → Elt F .i32) (ix1 a) : BitVec 32).toNat = (dest c a).val

/-- The output after `p` points. -/
def outAt (c : Dev nD) (p : ℕ) : Buf (Elt F) ((c : Thread nD τ).loc main_v26) :=
  scat (dest c) (V m c main_arg2 : S32768x512.Idx → Elt F .i32) (V m c main_v26 : S147456x512.Idx → Elt F .i32) (2048 * p)

/-- The invariant between points: the output so far, the cell at zero, the pseudo-random register. -/
def inv (c : Dev nD) (p : ℕ) : sProp 𝕄 :=
  iprop(outPt (c := c) (outAt m dest c p) ∗ semVal ((c : Thread nD τ), SemLoc.dma (4 : DmaSem sig)) 0 ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ t := inv m dest c t.val
  q _ := fullShare
  owed _ := 0

theorem A_eq (c : Dev nD) (w : Fin cfg0.W) : (dats m dest 0 c).A w = V m c (Pipeline.arrRef spec0 w) := by
  dsimp only [dats]
theorem after0_0 (c : Dev nD) (t : Fin cfg0.N) : (dats m dest 0 c).after 0 t = iblk m c 0 t := by dsimp only [dats]
theorem after0_1 (c : Dev nD) (t : Fin cfg0.N) : (dats m dest 0 c).after 1 t = iblk m c 1 t := by dsimp only [dats]

theorem before0_0 (c : Dev nD) (t : Fin cfg0.N) (d) : (dats m dest 0 c).before 0 t d = iblk m c 0 t :=
  ((dats m dest 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m dest 0 c).before 1 t d = iblk m c 1 t :=
  ((dats m dest 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

abbrev ms0_0 (t : Fin cfg0.N) : Memref sig .tc .smem S2048 .i32 := win0_0.stage (cfg0.slots t 0)
abbrev ms0_1 (t : Fin cfg0.N) : Memref sig .tc .vmem S512x512 .i32 := win0_1.stage (cfg0.slots t 1)

/-- Point `t`'s `Pt`, from staging contents that read as its blocks. -/
def ptOf (E : Entry m dest) (c : Dev nD) (t : Fin cfg0.N) (f1 : Buf (Elt F) ((ms0_0 t).view.loc (c : Thread nD τ))) (f2 : Buf (Elt F) ((ms0_1 t).view.loc (c : Thread nD τ)))
    (h1 : (ms0_0 t).view.read (Elt F) f1 = iblk m c 0 t) (h2 : (ms0_1 t).view.read (Elt F) f2 = iblk m c 1 t) : Pt (F := F) c where
  a1 := ms0_0 t
  a2 := ms0_1 t
  f1 := f1
  f2 := f2
  fo := outAt m dest c t.val
  g := outAt m dest c (t.val + 1)
  ds j := dest c ⟨2048 * t.val + j.val, by have := point_lt t; omega⟩
  inj a b h := by
    have := E.inj c h
    apply Fin.ext
    have h' := congrArg Fin.val this
    simp only at h'
    omega
  tab j := by
    have h := (congrFun h1 (ix1 j)).trans (iblk0_apply m c t j)
    rw [h]
    exact E.tab c _
  hit j col := by
    have hp := point_lt t
    have h := (congrFun h2 (ix2 (⟨j.val / 4, by omega⟩ : Fin 512) col)).trans (iblk1_apply m c t _ col)
    refine Eq.trans ?_ h.symm
    refine (scat_hit _ _ (E.inj c) (2048 * (t.val + 1)) ⟨2048 * t.val + j.val, by omega⟩ (by show 2048 * t.val + j.val < _; omega) _ rfl).trans ?_
    congr 2
    apply Fin.ext
    show (2048 * t.val + j.val) / 4 = 512 * t.val + j.val / 4
    omega
  off i hi := by
    refine scat_step (dest := dest c) _ _ (E.inj c) (2048 * t.val) 2048 i fun a ha ha' hd => ?_
    refine hi ⟨a.val - 2048 * t.val, by omega⟩ (Eq.trans ?_ hd)
    congr 1
    apply Fin.ext
    show 2048 * t.val + (a.val - 2048 * t.val) = a.val
    omega

theorem tabPt_ptOf (E : Entry m dest) (c : Dev nD) (t : Fin cfg0.N) (f1) (f2) (h1) (h2) :
    tabPt (ptOf m dest E c t f1 f2 h1 h2) = iprop(((ms0_0 t).view.loc (c : Thread nD τ)) ↦[(ms0_0 t).view.set]{fullShare} f1) := rfl
theorem blkPt_ptOf (E : Entry m dest) (c : Dev nD) (t : Fin cfg0.N) (f1) (f2) (h1) (h2) :
    blkPt (ptOf m dest E c t f1 f2 h1 h2) = iprop(((ms0_1 t).view.loc (c : Thread nD τ)) ↦[(ms0_1 t).view.set]{fullShare} f2) := rfl
theorem ptOf_fo (E : Entry m dest) (c : Dev nD) (t : Fin cfg0.N) (f1) (f2) (h1) (h2) :
    (ptOf m dest E c t f1 f2 h1 h2).fo = outAt m dest c t.val := by delta ptOf; exact (rfl)
theorem ptOf_g (E : Entry m dest) (c : Dev nD) (t : Fin cfg0.N) (f1) (f2) (h1) (h2) :
    (ptOf m dest E c t f1 f2 h1 h2).g = outAt m dest c (t.val + 1) := by delta ptOf; exact (rfl)

def bodyPre (c : Dev nD) (t : Fin cfg0.N) : sProp 𝕄 :=
  iprop((dats m dest 0 c).Φ t.castSucc ∗ (dats m dest 0 c).owesAt () t.castSucc
    ∗ (∃ d, owns (c : Thread nD τ) (ms0_0 t) fullShare ((dats m dest 0 c).before 0 t d))
    ∗ (∃ d, owns (c : Thread nD τ) (ms0_1 t) fullShare ((dats m dest 0 c).before 1 t d)))
def bodyPost (c : Dev nD) (t : Fin cfg0.N) : sProp 𝕄 :=
  iprop((dats m dest 0 c).Φ t.succ ∗ (dats m dest 0 c).owesAt () t.succ
    ∗ owns (c : Thread nD τ) (ms0_0 t) fullShare ((dats m dest 0 c).after 0 t)
    ∗ owns (c : Thread nD τ) (ms0_1 t) fullShare ((dats m dest 0 c).after 1 t))

theorem sound_body (E : Entry m dest) (c : Dev nD) (t : Fin cfg0.N) :
    bodyPre m dest c t ⊢ wp frame (wpE (defs₀ (F := F)) Variants.none c none) Set.univ (bodyAt0 t) (fun _ => bodyPost m dest c t) := by
  unfold bodyPre bodyPost bodyAt0
  rw [after0_0, after0_1]
  simp only [before0_0, before0_1]
  rw [show (dats m dest 0 c).Φ t.castSucc = inv m dest c t.val from rfl, show (dats m dest 0 c).Φ t.succ = inv m dest c (t.val + 1) from rfl]
  unfold Dat.owesAt Pipeline.owesWithin
  rw [show (dats m dest 0 c).owed t.castSucc = 0 from rfl, show (dats m dest 0 c).owed t.succ = 0 from rfl]
  unfold inv owns
  iintro ⟨⟨HD, Hc, Hg⟩, ⟨%W, -, HW⟩, ⟨%d0, %f1, %h1, H1⟩, ⟨%d1, %f2, %h2, H2⟩⟩
  ihave Hrun := (body_run (ptOf m dest E c t f1 f2 h1 h2) (grid0.coords t) (hstage0_0 ((cfg0.slots t 0).cast nbuf0_0)) (hstage0_1 ((cfg0.slots t 1).cast nbuf0_1)) (Memref.isWhole_whole _) (Memref.isWhole_whole _) W) $$ [HD Hc HW H1 H2]
  · rw [tabPt_ptOf, blkPt_ptOf, ptOf_fo]
    isplitl [H1]; · iexact H1
    isplitl [H2]; · iexact H2
    isplitl [HD]; · iexact HD
    isplitl [Hc] <;> iassumption
  rw [tabPt_ptOf, blkPt_ptOf, ptOf_g]
  iapply (wp_wand frame _ _) $$ Hrun
  iintro %_ ⟨H1, H2, HD, Hc, ⟨%W', HW'⟩⟩
  isplitl [HD Hc Hg]
  · isplitl [HD]; · iexact HD
    isplitl [Hc] <;> iassumption
  isplitl [HW']
  · iexists W'; isplitr; · ipureintro; exact fun _ _ => Or.inl trivial
    iexact HW'
  isplitl [H1]
  · iexists f1; isplitr; · ipureintro; exact h1
    iexact H1
  iexists f2; isplitr; · ipureintro; exact h2
  iexact H2

theorem defs₀_row (t : Fin cfg0.N) :
    defs₀ (F := F) .tc cfg0.body (cfg0.bodyArgs t (cfg0.slots t)) = bodyAt0 t := by
  unfold defs₀; rw [Defs.onTc_tc]

theorem body_obligation (E : Entry m dest) (c : Dev nD) : BodyObligation (dats (F := F) m dest 0 c) (defs₀ (F := F)) Variants.none () Set.univ := fun t => by
  rw [bigSep_W0, bigSep_W0, defs₀_row]
  exact triple_restated (sound_body m dest E c t) rfl .rfl fun _ => .rfl

/-! ## The run -/

abbrev osem0 : Fin 1 → SemLoc sig := fun j => (![SemLoc.dma 4] : Fin 1 → SemLoc sig) j
theorem ownSemFacts0 : Pipeline.OwnSemFacts spec0 osem0 := by decide

abbrev R0 : Finset (Ref sig .tc) := {main_v26}
theorem R0_sub : R0 ⊆ Pipeline.restRefs sig spec0 := by decide

def Vend (c : Dev nD) : (b : Ref sig .tc) → Buf (Elt F) ((c : Thread nD τ).loc b) :=
  Function.update (V m c) main_v26 (outAt m dest c 64)
theorem Vend_v26 (c : Dev nD) : Vend m dest c main_v26 = outAt m dest c 64 := Function.update_self ..

theorem outAt_zero (c : Dev nD) : outAt m dest c 0 = V m c main_v26 := by
  unfold outAt; funext i; exact scat_zero (dest := dest c) _ _ i

theorem ends_eq (c : Dev nD) (W) : (Pipeline.Ends spec0 osem0 R0 c W : sProp 𝕄)
    = iprop((((c : Thread nD τ).loc main_v26) ↦{fullShare} W main_v26) ∗ semVal ((c : Thread nD τ), SemLoc.dma (4 : DmaSem sig)) 0 ∗ emp ∗ ∃ r, prngReg c r) := by
  unfold Pipeline.Ends
  rw [Pipeline.routed_singleton, Pipeline.ownSems0_eq_of_list c osem0 [0] (by decide) (by decide), Gen.scopedRest0_eq c]
  rfl

theorem enter (c : Dev nD) : (Pipeline.Ends spec0 osem0 R0 c (V m c) : sProp 𝕄) ⊢ inv m dest c 0 := by
  rw [ends_eq]; unfold inv; rw [outAt_zero, outPt_eq]
  iintro ⟨H, Hs, -, Hg⟩
  isplitl [H]; · iexact H
  isplitl [Hs] <;> iassumption

theorem leave (c : Dev nD) : inv m dest c 64 ⊢ (Pipeline.Ends spec0 osem0 R0 c (Vend m dest c) : sProp 𝕄) := by
  rw [ends_eq]; unfold inv; rw [outPt_eq, Vend_v26]
  iintro ⟨H, Hs, Hg⟩
  isplitl [H]; · iexact H
  isplitl [Hs]; · iexact Hs
  isplitr; · iempintro
  iexact Hg

set_option backward.isDefEq.respectTransparency.types false in
theorem run_main (E : Entry m dest) : θ_run defs (onTc (τ := τ) (main (F := F))) ⟨m, fun _ => 0, ρ⟩
    (fun r => Pipeline.RoutedPost cfgs (dats m dest) 0 R0 (V m) (Vend m dest) r ∧ r.2.sem = fun _ => 0) :=
  Pipeline.θ_run_frame_routed (Q' := _) cfgs (dats m dest) (0 : Fin 1) launch0 ownSemFacts0 defs₀ Variants.none m ρ main
    (hbody := fun c => (body_obligation m dest E c).loose) (hshare := fun c => (dats m dest 0 c).share_full fun _ => rfl)
    (howed := fun _ _ => rfl) (V := V m) (hmain := hmain m Variants.none) (hA := A_eq m dest) (R := R0) (hR := R0_sub) (Y := Vend m dest)
    (hin := fun c => enter m dest c) (hout := fun c => leave m dest c) (hQ' := fun _ h => h)

/-- The run: the output is the scatter of the rows at their destinations over what `main` left in it. -/
theorem run (E : Entry m dest) : θ_run defs (onTc (τ := τ) (main (F := F))) ⟨m, fun _ => 0, ρ⟩ (fun r =>
    (∀ c : Dev nD, r.2.mem ((c : Thread nD τ).loc main_v26) = outAt m dest c 64
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) := by
  refine θ_run_mono (run_main m ρ dest E) fun r ⟨h, hs⟩ => ⟨fun c => ⟨?_, ?_, ?_, ?_⟩, hs⟩
  · exact ((h c).2.1 main_v26 (by decide)).trans (Vend_v26 m dest c)
  · exact ((h c).2.2 main_arg0 (Finset.mem_sdiff.mpr ⟨Pipeline.mem_restRefs_of main_arg0 (by decide) (by decide), by decide⟩)).trans (V_main_arg0 m c)
  · exact ((h c).2.2 main_arg1 (Finset.mem_sdiff.mpr ⟨Pipeline.mem_restRefs_of main_arg1 (by decide) (by decide), by decide⟩)).trans (V_main_arg1 m c)
  · exact ((h c).1 1).trans (((dats m dest 0 c).arrAt_in 1 rfl _).trans ((A_eq m dest c 1).trans (V_main_arg2 m c)))

end

end Cert.Kernel.Hand
-- ==== Proof.Rank.lean ====
/-
  Counting. `e` gives each assignment its expert; `ct e E n` counts the assignments below `n` whose expert is `E`. An
  assignment's destination `dst` is its expert's first slot plus the number of earlier assignments of the same expert;
  destinations lie inside the slots and are pairwise different. The stable sort of the assignments by expert puts at `p`
  the assignment `p` of whose predecessors come first.
-/
module

public import Idealize.ShloMosaic.Lib.Routing.Count
public import Idealize.ShloMosaic.Lib.SortFacts

@[expose] public section

namespace Cert.Hand

open Idealize.ShloMosaic

def cum (f : ℕ → ℕ) (n : ℕ) : ℕ := ((List.range n).map f).sum

theorem cum_succ (f : ℕ → ℕ) (n : ℕ) : cum f (n + 1) = cum f n + f n := by
  unfold cum; rw [List.range_succ, List.map_append, List.sum_append]; simp

theorem cum_mono (f : ℕ → ℕ) {a b : ℕ} (h : a ≤ b) : cum f a ≤ cum f b := by
  induction b, h using Nat.le_induction with
  | base => exact le_refl _
  | succ b _ ih => rw [cum_succ]; omega

theorem cum_le (f g : ℕ → ℕ) (k : ℕ) (h : ∀ j, f j ≤ g j + k) (n : ℕ) : cum f n ≤ cum g n + n * k := by
  induction n with
  | zero => simp [cum]
  | succ n ih => rw [cum_succ, cum_succ, Nat.succ_mul]; have := h n; omega

def ct (e : ℕ → ℕ) (E n : ℕ) : ℕ := Nat.count (fun b => e b = E) n

theorem ct_mono (e : ℕ → ℕ) (E : ℕ) {a b : ℕ} (h : a ≤ b) : ct e E a ≤ ct e E b := Nat.count_monotone _ h
theorem ct_lt (e : ℕ → ℕ) {a b : ℕ} (h : a < b) : ct e (e a) a < ct e (e a) b :=
  Nat.count_strict_mono (p := fun b => e b = e a) rfl h
theorem ct_le (e : ℕ → ℕ) (E n : ℕ) : ct e E n ≤ n := Nat.count_le ..

theorem cum_ct (e : ℕ → ℕ) (n x : ℕ) : cum (fun j => ct e j n) x = Nat.count (fun b => e b < x) n := by
  cases x with
  | zero => simp [cum, Nat.count_eq_card_filter_range]
  | succ x =>
    refine (Routing.sum_count_eq e x n).trans ?_
    exact Routing.count_congr_of_lt n fun i _ => by omega

theorem cum_ct_le (e : ℕ → ℕ) (n x : ℕ) : cum (fun j => ct e j n) x ≤ n := by
  rw [cum_ct]; exact Nat.count_le ..

/-- An expert's slots: its count, rounded up to whole blocks of 512. -/
def slots (e : ℕ → ℕ) (j : ℕ) : ℕ := (ct e j 131072 + 511) / 512 * 512

theorem ct_le_slots (e : ℕ → ℕ) (j : ℕ) : ct e j 131072 ≤ slots e j := by unfold slots; omega
theorem slots_le (e : ℕ → ℕ) (j : ℕ) : slots e j ≤ ct e j 131072 + 511 := by unfold slots; omega

theorem cum_slots_le (e : ℕ → ℕ) {n : ℕ} (hn : n ≤ 32) : cum (slots e) n ≤ 147424 := by
  have h1 := cum_le (slots e) (fun j => ct e j 131072) 511 (slots_le e) n
  have h2 := cum_ct_le e 131072 n
  omega

def dst (e : ℕ → ℕ) (a : ℕ) : ℕ := cum (slots e) (e a) + ct e (e a) a

theorem dst_lt_next (e : ℕ → ℕ) {a : ℕ} (ha : a < 131072) : dst e a < cum (slots e) (e a + 1) := by
  have h1 := ct_lt e ha
  have h2 := ct_le_slots e (e a)
  rw [cum_succ]; unfold dst; omega

theorem dst_lt (e : ℕ → ℕ) (he : ∀ a, e a < 32) {a : ℕ} (ha : a < 131072) : dst e a < 147456 := by
  have h1 := dst_lt_next e ha
  have h2 := cum_slots_le e (n := e a + 1) (he a)
  omega

theorem dst_inj (e : ℕ → ℕ) {a b : ℕ} (ha : a < 131072) (hb : b < 131072) (h : dst e a = dst e b) : a = b := by
  have key : ∀ a b, a < 131072 → b < 131072 → e a < e b → dst e a < dst e b := fun a b ha hb hlt => by
    have h1 := dst_lt_next e ha
    have h2 := cum_mono (slots e) (show e a + 1 ≤ e b from hlt)
    have h3 : cum (slots e) (e b) ≤ dst e b := Nat.le_add_right _ _
    omega
  have key' : ∀ a b, e a = e b → a < b → dst e a < dst e b := fun a b he hlt => by
    have h1 := ct_lt e hlt
    unfold dst; rw [← he]; omega
  rcases Nat.lt_trichotomy (e a) (e b) with hl | hl | hl
  · have := key a b ha hb hl; omega
  · rcases Nat.lt_trichotomy a b with hab | hab | hab
    · have := key' a b hl hab; omega
    · exact hab
    · have := key' b a hl.symm hab; omega
  · have := key b a hb ha hl; omega

/-! ## The stable sort by expert -/

/-- `a` comes before `b`: a smaller expert, or the same and earlier. -/
def Before {n : ℕ} (e : ℕ → ℕ) (a b : Fin n) : Prop := e a.val < e b.val ∨ (e a.val = e b.val ∧ a.val < b.val)

instance {n : ℕ} (e : ℕ → ℕ) (a b : Fin n) : Decidable (Before e a b) := by unfold Before; infer_instance

theorem insert_before {n : ℕ} (e : ℕ → ℕ) (a : Fin n) (l : List (Fin n)) (hl : l.Pairwise (Before e)) (ha : ∀ b ∈ l, a.val < b.val) :
    (insertBefore (fun x y => decide (e x.val < e y.val)) a l).Pairwise (Before e) := by
  induction l with
  | nil => exact List.pairwise_singleton _ _
  | cons b l ih =>
    have hb := List.pairwise_cons.1 hl
    have hab := ha b List.mem_cons_self
    unfold insertBefore
    by_cases h : e b.val < e a.val
    · rw [if_pos (decide_eq_true h)]
      refine List.pairwise_cons.2 ⟨fun x hx => ?_, ih hb.2 fun x hx => ha x (List.mem_cons_of_mem _ hx)⟩
      rcases List.mem_cons.1 ((perm_insertBefore _ a l).mem_iff.1 hx) with rfl | hx
      · exact Or.inl h
      · exact hb.1 x hx
    · rw [if_neg (by simpa using h)]
      refine List.pairwise_cons.2 ⟨fun x hx => ?_, hl⟩
      have hbx : Before e b x ∨ b = x := by
        rcases List.mem_cons.1 hx with rfl | hx
        · exact Or.inr rfl
        · exact Or.inl (hb.1 x hx)
      unfold Before at *
      rcases hbx with (h' | h') | rfl <;> omega

theorem stable_before {n : ℕ} (e : ℕ → ℕ) (l : List (Fin n)) (hl : l.Pairwise fun a b => a.val < b.val) :
    (stableSort (fun x y : Fin n => decide (e x.val < e y.val)) l).Pairwise (Before e) := by
  induction l with
  | nil => exact List.Pairwise.nil
  | cons a l ih =>
    have ha := List.pairwise_cons.1 hl
    unfold stableSort
    exact insert_before e a _ (ih ha.2) fun b hb => ha.1 b ((perm_stableSort _ l).mem_iff.1 hb)

/-- The assignment at each position of the sorted order. -/
def srt (n : ℕ) (e : ℕ → ℕ) : Fin n → Fin n := sortedFrom fun x y => decide (e x.val < e y.val)

theorem srt_before {n : ℕ} (e : ℕ → ℕ) {p q : Fin n} (h : p < q) : Before e (srt n e p) (srt n e q) := by
  have hp := stable_before e (List.finRange n) (List.pairwise_lt_finRange n)
  exact List.pairwise_iff_get.1 hp _ _ h

theorem srt_inj {n : ℕ} (e : ℕ → ℕ) : Function.Injective (srt n e) := sortedFrom_injective _
theorem srt_surj {n : ℕ} (e : ℕ → ℕ) : Function.Surjective (srt n e) := sortedFrom_surjective _

theorem srt_before_iff {n : ℕ} (e : ℕ → ℕ) (p q : Fin n) : Before e (srt n e p) (srt n e q) ↔ p < q := by
  refine ⟨fun h => ?_, srt_before e⟩
  rcases lt_trichotomy p q with hl | rfl | hl
  · exact hl
  · unfold Before at h; omega
  · have := srt_before e hl; unfold Before at *; omega

/-- Position `p` of the sorted order: all assignments of smaller experts, and the earlier ones of its own. -/
theorem srt_pos {n : ℕ} (e : ℕ → ℕ) (p : Fin n) :
    p.val = cum (fun j => ct e j n) (e (srt n e p).val) + ct e (e (srt n e p).val) (srt n e p).val := by
  set s := srt n e p with hs
  have h1 : p.val = (Finset.univ.filter fun q : Fin n => q < p).card := by
    rw [show (Finset.univ.filter fun q : Fin n => q < p) = Finset.Iio p by ext q; simp, Fin.card_Iio]
  have h2 : (Finset.univ.filter fun q : Fin n => q < p).card = (Finset.univ.filter fun b : Fin n => Before e b s).card := by
    refine Finset.card_bij (fun q _ => srt n e q) (fun q hq => ?_) (fun a _ b _ h => srt_inj e h) fun b hb => ?_
    · exact Finset.mem_filter.2 ⟨Finset.mem_univ _, (srt_before_iff e q p).2 (Finset.mem_filter.1 hq).2⟩
    · obtain ⟨q, rfl⟩ := srt_surj e b
      exact ⟨q, Finset.mem_filter.2 ⟨Finset.mem_univ _, (srt_before_iff e q p).1 (Finset.mem_filter.1 hb).2⟩, rfl⟩
  have h3 : (Finset.univ.filter fun b : Fin n => Before e b s).card
      = (Finset.univ.filter fun b : Fin n => e b.val < e s.val).card + (Finset.univ.filter fun b : Fin n => e b.val = e s.val ∧ b.val < s.val).card := by
    rw [← Finset.card_union_of_disjoint]
    · congr 1; ext b; simp [Before]
    · rw [Finset.disjoint_filter]; intro b _ h; omega
  have h4 : (Finset.univ.filter fun b : Fin n => e b.val = e s.val ∧ b.val < s.val).card = ct e (e s.val) s.val := by
    rw [Routing.card_filter_fin n fun b => e b = e s.val ∧ b < s.val]
    unfold ct
    obtain ⟨k, hk⟩ := Nat.exists_eq_add_of_le (le_of_lt s.isLt)
    generalize hsv : s.val = v at *
    rw [hk, Nat.count_add]
    rw [Routing.count_congr_of_lt (P := fun b => e b = e v ∧ b < v) (Q := fun b => e b = e v) v fun i hi => by simp [hi]]
    rw [Routing.count_congr_of_lt (P := fun b => e (v + b) = e v ∧ v + b < v) (Q := fun _ => False) k fun i hi => iff_of_false (by omega) id]
    simp
  rw [cum_ct, h1, h2, h3, h4, Routing.card_filter_fin n fun b => e b < e s.val]

end Cert.Hand

end
-- ==== Proof.Words.lean ====
/-
  The routing words. `Routed`: what the precondition says of the printed index, rank and count words — an expert per
  assignment (`e`), no token names an expert twice, a rank word counts the earlier tokens that name the expert, a count
  word all of them. `routed_of` reads it off the printed predicate.
-/
module

public import proofs.«01_k».proof.Proof.Rank
public import proofs.«01_k».proof.Proof.Gen.Pre_routed
public import Idealize.ShloMosaic.Lib.Routing.Words
public import Idealize.ShloMosaic.Lib.Routing.Ops
public import Idealize.ShloMosaic.Lib.Routing.OpsOne
public import Idealize.ShloMosaic.Lib.Routing.OpsSearch
public import Idealize.ShloMosaic.Lib.ReduceAll
public import Idealize.ShloMosaic.Lib.WordCmp

@[expose] public section

namespace Cert.Hand

open Idealize.ShloMosaic
open Idealize.ShloMosaic.ValueIdx Idealize.ShloMosaic.Routing Idealize.ShloMosaic.WordCmp

theorem fold_addi_nat {ι : Type} (S : Finset ι) (g : ι → BitVec 32) (f : ι → ℕ) (h : ∀ k ∈ S, g k = BitVec.ofNat 32 (f k)) :
    S.fold IntOp.addi (0#32) g = BitVec.ofNat 32 (∑ k ∈ S, f k) := by
  classical
  induction S using Finset.cons_induction with
  | empty => rfl
  | cons a S ha ih =>
    rw [Finset.fold_cons, ih fun k hk => h k (Finset.mem_cons_of_mem hk), Finset.sum_cons, h a (Finset.mem_cons_self a S), BitVec.ofNat_add]
    rfl

theorem reduce_axis {s t : Shape} {a : Fin s.rank} (x : IVec s 32) (h' : s.ReducesTo [a] t) (ht : 0 < t.rank) (hu : 0 < shape0.numel)
    (j : t.Idx) (f : Fin (s.size a) → ℕ) (hf : ∀ k, x (Shape.Reduces.lift ⟨h'.1, ht, h'.2⟩ j k) = BitVec.ofNat 32 (f k)) :
    Host.reduce IntOp.addi x (constantI shape0 32 0#32) h' hu j = BitVec.ofNat 32 (∑ k, f k) := by
  rw [Host.reduce_eq_fold_single IntOp.addi x _ h' ⟨h'.1, ht, h'.2⟩ hu j]
  exact fold_addi_nat _ _ _ fun k _ => hf k

/-- How many of token `t`'s four assignments name `E`. -/
def hc (e : ℕ → ℕ) (t E : ℕ) : ℕ := ∑ k : Fin 4, if e (4 * t + k.val) = E then 1 else 0

theorem hc_step (e : ℕ → ℕ) (t E : ℕ) : ct e E (4 * (t + 1)) = ct e E (4 * t) + hc e t E := by
  unfold ct hc
  rw [show 4 * (t + 1) = 4 * t + 1 + 1 + 1 + 1 by omega]
  simp only [Nat.count_succ, Fin.sum_univ_four]
  simp only [Nat.add_assoc]
  rfl

theorem hc_sum (e : ℕ → ℕ) (E n : ℕ) : ((List.range n).map fun t => hc e t E).sum = ct e E (4 * n) := by
  induction n with
  | zero => simp [ct]
  | succ n ih => rw [List.range_succ, List.map_append, List.sum_append, ih, hc_step]; simp

theorem hc_total (e : ℕ → ℕ) (E n : ℕ) : ∑ t ∈ Finset.range n, hc e t E = ct e E (4 * n) := by
  induction n with
  | zero => simp [ct]
  | succ n ih => rw [Finset.sum_range_succ, ih, hc_step]

theorem hc_le (e : ℕ → ℕ) (t E : ℕ) : hc e t E ≤ 4 := by
  have : hc e t E ≤ ∑ _k : Fin 4, 1 := Finset.sum_le_sum fun k _ => by split <;> omega
  simpa using this

/-- With no expert named twice by the token, its own earlier assignments do not count. -/
theorem ct_row (e : ℕ → ℕ) (t : ℕ) (h : ∀ E, E < 32 → hc e t E ≤ 1) (he : ∀ a, e a < 32) (k : ℕ) (hk : k < 4) :
    ct e (e (4 * t + k)) (4 * t + k) = ct e (e (4 * t + k)) (4 * t) := by
  have h1 := hc_step e t (e (4 * t + k))
  have h2 := h _ (he (4 * t + k))
  have h3 := ct_lt e (show 4 * t + k < 4 * (t + 1) by omega)
  have h4 := ct_mono e (e (4 * t + k)) (show 4 * t ≤ 4 * t + k by omega)
  omega

structure Routed (wi wr : IVec (shape2 32768 4) 32) (wc : IVec (shape1 32) 32) (e : ℕ → ℕ) : Prop where
  lt : ∀ a, e a < 32
  idx : ∀ (t : Fin 32768) (k : Fin 4), wi (ix2 t k) = BitVec.ofNat 32 (e (4 * t.val + k.val))
  rank : ∀ (t : Fin 32768) (k : Fin 4), wr (ix2 t k) = BitVec.ofNat 32 (ct e (e (4 * t.val + k.val)) (4 * t.val + k.val))
  cnt : ∀ E : Fin 32, wc (ix1 E) = BitVec.ofNat 32 (ct e E.val 131072)

/-- The expert of each assignment, from the index words. -/
def expert (wi : IVec (shape2 32768 4) 32) (a : ℕ) : ℕ :=
  if h : a < 131072 then (wi (ix2 (⟨a / 4, by omega⟩ : Fin 32768) (⟨a % 4, by omega⟩ : Fin 4))).toNat % 32 else 0

theorem expert_lt (wi : IVec (shape2 32768 4) 32) (a : ℕ) : expert wi a < 32 := by
  unfold expert; split
  · exact Nat.mod_lt _ (by omega)
  · omega

theorem expert_eq (wi : IVec (shape2 32768 4) 32) (t : Fin 32768) (k : Fin 4) :
    expert wi (4 * t.val + k.val) = (wi (ix2 t k)).toNat % 32 := by
  unfold expert
  rw [dif_pos (by omega)]
  congr 4
  · exact Fin.ext (by show (4 * t.val + k.val) / 4 = t.val; omega)
  · exact Fin.ext (by show (4 * t.val + k.val) % 4 = k.val; omega)

end Cert.Hand

namespace Cert.Pre_routed

open Idealize.ShloMosaic
open Idealize.ShloMosaic.ValueIdx Idealize.ShloMosaic.Routing Idealize.ShloMosaic.WordCmp
open Cert.Hand

variable [Facts]
open Facts

section Words
variable (wi : IVec S32768x4 32)

/-- The one-hot array of the index words. -/
def hot : IVec S32768x4x32 32 :=
  extui 32 (cmpi .eq (broadcastInDim S32768x4x32 ![0, 1, 2] bcast_S32768x4x1_S32768x4x32_0_1_2 (broadcastInDim S32768x4x1 ![0, 1] bcast_S32768x4_S32768x4x1_0_1 wi))
    (broadcastInDim S32768x4x32 ![0, 1, 2] bcast_S1x1x32_S32768x4x32_0_1_2 (broadcastInDim S1x1x32 ![2] bcast_S32_S1x1x32_2 (iotaInDim S32 32 0)))) natLt_1_32

def chosen : IVec S32768x32 32 := Host.reduce IntOp.addi (hot wi) (constantI S_ 32 0#32) reducesTo_S32768x4x32_S32768x32_d1 h_S_

def before : IVec S32768x32 32 :=
  subi (Host.reduceWindow IntOp.addi ![32768, 1] ![1, 1] ![32767, 0] ![0, 0] (chosen wi) (broadcastInDim S_ ![] bcast_S_S_ (constantI S_ 32 0#32))
    reduceWindows_S32768x32_S32768x32_w32768s1p32767_0_w1s1p0_0 h_S_) (chosen wi)

variable (hr : ∀ (t : Fin 32768) (k : Fin 4), (wi (ix2 t k)).toNat < 32)
include hr

theorem hot_at (t : Fin 32768) (k : Fin 4) (E : Fin 32) :
    hot wi (ix3 t k E) = BitVec.ofNat 32 (if expert wi (4 * t.val + k.val) = E.val then 1 else 0) := by
  have e1 : broadcastInDim S32768x4x32 ![0, 1, 2] bcast_S32768x4x1_S32768x4x32_0_1_2 (broadcastInDim S32768x4x1 ![0, 1] bcast_S32768x4_S32768x4x1_0_1 wi) (ix3 t k E)
      = wi (ix2 t k) := by
    refine (broadcastInDim_apply _ _ _ _ (ix3 t k (0 : Fin 1)) fun a => ?_).trans (bcLane _ wi t k)
    match a with
    | ⟨0, _⟩ => rfl
    | ⟨1, _⟩ => rfl
    | ⟨2, _⟩ => rfl
  have e2 : broadcastInDim S32768x4x32 ![0, 1, 2] bcast_S1x1x32_S32768x4x32_0_1_2 (broadcastInDim S1x1x32 ![2] bcast_S32_S1x1x32_2 (iotaInDim S32 32 0)) (ix3 t k E)
      = BitVec.ofNat 32 E.val := by
    refine (broadcastInDim_apply _ _ _ _ (ix3 (0 : Fin 1) (0 : Fin 1) E) fun a => ?_).trans ((broadcastInDim_apply _ _ _ _ (ix1 E) fun a => ?_).trans (iota1_ap E))
    · match a with
      | ⟨0, _⟩ => rfl
      | ⟨1, _⟩ => rfl
      | ⟨2, _⟩ => rfl
    · match a with
      | ⟨0, _⟩ => rfl
  unfold hot
  show (IntOp.cmpi .eq _ _).setWidth 32 = _
  rw [e1, e2, cmpi_eq_eq_toNat, setWidth_ofBool]
  have h1 := hr t k
  have h2 := E.isLt
  rw [expert_eq, Nat.mod_eq_of_lt h1, BitVec.toNat_ofNat, Nat.mod_eq_of_lt (show E.val < 2 ^ 32 by omega)]

theorem chosen_at (t : Fin 32768) (E : Fin 32) : chosen wi (ix2 t E) = BitVec.ofNat 32 (hc (expert wi) t.val E.val) := by
  unfold chosen hc
  refine reduce_axis (s := S32768x4x32) (t := S32768x32) (a := (1 : Fin 3)) _ _ Nat.zero_lt_two _ _ _ fun k => ?_
  refine Eq.trans (congrArg (hot wi) (?_ : _ = ix3 t k E)) (hot_at wi hr t k E)
  funext c
  match c with
  | ⟨0, _⟩ => rfl
  | ⟨1, _⟩ => rfl
  | ⟨2, _⟩ => rfl

theorem before_at (t : Fin 32768) (E : Fin 32) : before wi (ix2 t E) = BitVec.ofNat 32 (ct (expert wi) E.val (4 * t.val)) := by
  have h := cumsum_rows (R := 32768) (Rm1 := 32767) (C := 32) (by norm_num) (chosen wi) (fun i c => hc (expert wi) i c) (chosen_at wi hr)
    (broadcastInDim S_ ![] bcast_S_S_ (constantI S_ 32 0#32)) (bc0 _ _ _) reduceWindows_S32768x32_S32768x32_w32768s1p32767_0_w1s1p0_0 h_S_ t E
  unfold before
  rw [subi_ap, chosen_at wi hr]
  rw [h]
  simp only [hc_sum, hc_step]
  rw [ofNat32_sub (Nat.le_add_left _ _), Nat.add_sub_cancel]

theorem spread_at (t : Fin 32768) (k : Fin 4) (E : Fin 32) :
    broadcastInDim S32768x4x32 ![0, 1, 2] bcast_S32768x1x32_S32768x4x32_0_1_2 (broadcastInDim S32768x1x32 ![0, 2] bcast_S32768x32_S32768x1x32_0_2 (before wi)) (ix3 t k E)
      = BitVec.ofNat 32 (ct (expert wi) E.val (4 * t.val)) := by
  refine Eq.trans ((broadcastInDim_apply _ _ _ _ (ix3 t (0 : Fin 1) E) fun a => ?_).trans (broadcastInDim_apply _ _ _ _ (ix2 t E) fun a => ?_)) (before_at wi hr t E)
  · match a with
    | ⟨0, _⟩ => rfl
    | ⟨1, _⟩ => rfl
    | ⟨2, _⟩ => rfl
  · match a with
    | ⟨0, _⟩ => rfl
    | ⟨1, _⟩ => rfl

theorem rank_at (t : Fin 32768) (k : Fin 4) :
    Host.reduce IntOp.addi (muli (hot wi) (broadcastInDim S32768x4x32 ![0, 1, 2] bcast_S32768x1x32_S32768x4x32_0_1_2
      (broadcastInDim S32768x1x32 ![0, 2] bcast_S32768x32_S32768x1x32_0_2 (before wi)))) (constantI S_ 32 0#32) reducesTo_S32768x4x32_S32768x4_d2 h_S_ (ix2 t k)
      = BitVec.ofNat 32 (ct (expert wi) (expert wi (4 * t.val + k.val)) (4 * t.val)) := by
  refine (reduce_axis (s := S32768x4x32) (t := S32768x4) (a := (2 : Fin 3)) _ _ Nat.zero_lt_two _ _
    (fun E : Fin 32 => if expert wi (4 * t.val + k.val) = E.val then ct (expert wi) E.val (4 * t.val) else 0) fun E : Fin 32 => ?_).trans ?_
  · have e1 : (Shape.Reduces.lift (⟨reducesTo_S32768x4x32_S32768x4_d2.1, Nat.zero_lt_two, reducesTo_S32768x4x32_S32768x4_d2.2⟩ : S32768x4x32.Reduces [2] S32768x4) (ix2 t k) E) = ix3 t k E := by
      funext c
      match c with
      | ⟨0, _⟩ => rfl
      | ⟨1, _⟩ => rfl
      | ⟨2, _⟩ => rfl
    refine (congrArg _ e1).trans ?_
    rw [muli_ap, spread_at wi hr, hot_at wi hr]
    refine (BitVec.ofNat_mul _ _).symm.trans ?_
    split <;> simp
  · refine congrArg (BitVec.ofNat 32) ?_
    refine (Finset.sum_eq_single_of_mem (⟨expert wi (4 * t.val + k.val), expert_lt wi _⟩ : Fin 32) (Finset.mem_univ _) fun b _ hb => if_neg fun h => hb (Fin.ext h.symm)).trans ?_
    exact if_pos rfl

theorem cnt_at (E : Fin 32) :
    Host.reduce IntOp.addi (chosen wi) (constantI S_ 32 0#32) reducesTo_S32768x32_S32_d0 h_S_ (ix1 E) = BitVec.ofNat 32 (ct (expert wi) E.val 131072) := by
  refine (reduce_axis (s := S32768x32) (t := S32) (a := (0 : Fin 2)) _ _ Nat.zero_lt_one _ _ (fun t : Fin 32768 => hc (expert wi) t.val E.val) fun t : Fin 32768 => ?_).trans ?_
  · refine Eq.trans (congrArg (chosen wi) (?_ : _ = ix2 t E)) (chosen_at wi hr t E)
    funext c
    match c with
    | ⟨0, _⟩ => rfl
    | ⟨1, _⟩ => rfl
  · have h : ∑ t : Fin 32768, hc (expert wi) t.val E.val = ct (expert wi) E.val 131072 := by
      rw [Fin.sum_univ_eq_sum_range (fun t => hc (expert wi) t E.val) 32768, hc_total]
    exact congrArg (BitVec.ofNat 32) h

end Words

theorem routed_of {F : FTy → Type} [FloatOps F] (x : FVec F S32768x128 .f32) (y : FVec F S8x128 .f32) (z : IVec S32768x512 32)
    (h1 : (fn x y z).1 = fun _ => 1#1) (h2 : (fn x y z).2.1 = fun _ => 1#1) (h3 : (fn x y z).2.2.1 = fun _ => 1#1) (h4 : (fn x y z).2.2.2 = fun _ => 1#1) :
    Routed (fptosi 32 (extractStridedSlice S32768x4 ![0, 0] x slices_S32768x128_S32768x4_0_0)) (fptosi 32 (extractStridedSlice S32768x4 ![0, 8] x slices_S32768x128_S32768x4_0_8))
      (fptosi 32 (shapeCast S32 (extractStridedSlice S1x32 ![0, 0] y slices_S8x128_S1x32_0_0) shapeCasts_S1x32_S32))
      (expert (fptosi 32 (extractStridedSlice S32768x4 ![0, 0] x slices_S32768x128_S32768x4_0_0))) := by
  unfold fn fn_part1 at h1 h2 h3 h4
  dsimp only at h1 h2 h3 h4
  generalize (fptosi 32 (extractStridedSlice S32768x4 ![0, 0] x slices_S32768x128_S32768x4_0_0) : IVec S32768x4 32) = wi at *
  generalize (fptosi 32 (extractStridedSlice S32768x4 ![0, 8] x slices_S32768x128_S32768x4_0_8) : IVec S32768x4 32) = wr at *
  generalize (fptosi 32 (shapeCast S32 (extractStridedSlice S1x32 ![0, 0] y slices_S8x128_S1x32_0_0) shapeCasts_S1x32_S32) : IVec S32 32) = wc at *
  haveI : Subsingleton S_.Idx := ⟨fun a b => funext fun i => i.elim0⟩
  have r1 := fun i => Host.reduce_andi_all _ _ _ _ ix0 (congrFun h1 ix0) i
  have r2 := fun i => Host.reduce_andi_all _ _ _ _ ix0 (congrFun h2 ix0) i
  have r3 := fun i => Host.reduce_andi_all _ _ _ _ ix0 (congrFun h3 ix0) i
  have r4 := fun i => Host.reduce_andi_all _ _ _ _ ix0 (congrFun h4 ix0) i
  have hr : ∀ (t : Fin 32768) (k : Fin 4), (wi (ix2 t k)).toNat < 32 := fun t k => by
    have h := r1 (ix2 t k)
    change IntOp.andi (IntOp.cmpi .sge (wi (ix2 t k)) 0#32) (IntOp.cmpi .slt (wi (ix2 t k)) 32#32) = 1#1 at h
    generalize wi (ix2 t k) = w at h
    obtain ⟨ha, hb⟩ := IntOp.andi_eq_one.1 h
    have ha' := IntOp.cmpi_sge.1 ha
    have hb' := IntOp.cmpi_slt.1 hb
    rw [show (0#32 : BitVec 32).toInt = 0 by decide] at ha'
    rw [show (32#32 : BitVec 32).toInt = 32 by decide] at hb'
    rw [BitVec.toInt_eq_toNat_cond] at ha' hb'
    split at ha' <;> split at hb' <;> omega
  have hch : ∀ (t : Fin 32768) (E : Fin 32), hc (expert wi) t.val E.val ≤ 1 := fun t E => by
    have h : IntOp.cmpi .sle (chosen wi (ix2 t E)) 1#32 = 1#1 := r2 (ix2 t E)
    rw [chosen_at wi hr] at h
    have := hc_le (expert wi) t.val E.val
    exact (cmpi_sle_ofNat_eq_one_iff (w := 32) (by omega) (by omega)).1 h
  refine ⟨expert_lt wi, fun t k => ?_, fun t k => ?_, fun E => ?_⟩
  · rw [expert_eq, Nat.mod_eq_of_lt (hr t k)]; simp
  · rw [ct_row (expert wi) t.val (fun E hE => hch t ⟨E, hE⟩) (expert_lt wi) k.val k.isLt, ← rank_at wi hr t k]
    exact (StableHlo.Predicate.cmpi_eq_iff.1 (r3 (ix2 t k))).symm
  · rw [← cnt_at wi hr E]
    exact (StableHlo.Predicate.cmpi_eq_iff.1 (r4 (ix1 E))).symm

end Cert.Pre_routed

end
-- ==== Proof.Table.lean ====
/-
  The integer vectors that both programs build from the counts: the slots of an expert (its count rounded up to a
  multiple of 512), and an exclusive running sum.
-/
module

public import proofs.«01_k».proof.Proof.Rank
public import Idealize.ShloMosaic.Lib.Routing.Words
public import Idealize.ShloMosaic.Lib.Routing.Ops
public import Idealize.ShloMosaic.Lib.Routing.OpsOne
public import Idealize.ShloMosaic.Lib.Routing.OpsSet
public import Idealize.ShloMosaic.Lib.Routing.OpsPair
public import Idealize.ShloMosaic.Lib.Routing.OpsSearch
public import Idealize.ShloMosaic.Lib.WordCmp

@[expose] public section

namespace Cert.Hand

open Idealize.ShloMosaic
open Idealize.ShloMosaic.ValueIdx Idealize.ShloMosaic.Routing Idealize.ShloMosaic.WordCmp

variable (hb : shape0.BroadcastsInDim (shape1 32) (![] : Fin 0 → Fin (shape1 32).rank))

/-- The slots of each expert, from the counts. -/
noncomputable def slotV (wc : IVec (shape1 32) 32) : IVec (shape1 32) 32 :=
  muli (pyDiv hb (subi (addi wc (broadcastInDim (shape1 32) ![] hb (constantI shape0 32 512#32))) (broadcastInDim (shape1 32) ![] hb (constantI shape0 32 1#32)))
    (constantI shape0 32 512#32)) (broadcastInDim (shape1 32) ![] hb (constantI shape0 32 512#32))

theorem slotV_at (e : ℕ → ℕ) (wc : IVec (shape1 32) 32) (h : ∀ E : Fin 32, wc (ix1 E) = BitVec.ofNat 32 (ct e E.val 131072)) (E : Fin 32) :
    slotV hb wc (ix1 E) = BitVec.ofNat 32 (slots e E.val) := by
  have hc := ct_le e E.val 131072
  unfold slotV
  rw [muli_ap, pyDiv_ap hb _ _ (ix1 E) (a := ct e E.val 131072 + 511) (b := 512) ?_ rfl (by omega) (by omega) (by omega), bc0]
  · exact (BitVec.ofNat_mul _ _).symm
  · rw [subi_ap, addi_ap, h, bc0, bc0]
    show BitVec.ofNat 32 _ + BitVec.ofNat 32 512 - BitVec.ofNat 32 1 = _
    rw [← BitVec.ofNat_add, ofNat32_sub (by omega)]
    rfl

variable (hb0 : shape0.BroadcastsInDim shape0 (![] : Fin 0 → Fin shape0.rank))
  (hw : (shape1 32).ReduceWindows (![32] : Fin 1 → Nat) ![1] ![31] ![0] (shape1 32)) (hu : 0 < shape0.numel)

/-- The running sum of the entries before each. -/
noncomputable def startV (x : IVec (shape1 32) 32) : IVec (shape1 32) 32 :=
  subi (Host.reduceWindow IntOp.addi ![32] ![1] ![31] ![0] x (broadcastInDim shape0 ![] hb0 (constantI shape0 32 0#32)) hw hu) x

theorem startV_at (f : ℕ → ℕ) (x : IVec (shape1 32) 32) (h : ∀ E : Fin 32, x (ix1 E) = BitVec.ofNat 32 (f E.val)) (E : Fin 32) :
    startV hb0 hw hu x (ix1 E) = BitVec.ofNat 32 (cum f E.val) := by
  have hs := cumsum1 (N := 32) (Nm1 := 31) rfl x f h (broadcastInDim shape0 ![] hb0 (constantI shape0 32 0#32)) (bc0 _ _ _) hw hu E
  unfold startV
  rw [subi_ap, hs, h]
  show BitVec.ofNat 32 (cum f (E.val + 1)) - _ = _
  rw [cum_succ, ofNat32_sub (Nat.le_add_left _ _), Nat.add_sub_cancel]

/-- `jnp`'s wrap of a negative index, at a word below 2³¹. -/
theorem wrap_at {s : Shape} (x z y : IVec s 32) (i : s.Idx) (hz : z i = 0#32) {a : ℕ} (hx : x i = BitVec.ofNat 32 a) (ha : a < 2 ^ 31) :
    select (cmpi .slt x z) y x i = BitVec.ofNat 32 a := by
  rw [select_at, cmpi_at, hz, hx]
  exact wrap_of_lt _ _ (by rw [BitVec.toNat_ofNat]; omega)

end Cert.Hand

end
-- ==== Proof.Host.lean ====
/-
  The tables that the call is given: the destination words are the words of `dst` of the experts that the index words
  name, and the output array is handed over full of zeros. So the entry hypothesis of Frame.lean holds.
-/
module

public import proofs.«01_k».proof.Proof.Frame
public import proofs.«01_k».proof.Proof.Words
public import proofs.«01_k».proof.Proof.Table
public import Idealize.ShloMosaic.Lib.Claim

@[expose] public section

namespace Cert.Kernel.Hand

open Idealize.ShloMosaic hiding ix1 ix2 ix3
open Idealize.ShloMosaic.TcCoe
open Idealize.ShloMosaic.ValueIdx (ix0 ix1 ix2 ix3)
open Idealize.ShloMosaic.Routing Idealize.SL.Sem
open Cert.Kernel.Gen Cert.Hand

variable {F : FTy → Type} [FloatOps F]
variable (m : (ℓ : Loc nD τ sig) → Buf (Elt F) ℓ)

/-- The index, rank and count words of the arguments. -/
noncomputable def wi (c : Dev nD) : IVec S32768x4 32 :=
  fptosi 32 (extractStridedSlice S32768x4 ![0, 0] (m ((c : Thread nD τ).loc main_arg0)) slices_S32768x128_S32768x4_0_0)
noncomputable def wr (c : Dev nD) : IVec S32768x4 32 :=
  fptosi 32 (extractStridedSlice S32768x4 ![0, 8] (m ((c : Thread nD τ).loc main_arg0)) slices_S32768x128_S32768x4_0_8)
noncomputable def wc (c : Dev nD) : IVec S32 32 :=
  fptosi 32 (extractStridedSlice S32 ![0] (shapeCast S128 (extractStridedSlice S1x128 ![0, 0] (m ((c : Thread nD τ).loc main_arg1)) slices_S8x128_S1x128_0_0) shapeCasts_S1x128_S128) slices_S128_S32_0)

theorem V_v26 (c : Dev nD) : (V m c main_v26 : S147456x512.Idx → Elt F .i32) = fun _ => (0#32 : BitVec 32) := by
  entry_read
  rfl

set_option maxRecDepth 8192 in
theorem V_v25 (c : Dev nD) : (V m c main_v25 : S131072.Idx → Elt F .i32)
    = shapeCast S131072 (addi (Host.gather gather_S32_S32768x4x1_S32768x4_n_0_n_n_0_2_1
        (startV bcast_S_S_ reduceWindows_S32_S32_w32s1p31_0 h_S_ (slotV bcast_S_S32 (wc m c)))
        (broadcastInDim S32768x4x1 ![0, 1] bcast_S32768x4_S32768x4x1_0_1
          (select (cmpi .slt (wi m c) (broadcastInDim S32768x4 ![] bcast_S_S32768x4 (constantI S_ 32 0#32)))
            (addi (wi m c) (broadcastInDim S32768x4 ![] bcast_S_S32768x4 (constantI S_ 32 32#32))) (wi m c)))) (wr m c)) shapeCasts_S32768x4_S131072 := by
  show StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  unfold startV slotV pyDiv wi wr wc
  rfl

/-- The count words, sliced before the reshape or after it. -/
theorem wc_eq (c : Dev nD) (h1 : S8x128.Slices ![0, 0] (shape2 1 32)) (h2 : (shape2 1 32).ShapeCasts S32) :
    (fptosi 32 (shapeCast S32 (extractStridedSlice (shape2 1 32) ![0, 0] (m ((c : Thread nD τ).loc main_arg1)) h1) h2) : IVec S32 32) = wc m c := by
  unfold wc
  refine congrArg (fptosi 32) (funext fun i => ?_)
  rw [ValueIdx.eq_ix1 i]
  have hi := (i 0).isLt
  generalize i 0 = E at *
  change E.val < 32 at hi
  refine (cast21 _ h2 (0 : Fin 1) (E : Fin 32) E (by simp)).trans ((extractStridedSlice_apply _ _ _ _ (ix2 (0 : Fin 8) (⟨E.val, by omega⟩ : Fin 128)) fun a => ?_).trans
    (Eq.symm ((extractStridedSlice_apply _ _ _ _ (ix1 (⟨E.val, by omega⟩ : Fin 128)) fun a => ?_).trans ((cast21 _ _ (0 : Fin 1) (⟨E.val, by omega⟩ : Fin 128) ⟨E.val, by omega⟩ (by simp)).trans
      (extractStridedSlice_apply _ _ _ _ (ix2 (0 : Fin 8) (⟨E.val, by omega⟩ : Fin 128)) fun a => ?_)))))
  · match a with
    | ⟨0, _⟩ => rfl
    | ⟨1, _⟩ => simp [ix2]
  · match a with
    | ⟨0, _⟩ => simp [ix1]
  · match a with
    | ⟨0, _⟩ => rfl
    | ⟨1, _⟩ => simp [ix2]

variable {m}

theorem table_at {c : Dev nD} {e : ℕ → ℕ} (R : Routed (wi m c) (wr m c) (wc m c) e) (a : Fin 131072) :
    (V m c main_v25 : S131072.Idx → Elt F .i32) (ix1 a) = BitVec.ofNat 32 (dst e a.val) := by
  have ha := a.isLt
  rw [V_v25]
  refine (cast21 _ _ (⟨a.val / 4, by omega⟩ : Fin 32768) (⟨a.val % 4, by omega⟩ : Fin 4) a (by show a.val = a.val / 4 * 4 + a.val % 4; omega)).trans ?_
  have e1 : 4 * (a.val / 4) + a.val % 4 = a.val := by omega
  have hi := R.idx ⟨a.val / 4, by omega⟩ ⟨a.val % 4, by omega⟩
  have hr := R.rank ⟨a.val / 4, by omega⟩ ⟨a.val % 4, by omega⟩
  simp only [e1] at hi hr
  have he := R.lt a.val
  rw [addi_ap, hr]
  refine (congrArg (· + _) ((ValueIdx.gather_take_apply (N := 32) (R := 32768) (C := 4) (by omega) gather_S32_S32768x4x1_S32768x4_n_0_n_n_0_2_1_wf _ _ _).trans ?_)).trans
    (BitVec.ofNat_add (cum (slots e) (e a.val)) _).symm
  have hw := wrap_at (wi m c) (broadcastInDim S32768x4 ![] bcast_S_S32768x4 (constantI S_ 32 0#32)) (addi (wi m c) (broadcastInDim S32768x4 ![] bcast_S_S32768x4 (constantI S_ 32 32#32)))
    (ix2 (⟨a.val / 4, by omega⟩ : Fin 32768) (⟨a.val % 4, by omega⟩ : Fin 4)) (bc0 _ _ _) hi (by omega)
  refine Eq.trans (congrArg (startV bcast_S_S_ reduceWindows_S32_S32_w32s1p31_0 h_S_ (slotV bcast_S_S32 (wc m c))) (?_ : _ = ix1 (⟨e a.val, he⟩ : Fin 32)))
    (startV_at bcast_S_S_ reduceWindows_S32_S32_w32s1p31_0 h_S_ (slots e) _ (slotV_at bcast_S_S32 e _ R.cnt) ⟨e a.val, he⟩)
  refine congrArg ix1 (Fin.ext ?_)
  show min (BitVec.toInt _).toNat 31 = e a.val
  have hl := (bcLane bcast_S32768x4_S32768x4x1_0_1 (select (cmpi .slt (wi m c) (broadcastInDim S32768x4 ![] bcast_S_S32768x4 (constantI S_ 32 0#32)))
    (addi (wi m c) (broadcastInDim S32768x4 ![] bcast_S_S32768x4 (constantI S_ 32 32#32))) (wi m c)) (⟨a.val / 4, by omega⟩ : Fin 32768) (⟨a.val % 4, by omega⟩ : Fin 4)).trans hw
  refine (congrArg (fun w : BitVec 32 => min w.toInt.toNat 31) (?_ : _ = BitVec.ofNat 32 (e a.val))).trans ?_
  · refine Eq.trans (congrArg _ ?_) hl
    funext x
    match x with
    | ⟨0, _⟩ => rfl
    | ⟨1, _⟩ => rfl
    | ⟨2, _⟩ => rfl
  · show min (BitVec.ofNat 32 (e a.val)).toInt.toNat 31 = e a.val
    rw [StableHlo.Predicate.toInt_ofNat_small _ (by omega)]
    omega

/-- The destinations: `dst` of the experts named, a device each. -/
def dest (e : Dev nD → ℕ → ℕ) (he : ∀ c a, e c a < 32) (c : Dev nD) (a : Fin 131072) : Fin 147456 :=
  ⟨dst (e c) a.val, dst_lt (e c) (he c) a.isLt⟩

theorem entry {e : Dev nD → ℕ → ℕ} (R : ∀ c, Routed (wi m c) (wr m c) (wc m c) (e c)) : Entry m (dest e fun c => (R c).lt) where
  inj c a b h := Fin.ext (dst_inj (e c) a.isLt b.isLt (Fin.mk.inj_iff.1 h))
  tab c a := by
    refine (congrArg BitVec.toNat (table_at (R c) a)).trans ?_
    have := dst_lt (e c) (R c).lt a.isLt
    rw [BitVec.toNat_ofNat]
    exact Nat.mod_eq_of_lt (by omega)

end Cert.Kernel.Hand

end
-- ==== Proof.Order.lean ====
/-
  The reference's sort and scatters, read at an index: the positions that a stable sort of a vector by its words lists
  (`sort_at`), a count of a vector's words (`hist_at`), and a scatter of one update per index word (`put_hit`, `put_miss`).
-/
module

public import proofs.«01_k».proof.Proof.Table

@[expose] public section

namespace Cert.Hand

open Idealize.ShloMosaic
open Idealize.ShloMosaic.ValueIdx Idealize.ShloMosaic.Routing Idealize.ShloMosaic.WordCmp

/-- One index word for each update of a vector. -/
abbrev putDims (N n : ℕ) (wf : ScatterDims.WF (shape1 N) (shape2 n 1) (shape1 n) [] [0] [0] 1) : ScatterDims (shape1 N) (shape2 n 1) (shape1 n) where
  updateWindowDims := []
  insertedWindowDims := [0]
  scatterDimsToOperandDims := [0]
  indexVectorDim := 1
  wf := wf

section Put
variable {N n : ℕ} (wf : ScatterDims.WF (shape1 N) (shape2 n 1) (shape1 n) [] [0] [0] 1) (idx : IVec (shape2 n 1) 32) (g : ℕ → ℕ)
  (hg : ∀ i : Fin n, idx (ix2 i (0 : Fin 1)) = BitVec.ofNat 32 (g i.val)) (hg31 : ∀ i < n, g i < 2 ^ 31)
include hg hg31

theorem put_lands (i : Fin n) (x : Fin N) : (putDims N n wf).resultIdx? (ix1 i) idx = some (ix1 x) ↔ g i.val = x.val := by
  have hm : (0 : Fin 1) ∈ (putDims N n wf).scatterDimsToOperandDims := List.mem_singleton.2 rfl
  have hw : (putDims N n wf).window (ix1 i) 0 = 0 := by
    unfold ScatterDims.window
    exact dif_neg fun h => by simpa using (List.mem_filter.1 h).2
  have hs : (putDims N n wf).start (ix1 i) idx 0 = (g i.val : ℤ) := by
    unfold ScatterDims.start
    rw [dif_pos hm, ← StableHlo.Predicate.toInt_ofNat_small _ (hg31 i.val i.isLt), ← hg i]
    refine congrArg (fun q => (idx q).toInt) (funext fun b => Fin.ext ?_)
    match b with
    | ⟨0, _⟩ => rfl
    | ⟨1, _⟩ => rfl
  rw [resultIdx?_ix1, hw, hs]
  omega

theorem put_hit {α : Type} (x0 : (shape1 N).Idx → α) (upd : (shape1 n).Idx → α) (i : Fin n) (x : Fin N) (hx : g i.val = x.val)
    (hinj : ∀ a < n, ∀ b < n, g a = g b → a = b) :
    Host.scatter (putDims N n wf) (fun _ b => b) x0 idx upd (ix1 x) = upd (ix1 i) := by
  refine scatter_set_hit (putDims N n wf) x0 idx upd (ix1 x) _ (fun k hk => ?_) (ix1 i) ((put_lands wf idx g hg hg31 i x).2 hx)
  rw [eq_ix1 k] at hk ⊢
  have h := (put_lands wf idx g hg hg31 (k 0) x).1 hk
  have e : k 0 = i := Fin.ext (hinj _ (k 0).isLt _ i.isLt (h.trans hx.symm))
  exact congrArg (fun q => upd (ix1 q)) e

theorem put_miss {α : Type} (x0 : (shape1 N).Idx → α) (upd : (shape1 n).Idx → α) (x : Fin N) (hx : ∀ i < n, g i ≠ x.val) :
    Host.scatter (putDims N n wf) (fun _ b => b) x0 idx upd (ix1 x) = x0 (ix1 x) := by
  refine scatter_set_miss (putDims N n wf) x0 idx upd (ix1 x) fun k hk => ?_
  rw [eq_ix1 k] at hk
  exact hx _ (k 0).isLt ((put_lands wf idx g hg hg31 (k 0) x).1 hk)

theorem fold_ones {ι : Type} (P : ι → Prop) [DecidablePred P] (l : List ι) (z : ℕ) :
    l.foldl (fun a n => if P n then IntOp.addi a (1#32) else a) (BitVec.ofNat 32 z) = BitVec.ofNat 32 (z + l.countP fun n => decide (P n)) := by
  clear hg hg31
  induction l generalizing z with
  | nil => rfl
  | cons n l ih =>
    rw [List.foldl_cons, List.countP_cons]
    by_cases h : P n
    · rw [if_pos h, show IntOp.addi (BitVec.ofNat 32 z) (1#32) = BitVec.ofNat 32 (z + 1) from (BitVec.ofNat_add z 1).symm, ih]
      simp only [h, decide_true, if_true]
      congr 1; omega
    · rw [if_neg h, ih]
      simp [h]

theorem hist_at (x0 : IVec (shape1 N) 32) (upd : IVec (shape1 n) 32) (x : Fin N) (h0 : x0 (ix1 x) = 0#32) (h1 : ∀ i, upd i = 1#32) :
    Host.scatter (putDims N n wf) IntOp.addi x0 idx upd (ix1 x) = BitVec.ofNat 32 (ct g x.val n) := by
  rw [scatter_at, h0]
  have hf : (fun (a : BitVec 32) (k : Fin (shape1 n).numel) => if (putDims N n wf).resultIdx? ((shape1 n).rowMajor.symm k) idx = some (ix1 x) then IntOp.addi a (upd ((shape1 n).rowMajor.symm k)) else a)
      = fun a k => if g k.val = x.val then IntOp.addi a (1#32) else a := by
    funext a k
    rw [symm1, h1]
    exact if_congr (put_lands wf idx g hg hg31 (k.cast (numel1 n)) x) rfl rfl
  rw [hf]
  refine (fold_ones idx g hg hg31 (fun k : Fin (shape1 n).numel => g k.val = x.val) _ 0).trans ?_
  rw [countP_finRange _ fun i => g i = x.val, numel1, Nat.zero_add]
  rfl

end Put

/-- The stable sort of a vector of words `e`: position `p` of the second result holds the entry `srt n e p`. -/
theorem sort_at {n : ℕ} (e : ℕ → ℕ) (he : ∀ a, e a < 2 ^ 31) (x y : IVec (shape1 n) 32) (cmp : BitVec 32 × BitVec 32 → BitVec 32 × BitVec 32 → BitVec 1)
    (hcmp : ∀ l r, cmp l r = IntOp.cmpi .slt l.1 r.1) (hx : ∀ a : Fin n, x (ix1 a) = BitVec.ofNat 32 (e a.val)) (p : Fin n) :
    (Host.sort2 (shape1 n) 0 cmp x y).2 (ix1 p) = y (ix1 (srt n e p)) := by
  have hd : 0 < (shape1 n).rank := Nat.zero_lt_one
  have al : ∀ c : Fin n, (ix1 p : (shape1 n).Idx).along (⟨0, hd⟩ : Fin (shape1 n).rank) c = ix1 c := fun c =>
    (Shape.Idx.along_rank1 _ c).trans (ofFin_eq_ix1 c)
  unfold Host.sort2
  rw [dif_pos hd]
  refine (congrArg y (al _)).trans ?_
  refine congrArg (fun q => y (ix1 q)) ?_
  refine congrFun (congrArg (sortedFrom (n := n)) (funext fun a => funext fun b => ?_)) p
  have ha := he a.val
  have hb := he b.val
  rw [al a, al b, hcmp, hx, hx, cmpi_slt_ofNat (by omega) (by omega)]
  by_cases h : e a.val < e b.val <;> simp [h]

end Cert.Hand

end
-- ==== Proof.Ref.lean ====
/-
  The reference's result, read at an index: row `dst e a` is the row of the token that assignment `a` belongs to, and a
  row that no assignment names is zero. `e` is the experts that the index words name.
-/
module

public import proofs.«01_k».proof.Proof.Order
public import proofs.«01_k».proof.Proof.Gen.Reference
public import proofs.«01_k».proof.Proof.Gen.Reference.Run
public import Idealize.ShloMosaic.Lib.Pipeline.Value

@[expose] public section

namespace Cert.Reference.Hand

open Idealize.ShloMosaic
open Idealize.ShloMosaic.ValueIdx Idealize.ShloMosaic.Routing Idealize.SL.Sem
open Cert.Reference.Gen Cert.Reference.Value Cert.Hand

variable {F : FTy → Type} [FloatOps F]
variable (V0 : Valuation τ sig (Elt F)) (e : ℕ → ℕ) (he : ∀ a, e a < 32)
  (hi : ∀ a : Fin 131072, (res_main_v2 V0 : IVec S131072 32) (ix1 a) = BitVec.ofNat 32 (e a.val))

/-- The assignment at sorted position `p`. -/
noncomputable def pos (p : Fin 131072) : Fin 131072 := srt 131072 e p

noncomputable def gd (p : ℕ) : ℕ := if h : p < 131072 then dst e (pos e ⟨p, h⟩).val else 0
theorem gd_eq (p : Fin 131072) : gd e p.val = dst e (pos e p).val := dif_pos p.isLt

include he hi

theorem v5_at (p : Fin 131072) : (res_main_v5 V0 : IVec S131072 32) (ix1 p) = BitVec.ofNat 32 (pos e p).val := by
  unfold res_main_v5
  refine (sort_at (n := 131072) e (fun a => by have := he a; omega) (res_main_v2 V0) (res_main_call1_v0 V0) comparator_i32_i32_d0 (fun _ _ => rfl) hi p).trans ?_
  exact iota1_ap _

/-- An index column read from a vector of words below 2³¹, wrapped. -/
theorem col_at (x : IVec S131072 32) (k : BitVec 32) (p : Fin 131072) {a : ℕ} (hx : x (ix1 p) = BitVec.ofNat 32 a) (ha : a < 2 ^ 31) :
    broadcastInDim S131072x1 ![0] bcast_S131072_S131072x1_0 (select (cmpi .slt x (broadcastInDim S131072 ![] bcast_S_S131072 (constantI S_ 32 0#32)))
      (addi x (broadcastInDim S131072 ![] bcast_S_S131072 (constantI S_ 32 k))) x) (ix2 p (0 : Fin 1)) = BitVec.ofNat 32 a := by
  clear he hi
  exact (bcCol bcast_S131072_S131072x1_0 _ p).trans (wrap_at x _ _ (ix1 p) (bc0 _ _ _) hx ha)

theorem v12_at (p : Fin 131072) : (res_main_v12 V0 : IVec S131072 32) (ix1 p) = BitVec.ofNat 32 (e (pos e p).val) := by
  unfold res_main_v12
  have hb := (pos e p).isLt
  exact (gather_take1 gather_S131072_S131072x1_S131072_n_0_n_n_0_1_1 rfl rfl rfl rfl (res_main_v2 V0) _ p (pos e p)
    (col_at V0 e he hi _ _ p (v5_at V0 e he hi p) (by omega)) (by norm_num)).trans (hi _)

theorem v29_at (E : Fin 32) : (res_main_v29 V0 : IVec S32 32) (ix1 E) = BitVec.ofNat 32 (ct e E.val 131072) := by
  have hc : ∀ i : Fin 131072, (res_main_v21 V0 : IVec S131072 32) (ix1 i) = BitVec.ofNat 32 (e i.val) := fun i => by
    have := he i.val
    unfold res_main_v21
    show IntOp.maxsi (broadcastInDim S131072 ![] bcast_S_S131072 (id (constantI S_ 32 0#32)) (ix1 i)) ((res_main_v2 V0 : IVec S131072 32) (ix1 i)) = _
    rw [bc0, hi]
    exact maxsi_zero_left (by omega)
  unfold res_main_v29
  exact hist_at scatter_S32_S131072x1_S131072_n_0_0_1_wf _ e (fun i => col_at V0 e he hi _ _ i (hc i) (by have := he i.val; omega)) (fun i _ => by have := he i; omega) _ _ E
    (bc0 _ _ _) (fun _ => bc0 _ _ _)

theorem v36_at (E : Fin 32) : (res_main_v36 V0 : IVec S32 32) (ix1 E) = BitVec.ofNat 32 (slots e E.val) := by
  have h := slotV_at bcast_S_S32 e (res_main_v29 V0) (v29_at V0 e he hi) E
  exact h

theorem v57_at (p : Fin 131072) : (res_main_v57 V0 : IVec S131072 32) (ix1 p) = BitVec.ofNat 32 (gd e p.val) := by
  have hE := he (pos e p).val
  have hp := srt_pos e p
  have hcol := col_at V0 e he hi (res_main_v12 V0) 32#32 p (v12_at V0 e he hi p) (by omega)
  unfold res_main_v57
  rw [addi_ap, subi_ap, gd_eq]
  have h1 := gather_take1 gather_S32_S131072x1_S131072_n_0_n_n_0_1_1 rfl rfl rfl rfl (startV bcast_S_S_ reduceWindows_S32_S32_w32s1p31_0 h_S_ (res_main_v36 V0)) _ p ⟨_, hE⟩ hcol (by norm_num)
  have h2 := gather_take1 gather_S32_S131072x1_S131072_n_0_n_n_0_1_1 rfl rfl rfl rfl (startV bcast_S_S_ reduceWindows_S32_S32_w32s1p31_0 h_S_ (res_main_v29 V0)) _ p ⟨_, hE⟩ hcol (by norm_num)
  have h3 := startV_at bcast_S_S_ reduceWindows_S32_S32_w32s1p31_0 h_S_ (slots e) (res_main_v36 V0) (v36_at V0 e he hi) ⟨_, hE⟩
  have h4 := startV_at bcast_S_S_ reduceWindows_S32_S32_w32s1p31_0 h_S_ (fun j => ct e j 131072) (res_main_v29 V0) (v29_at V0 e he hi) ⟨_, hE⟩
  refine (congrArg₂ (fun x y : BitVec 32 => x + (iotaInDim S131072 32 0 (ix1 p) - y)) (h1.trans h3) (h2.trans h4)).trans ?_
  show BitVec.ofNat 32 _ + (iotaInDim S131072 32 0 (ix1 p) - BitVec.ofNat 32 (cum (fun j => ct e j 131072) (e (pos e p).val))) = _
  have hle : cum (fun j => ct e j 131072) (e (pos e p).val) ≤ p.val := by unfold pos; omega
  rw [iota1_ap, ofNat32_sub hle, ← BitVec.ofNat_add]
  unfold dst
  refine congrArg (BitVec.ofNat 32) ?_
  show cum (slots e) (e (pos e p).val) + (p.val - cum (fun j => ct e j 131072) (e (pos e p).val)) = _
  unfold pos
  omega

theorem gd_inj : ∀ a < 131072, ∀ b < 131072, gd e a = gd e b → a = b := fun a ha b hb h => by
  rw [show gd e a = _ from gd_eq e ⟨a, ha⟩, show gd e b = _ from gd_eq e ⟨b, hb⟩] at h
  exact congrArg Fin.val (srt_inj e (Fin.ext (dst_inj e (pos e ⟨a, ha⟩).isLt (pos e ⟨b, hb⟩).isLt h)))

theorem gd_lt (p : ℕ) : gd e p < 147456 := by
  unfold gd; split
  · exact dst_lt e he (Fin.isLt _)
  · omega

theorem tok_at (p : Fin 131072) :
    Host.gather gather_S131072_S131072x1_S131072_n_0_n_n_0_1_1 (pyDiv bcast_S_S131072 (iotaInDim S131072 32 0) (constantI S_ 32 4#32))
      (broadcastInDim S131072x1 ![0] bcast_S131072_S131072x1_0 (select (cmpi .slt (res_main_v5 V0) (broadcastInDim S131072 ![] bcast_S_S131072 (constantI S_ 32 0#32)))
        (addi (res_main_v5 V0) (broadcastInDim S131072 ![] bcast_S_S131072 (constantI S_ 32 131072#32))) (res_main_v5 V0))) (ix1 p)
      = BitVec.ofNat 32 ((pos e p).val / 4) := by
  have hb := (pos e p).isLt
  exact (gather_take1 gather_S131072_S131072x1_S131072_n_0_n_n_0_1_1 rfl rfl rfl rfl _ _ p (pos e p)
    (col_at V0 e he hi _ _ p (v5_at V0 e he hi p) (by omega)) (by norm_num)).trans
    (pyDiv_ap bcast_S_S131072 _ _ _ (iota1_ap _) (b := 4) rfl (by omega) (by omega) (by omega))

theorem v65_eq : (res_main_v65 V0 : IVec S147456 32) = Host.scatter (putDims 147456 131072 scatter_S147456_S131072x1_S131072_n_0_0_1_wf) (fun _ b => b)
    (broadcastInDim S147456 ![] bcast_S_S147456 (constantI S_ 32 32768#32))
    (broadcastInDim S131072x1 ![0] bcast_S131072_S131072x1_0 (select (cmpi .slt (res_main_v57 V0) (broadcastInDim S131072 ![] bcast_S_S131072 (constantI S_ 32 0#32)))
        (addi (res_main_v57 V0) (broadcastInDim S131072 ![] bcast_S_S131072 (constantI S_ 32 147456#32))) (res_main_v57 V0)))
    (Host.gather gather_S131072_S131072x1_S131072_n_0_n_n_0_1_1 (pyDiv bcast_S_S131072 (iotaInDim S131072 32 0) (constantI S_ 32 4#32))
      (broadcastInDim S131072x1 ![0] bcast_S131072_S131072x1_0 (select (cmpi .slt (res_main_v5 V0) (broadcastInDim S131072 ![] bcast_S_S131072 (constantI S_ 32 0#32)))
        (addi (res_main_v5 V0) (broadcastInDim S131072 ![] bcast_S_S131072 (constantI S_ 32 131072#32))) (res_main_v5 V0)))) := by
  unfold res_main_v65 res_main_v3 res_main_call0_v0 res_main_call0_v2 pyDiv
  rfl

theorem v65_hit (a : Fin 131072) : (res_main_v65 V0 : IVec S147456 32) (ix1 (⟨dst e a.val, dst_lt e he a.isLt⟩ : Fin 147456)) = BitVec.ofNat 32 (a.val / 4) := by
  obtain ⟨p, rfl⟩ := srt_surj (n := 131072) e a
  rw [v65_eq V0 e he hi]
  exact (put_hit scatter_S147456_S131072x1_S131072_n_0_0_1_wf _ (gd e) (fun i => col_at V0 e he hi _ _ i (v57_at V0 e he hi i) (by have := gd_lt V0 e he hi i.val; omega))
    (fun i _ => by have := gd_lt V0 e he hi i; omega) _ _ p (⟨dst e (pos e p).val, dst_lt e he (pos e p).isLt⟩ : Fin 147456) (gd_eq e p) (gd_inj V0 e he hi)).trans (tok_at V0 e he hi p)

theorem v65_miss (q : Fin 147456) (h : ∀ a < 131072, dst e a ≠ q.val) : (res_main_v65 V0 : IVec S147456 32) (ix1 q) = BitVec.ofNat 32 32768 := by
  rw [v65_eq V0 e he hi]
  exact (put_miss scatter_S147456_S131072x1_S131072_n_0_0_1_wf _ (gd e) (fun i => col_at V0 e he hi _ _ i (v57_at V0 e he hi i) (by have := gd_lt V0 e he hi i.val; omega))
    (fun i _ => by have := gd_lt V0 e he hi i; omega) _ _ q fun i hi => by rw [gd_eq e ⟨i, hi⟩]; exact h _ (Fin.isLt _)).trans (bc0 _ _ _)

omit he hi in
/-- The result as the run states it. -/
noncomputable def out : S147456x512.Idx → Elt F .i32 :=
  Host.gather gather_S32769x512_S147456x1_S147456x512_1_0_n_n_0_1_1512
    (concatenate S32769x512 0 [⟨S32768x512, (V0 (Proc.devRef .tc main_arg2))⟩, ⟨S1x512, (broadcastInDim S1x512 ![] bcast_S_S1x512 (constantI S_ 32 0#32))⟩] concatenates_S32768x512_S1x512_S32769x512_d0)
    (broadcastInDim S147456x1 ![0] bcast_S147456_S147456x1_0 (select (cmpi .slt (res_main_v65 V0) (broadcastInDim S147456 ![] bcast_S_S147456 (constantI S_ 32 0#32)))
      (addi (res_main_v65 V0) (broadcastInDim S147456 ![] bcast_S_S147456 (constantI S_ 32 32769#32))) (res_main_v65 V0)))

omit he hi in
theorem out_row (q : Fin 147456) (y : Fin 512) (b : Fin 32769) (h : (res_main_v65 V0 : IVec S147456 32) (ix1 q) = BitVec.ofNat 32 b.val) :
    out V0 (ix2 q y) = concatenate S32769x512 0 [⟨S32768x512, (V0 (Proc.devRef .tc main_arg2))⟩, ⟨S1x512, (broadcastInDim S1x512 ![] bcast_S_S1x512 (constantI S_ 32 0#32))⟩] concatenates_S32768x512_S1x512_S32769x512_d0 (ix2 b y) := by
  have hb := b.isLt
  exact gather_row gather_S32769x512_S147456x1_S147456x512_1_0_n_n_0_1_1512 rfl rfl rfl rfl rfl _ _ q y b
    ((bcCol bcast_S147456_S147456x1_0 _ q).trans (wrap_at _ _ _ (ix1 q) (bc0 _ _ _) h (by omega))) (by norm_num)

theorem out_hit (a : Fin 131072) (y : Fin 512) :
    out V0 (ix2 (⟨dst e a.val, dst_lt e he a.isLt⟩ : Fin 147456) y) = (V0 (Proc.devRef .tc main_arg2) : S32768x512.Idx → Elt F .i32) (ix2 (⟨a.val / 4, by have := a.isLt; omega⟩ : Fin 32768) y) := by
  have ha := a.isLt
  rw [out_row V0 _ y ⟨a.val / 4, by omega⟩ (v65_hit V0 e he hi a)]
  exact concatenate_pair_apply_left (t := S32769x512) (s₁ := S32768x512) (s₂ := S1x512) (0 : Fin 2) _ _ _ _ rfl _ fun b : Fin 2 => by
    match b with
    | ⟨0, _⟩ => rfl
    | ⟨1, _⟩ => rfl

theorem out_miss (q : Fin 147456) (h : ∀ a < 131072, dst e a ≠ q.val) (y : Fin 512) : out V0 (ix2 q y) = (0#32 : BitVec 32) := by
  rw [out_row V0 _ y ⟨32768, by omega⟩ (v65_miss V0 e he hi q h)]
  refine (concatenate_pair_apply_right (t := S32769x512) (s₁ := S32768x512) (s₂ := S1x512) (0 : Fin 2) _ _ _ _ rfl rfl (ix2 (0 : Fin 1) y) (fun (b : Fin 2) hb => ?_) rfl).trans (bc0 _ _ _)
  match b with
  | ⟨0, _⟩ => exact absurd rfl hb
  | ⟨1, _⟩ => rfl

end Cert.Reference.Hand

end
-- ==== Proof.Join.lean ====
/-
  The dispatch and the reference, at any float values: both end holding the same rows, given that the arrays satisfy the
  precondition.
-/
module

public import proofs.«01_k».proof.Proof.Host
public import proofs.«01_k».proof.Proof.Ref

@[expose] public section

namespace Cert.Join

open Idealize.ShloMosaic hiding ix1 ix2 ix3
open Idealize.ShloMosaic.TcCoe
open Idealize.ShloMosaic.ValueIdx (ix0 ix1 ix2 ix3)
open Idealize.ShloMosaic.Routing Idealize.SL.Sem
open Cert.Hand

attribute [local instance] Cert.Kernel.Gen.facts Cert.Reference.Gen.facts Cert.Pre_routed.Gen.facts

variable {F : FTy → Type} [FloatOps F]
variable (m : (ℓ : Loc Cert.Kernel.nD Cert.Kernel.τ Cert.Kernel.sig) → Buf (Elt F) ℓ) (ρ : Dev Cert.Kernel.nD → PrngReg)
variable (m' : (ℓ : Loc Cert.Reference.nD Cert.Reference.τ Cert.Reference.sig) → Buf (Elt F) ℓ) (ρ' : Dev Cert.Reference.nD → PrngReg)

/-- The precondition at these values: its four results are all ones on every device. -/
def Pre : Prop := ∀ c : Dev Cert.Kernel.nD,
  (Cert.Pre_routed.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
  ∧ (Cert.Pre_routed.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
  ∧ (Cert.Pre_routed.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
  ∧ (Cert.Pre_routed.fn (F := F) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2 = (fun _ => 1#1)

/-- The expert of each assignment, on device `c`. -/
noncomputable abbrev ex (c : Dev Cert.Kernel.nD) : ℕ → ℕ := expert (Cert.Kernel.Hand.wi m c)

theorem routed (h : Pre m) (c : Dev Cert.Kernel.nD) :
    Routed (Cert.Kernel.Hand.wi m c) (Cert.Kernel.Hand.wr m c) (Cert.Kernel.Hand.wc m c) (ex m c) :=
  Cert.Kernel.Hand.wc_eq m c _ _ ▸ Cert.Pre_routed.routed_of _ _ _ (h c).1 (h c).2.1 (h c).2.2.1 (h c).2.2.2

/-- The destinations on the devices. -/
noncomputable abbrev ds (h : Pre m) : Dev Cert.Kernel.nD → Fin 131072 → Fin 147456 :=
  Cert.Kernel.Hand.dest (ex m) fun c => (routed m h c).lt

theorem runK (h : Pre m) : θ_run Cert.Kernel.defs (onTc (τ := Cert.Kernel.τ) (Cert.Kernel.main (F := F))) ⟨m, fun _ => 0, ρ⟩ (fun r =>
    (∀ c : Dev Cert.Kernel.nD, r.2.mem ((c : Thread Cert.Kernel.nD Cert.Kernel.τ).loc Cert.Kernel.main_v26) = Cert.Kernel.Hand.outAt m (ds m h) c 64
      ∧ r.2.mem ((c : Thread Cert.Kernel.nD Cert.Kernel.τ).loc Cert.Kernel.main_arg0) = m ((c : Thread Cert.Kernel.nD Cert.Kernel.τ).loc Cert.Kernel.main_arg0)
      ∧ r.2.mem ((c : Thread Cert.Kernel.nD Cert.Kernel.τ).loc Cert.Kernel.main_arg1) = m ((c : Thread Cert.Kernel.nD Cert.Kernel.τ).loc Cert.Kernel.main_arg1)
      ∧ r.2.mem ((c : Thread Cert.Kernel.nD Cert.Kernel.τ).loc Cert.Kernel.main_arg2) = m ((c : Thread Cert.Kernel.nD Cert.Kernel.τ).loc Cert.Kernel.main_arg2))
    ∧ r.2.sem = fun _ => 0) :=
  Cert.Kernel.Hand.run m ρ (ds m h) (Cert.Kernel.Hand.entry (routed m h))

theorem rows_eq (h : Pre m) (c : Dev Cert.Kernel.nD) (V0 : Valuation Cert.Reference.τ Cert.Reference.sig (Elt F))
    (h0 : V0 (Proc.devRef .tc Cert.Reference.main_arg0) = m ((c : Thread Cert.Kernel.nD Cert.Kernel.τ).loc Cert.Kernel.main_arg0))
    (h2 : V0 (Proc.devRef .tc Cert.Reference.main_arg2) = m ((c : Thread Cert.Kernel.nD Cert.Kernel.τ).loc Cert.Kernel.main_arg2)) :
    (Cert.Reference.Hand.out V0 : (shape2 147456 512).Idx → BitVec 32) = Cert.Kernel.Hand.outAt m (ds m h) c 64 := by
  have he := (routed m h c).lt
  have hi : ∀ a : Fin 131072, (Cert.Reference.Value.res_main_v2 V0 : IVec (shape1 131072) 32) (ix1 a) = BitVec.ofNat 32 (ex m c a.val) := by
    intro a
    have ha := a.isLt
    unfold Cert.Reference.Value.res_main_v2
    refine (cast21 _ _ (⟨a.val / 4, by omega⟩ : Fin 32768) (⟨a.val % 4, by omega⟩ : Fin 4) a (by show a.val = a.val / 4 * 4 + a.val % 4; omega)).trans ?_
    have hr := (routed m h c).idx ⟨a.val / 4, by omega⟩ ⟨a.val % 4, by omega⟩
    have e1 : 4 * (a.val / 4) + a.val % 4 = a.val := by omega
    simp only [e1] at hr
    rw [h0]
    exact hr
  have hinj : Function.Injective (ds m h c) := (Cert.Kernel.Hand.entry (routed m h)).inj c
  funext i
  have hmain (q : Fin 147456) (y : Fin 512) : (Cert.Reference.Hand.out V0 : (shape2 147456 512).Idx → BitVec 32) (ix2 q y) = Cert.Kernel.Hand.outAt m (ds m h) c 64 (ix2 q y) := by
    unfold Cert.Kernel.Hand.outAt
    by_cases hq : ∃ a : Fin 131072, ds m h c a = q
    · obtain ⟨a, ha⟩ := hq
      refine Eq.trans ?_ (Cert.Kernel.Hand.scat_hit _ _ hinj (2048 * 64) a (by have := a.isLt; omega) (ix2 q y) ha).symm
      subst ha
      refine (Cert.Reference.Hand.out_hit V0 (ex m c) he hi a y).trans ?_
      rw [h2, Cert.Kernel.Gen.V_main_arg2]
      rfl
    · refine Eq.trans ?_ (Cert.Kernel.Hand.scat_miss _ _ (2048 * 64) (ix2 q y) fun a _ h => hq ⟨a, h⟩).symm
      rw [Cert.Kernel.Hand.V_v26]
      exact Cert.Reference.Hand.out_miss V0 (ex m c) he hi q (fun a ha h => hq ⟨⟨a, ha⟩, Fin.ext h⟩) y
  have e := hmain (i 0) (i 1)
  exact (congrArg _ (ValueIdx.eq_ix2 i)).trans (e.trans (congrArg _ (ValueIdx.eq_ix2 i).symm))

theorem runR : θ_run Cert.Reference.defs (onTc (τ := Cert.Reference.τ) (Cert.Reference.main (F := F))) ⟨m', fun _ => 0, ρ'⟩ (fun r =>
    (∀ c : Dev Cert.Reference.nD, r.2.mem ((c : Thread Cert.Reference.nD Cert.Reference.τ).loc Cert.Reference.main_v74) = Cert.Reference.Hand.out (StableHlo.launchContents m' c)
      ∧ r.2.mem ((c : Thread Cert.Reference.nD Cert.Reference.τ).loc Cert.Reference.main_arg0) = m' ((c : Thread Cert.Reference.nD Cert.Reference.τ).loc Cert.Reference.main_arg0)
      ∧ r.2.mem ((c : Thread Cert.Reference.nD Cert.Reference.τ).loc Cert.Reference.main_arg1) = m' ((c : Thread Cert.Reference.nD Cert.Reference.τ).loc Cert.Reference.main_arg1)
      ∧ r.2.mem ((c : Thread Cert.Reference.nD Cert.Reference.τ).loc Cert.Reference.main_arg2) = m' ((c : Thread Cert.Reference.nD Cert.Reference.τ).loc Cert.Reference.main_arg2))
    ∧ r.2.sem = fun _ => 0) :=
  (θ_run Cert.Reference.defs _ _).mono (fun r h => ⟨h, sem_eq_zero_of_no_sems (by decide) r.2⟩) (Cert.Reference.Value.run m' ρ')

/-- From memories that agree on the arguments, both end with one result and unchanged arguments. -/
theorem pair (h : Pre m) (ha : ∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) :
    ∃ v0 : (c : Dev Cert.Kernel.nD) → Buf (Elt F) ((c.tc : Thread Cert.Kernel.nD Cert.Kernel.τ).loc Cert.Kernel.main_v26),
      θ_run Cert.Kernel.defs (onTc (τ := Cert.Kernel.τ) (Cert.Kernel.main (F := F))) ⟨m, fun _ => 0, ρ⟩ (fun r => ∀ c : Dev Cert.Kernel.nD,
          r.2.mem ((c.tc : Thread Cert.Kernel.nD Cert.Kernel.τ).loc Cert.Kernel.main_v26) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run Cert.Reference.defs (onTc (τ := Cert.Reference.τ) (Cert.Reference.main (F := F))) ⟨m', fun _ => 0, ρ'⟩ (fun r => ∀ c : Dev Cert.Reference.nD,
          r.2.mem ((c.tc : Thread Cert.Reference.nD Cert.Reference.τ).loc Cert.Reference.main_v74) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)) :=
  ⟨fun c => Cert.Kernel.Hand.outAt m (ds m h) c 64,
    (θ_run Cert.Kernel.defs _ _).mono (fun _ H => H.1) (runK m ρ h),
    (θ_run Cert.Reference.defs _ _).mono (fun _ H c => ⟨(H.1 c).1.trans (rows_eq m h c _ (ha c).1 (ha c).2.2), (H.1 c).2⟩) (runR m' ρ')⟩

end Cert.Join

end
-- ==== Proof.Same.lean ====
/-
  The two printed programs have one text: what is run of `Kernel` is run of `KernelIdeal`.
-/
module

public import proofs.«01_k».proof.Defs
public import proofs.«01_k».proof.Proof.Gen.Kernel
public import proofs.«01_k».proof.Proof.Gen.KernelIdeal

@[expose] public section

namespace Cert.Same

open Idealize.ShloMosaic Idealize.ShloMosaic.TcCoe
open Idealize.SL.Sem

attribute [local instance] Cert.Kernel.Gen.facts Cert.KernelIdeal.Gen.facts
variable {F : FTy → Type} [FloatOps F]

set_option maxHeartbeats 2000000 in
theorem main_eq : (Cert.KernelIdeal.main (F := F)) = Cert.Kernel.main (F := F) := rfl

theorem defs₀_eq : Cert.KernelIdeal.defs₀ (F := F) = Cert.Kernel.defs₀ (F := F) := by
  refine congrArg Defs.onTc (funext fun l => funext fun p => ?_)
  match l, p with
  | ⟨0, _⟩, (t, s) => rfl

theorem pcfgs_eq : Cert.KernelIdeal.pcfgs (F := F) = Cert.Kernel.pcfgs (F := F) := rfl

theorem defs_eq : Cert.KernelIdeal.defs (F := F) = Cert.Kernel.defs (F := F) :=
  congrArg (Pipeline.defs (Cert.Kernel.pcfgs (F := F))) defs₀_eq

theorem of_kernel {s : MemSt Cert.Kernel.nD Cert.Kernel.τ Cert.Kernel.sig (Elt F)} {Q : PUnit × MemSt Cert.Kernel.nD Cert.Kernel.τ Cert.Kernel.sig (Elt F) → Prop}
    (h : θ_run (Cert.Kernel.defs (F := F)) (onTc (τ := Cert.Kernel.τ) (Cert.Kernel.main (F := F))) s Q) :
    θ_run (Cert.KernelIdeal.defs (F := F)) (onTc (τ := Cert.KernelIdeal.τ) (Cert.KernelIdeal.main (F := F))) s Q := by
  rw [defs_eq, main_eq]
  exact h

end Cert.Same

end
-- ==== Proof.ExBody.lean ====
module

public import proofs.«01_k».proof.Proof.Gen.Kernel2.Skeleton
public import proofs.«01_k».proof.Proof.Gen.Kernel2.Launch
public import Idealize.ShloMosaic.Lib.Pipeline.TableIdle
public import Idealize.ShloMosaic.Lib.Pipeline.FrameSuffix
public import Idealize.ShloMosaic.Lib.Tactic
public import Idealize.ShloMosaic.Lib.VecWindow

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

attribute [local instance] Cert.Kernel2.Gen.facts

abbrev pt {sp : Space} {sh : Shape} {e : EltTy} (c : Dev nD) (m : Memref sig .tc sp sh e) (q : PosShare TreeShare) (X : sh.Idx → Elt F e) : sProp 𝕄 :=
  owns (c : Thread nD τ) m q X

/-- A block's packed rows through an expert. -/
def blockPay (x : Vec F S512x512 .i32) (w1 : Vec F S1024x1024 .bf16) (b1 : Vec F S1x1x1024 .f32) (w2 : Vec F S1024x1024 .bf16)
    (b2 : Vec F S1x1x1024 .f32) (w3 : Vec F S1024x1024 .bf16) (b3 : Vec F S1x1x1024 .f32) : FVec F S512x1024 .bf16 :=
  k0_pay4 (k0_pay5 x w1 b1 w2 b2) w3 (constant S512x1024 .f32 0x00000000#32) b3

section
variable (c : Dev nD) (i : grid0.Coords)
  (arg1 : Memref sig .tc .smem S288 .i32) (harg1 : arg1.IsWhole) (arg2 : Memref sig .tc .smem S1 .i32) (harg2 : arg2.IsWhole)
  (arg3 : Memref sig .tc .vmem S512x512 .i32) (harg3 : arg3.IsWhole)
  (arg4 : Memref sig .tc .vmem S1x1024x1024 .f32) (harg4 : arg4.IsWhole) (arg5 : Memref sig .tc .vmem S1x1024x1024 .f32) (harg5 : arg5.IsWhole)
  (arg6 : Memref sig .tc .vmem S1x1024x1024 .f32) (harg6 : arg6.IsWhole)
  (arg7 : Memref sig .tc .vmem S1x1x1024 .f32) (harg7 : arg7.IsWhole) (arg8 : Memref sig .tc .vmem S1x1x1024 .f32) (harg8 : arg8.IsWhole)
  (arg9 : Memref sig .tc .vmem S1x1x1024 .f32) (harg9 : arg9.IsWhole) (arg10 : Memref sig .tc .vmem S512x1024 .bf16) (harg10 : arg10.IsWhole)
  (arg11 : Memref sig .tc .vmem S1024x1024 .bf16) (harg11 : arg11.IsWhole) (arg12 : Memref sig .tc .vmem S1024x1024 .bf16) (harg12 : arg12.IsWhole)
  (arg13 : Memref sig .tc .vmem S1024x1024 .bf16) (harg13 : arg13.IsWhole)
  (q : PosShare TreeShare) (T1 : S288.Idx → Elt F .i32) (T2 : S1.Idx → Elt F .i32)
  (x : S512x512.Idx → Elt F .i32) (wg wu wd : S1x1024x1024.Idx → Elt F .f32) (bg bu bd : S1x1x1024.Idx → Elt F .f32)
  (y : S512x1024.Idx → Elt F .bf16) (s1 s2 s3 : S1024x1024.Idx → Elt F .bf16)

abbrev kbody : Prog (TpuEff nD τ sig (Elt F) Λ₀ .tc) PUnit :=
  cc0_moe_experts (F := F) i arg1 harg1 arg2 harg2 arg3 harg3 arg4 harg4 arg5 harg5 arg6 harg6 arg7 harg7 arg8 harg8 arg9 harg9 arg10 harg10 arg11 harg11 arg12 harg12 arg13 harg13

theorem pt_of_read {sp : Space} {sh : Shape} {e : EltTy} (m : Memref sig .tc sp sh e) (q : PosShare TreeShare) (X : sh.Idx → Elt F e)
    (f : Buf (Elt F) (m.view.loc (c : Thread nD τ))) (h : m.view.read (Elt F) f = X) :
    (m.view.loc (c : Thread nD τ) ↦[m.view.set]{q} f : sProp 𝕄) ⊢ (m.view.loc (c : Thread nD τ) ↦[m.view.set]{q} m.view.rep X : sProp 𝕄) := by
  rw [← owns_eq_rep]
  unfold owns
  iintro H; iexists f; isplitr; · ipureintro; exact h
  iexact H

def cond1 (v0 v4 v7 : BitVec 32) : BitVec 1 :=
  Scalar.cmpi .ne (Scalar.extui (Scalar.andi (Scalar.cmpi .slt (BitVec.ofNat 32 (i 0).val) v0) (Scalar.ori (Scalar.cmpi .eq (BitVec.ofNat 32 (i 0).val) 0#32) (Scalar.cmpi .ne v7 v4))) : BitVec 32) 0#32

def ld2 : BitVec 32 := View.readAt (Elt F) arg2.view (Rect.unit (s := S1) ![0] S1.size inb_S1_S1_0).toLoadRect (arg2.view.rep T2) (Shape.Idx.first (numel1_S1 ▸ Nat.one_pos))
def ldCur : BitVec 32 := View.readAt (Elt F) arg1.view (Rect.unit (s := S288) (k0_off1 i) S1.size (k0_off1_inb i)).toLoadRect (arg1.view.rep T1) (Shape.Idx.first (numel1_S1 ▸ Nat.one_pos))
def ldPrev : BitVec 32 := View.readAt (Elt F) arg1.view (Rect.unit (s := S288) (k0_off2 i) S1.size (k0_off2_inb i)).toLoadRect (arg1.view.rep T1) (Shape.Idx.first (numel1_S1 ▸ Nat.one_pos))

theorem switch_run (h1 : cond1 i (ld2 arg2 T2) (ldPrev i arg1 T1) (ldCur i arg1 T1) = 1#1) (h2 : k0_cond2 i (ld2 arg2 T2) = 1#1) :
    iprop(pt c arg1 q T1 ∗ pt c arg2 q T2 ∗ pt c arg3 fullShare x ∗ pt c arg4 fullShare wg ∗ pt c arg5 fullShare wu ∗ pt c arg6 fullShare wd
        ∗ pt c arg7 fullShare bg ∗ pt c arg8 fullShare bu ∗ pt c arg9 fullShare bd ∗ pt c arg10 fullShare y
        ∗ pt c arg11 fullShare s1 ∗ pt c arg12 fullShare s2 ∗ pt c arg13 fullShare s3)
      ⊢ wp frame (wpE (defs₀ (F := F)) Variants.none c none) Set.univ
      (kbody i arg1 harg1 arg2 harg2 arg3 harg3 arg4 harg4 arg5 harg5 arg6 harg6 arg7 harg7 arg8 harg8 arg9 harg9 arg10 harg10 arg11 harg11 arg12 harg12 arg13 harg13)
      (fun _ => iprop(pt c arg1 q T1 ∗ pt c arg2 q T2 ∗ pt c arg3 fullShare x ∗ pt c arg4 fullShare wg ∗ pt c arg5 fullShare wu ∗ pt c arg6 fullShare wd
        ∗ pt c arg7 fullShare bg ∗ pt c arg8 fullShare bu ∗ pt c arg9 fullShare bd
        ∗ pt c arg10 fullShare (blockPay x (k0_pay1 wg) bg (k0_pay2 wu) bu (k0_pay3 wd) bd)
        ∗ pt c arg11 fullShare (k0_pay1 wg) ∗ pt c arg12 fullShare (k0_pay2 wu) ∗ pt c arg13 fullShare (k0_pay3 wd))) := by
  unfold kbody pt
  simp only [owns_eq_rep]
  rw [cc0_moe_experts_eq_skeleton]
  unfold cc0_moe_experts_skel
  simp only [k0_part1_eq_skeleton, k0_part1_skel]
  iintro ⟨H1, H2, H3, H4, H5, H6, H7, H8, H9, H10, H11, H12, H13⟩
  sl_exec
  rw [wp_ret]
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (pt_of_read c arg10 fullShare _ _ ((View.read_writes_full _ _ _ _ _).trans (by
      delta switch_run.sl.v28 switch_run.sl.v36 switch_run.sl.v54
      rw [View.readAt_rep_full arg3.view x, View.readAt_rep_full arg7.view bg, View.readAt_rep_full arg8.view bu, View.readAt_rep_full arg9.view bd]
      have e1 : switch_run.sl.v26 arg4 arg11 wg = k0_pay1 wg := by
        delta switch_run.sl.v26 switch_run.sl.H11_1
        exact (View.readCov_full _ _ _ _ _).trans (congrArg _ (View.readAt_rep_full arg4.view wg _))
      have e2 : switch_run.sl.v34 arg5 arg12 wu = k0_pay2 wu := by
        delta switch_run.sl.v34 switch_run.sl.H12_1
        exact (View.readCov_full _ _ _ _ _).trans (congrArg _ (View.readAt_rep_full arg5.view wu _))
      have e3 : switch_run.sl.v52 arg6 arg13 wd = k0_pay3 wd := by
        delta switch_run.sl.v52 switch_run.sl.H13_1
        exact (View.readCov_full _ _ _ _ _).trans (congrArg _ (View.readAt_rep_full arg6.view wd _))
      rw [e1, e2, e3]
      rfl))) $$ H10
  isplitl [H11]; · iapply (pt_of_read c arg11 fullShare _ _ (by delta switch_run.sl.H11_1; exact (View.read_writes_full _ _ _ _ _).trans (congrArg _ (View.readAt_rep_full arg4.view wg _)))) $$ H11
  isplitl [H12]; · iapply (pt_of_read c arg12 fullShare _ _ (by delta switch_run.sl.H12_1; exact (View.read_writes_full _ _ _ _ _).trans (congrArg _ (View.readAt_rep_full arg5.view wu _)))) $$ H12
  iapply (pt_of_read c arg13 fullShare _ _ (by delta switch_run.sl.H13_1; exact (View.read_writes_full _ _ _ _ _).trans (congrArg _ (View.readAt_rep_full arg6.view wd _)))) $$ H13

theorem stay_run (h1 : ¬ cond1 i (ld2 arg2 T2) (ldPrev i arg1 T1) (ldCur i arg1 T1) = 1#1) (h2 : k0_cond2 i (ld2 arg2 T2) = 1#1) :
    iprop(pt c arg1 q T1 ∗ pt c arg2 q T2 ∗ pt c arg3 fullShare x
        ∗ pt c arg7 fullShare bg ∗ pt c arg8 fullShare bu ∗ pt c arg9 fullShare bd ∗ pt c arg10 fullShare y
        ∗ pt c arg11 fullShare s1 ∗ pt c arg12 fullShare s2 ∗ pt c arg13 fullShare s3)
      ⊢ wp frame (wpE (defs₀ (F := F)) Variants.none c none) Set.univ
      (kbody i arg1 harg1 arg2 harg2 arg3 harg3 arg4 harg4 arg5 harg5 arg6 harg6 arg7 harg7 arg8 harg8 arg9 harg9 arg10 harg10 arg11 harg11 arg12 harg12 arg13 harg13)
      (fun _ => iprop(pt c arg1 q T1 ∗ pt c arg2 q T2 ∗ pt c arg3 fullShare x
        ∗ pt c arg7 fullShare bg ∗ pt c arg8 fullShare bu ∗ pt c arg9 fullShare bd
        ∗ pt c arg10 fullShare (blockPay x s1 bg s2 bu s3 bd)
        ∗ pt c arg11 fullShare s1 ∗ pt c arg12 fullShare s2 ∗ pt c arg13 fullShare s3)) := by
  unfold kbody pt
  simp only [owns_eq_rep]
  rw [cc0_moe_experts_eq_skeleton]
  unfold cc0_moe_experts_skel
  simp only [k0_part1_eq_skeleton, k0_part1_skel]
  iintro ⟨H1, H2, H3, H7, H8, H9, H10, H11, H12, H13⟩
  sl_exec
  rw [wp_ret]
  isplitl [H1]; · iexact H1
  isplitl [H2]; · iexact H2
  isplitl [H3]; · iexact H3
  isplitl [H7]; · iexact H7
  isplitl [H8]; · iexact H8
  isplitl [H9]; · iexact H9
  isplitl [H10]
  · iapply (pt_of_read c arg10 fullShare _ _ ((View.read_writes_full _ _ _ _ _).trans (by
      delta stay_run.sl.v28 stay_run.sl.v36 stay_run.sl.v54
      rw [View.readAt_rep_full arg3.view x, View.readAt_rep_full arg11.view s1, View.readAt_rep_full arg12.view s2, View.readAt_rep_full arg13.view s3,
        View.readAt_rep_full arg7.view bg, View.readAt_rep_full arg8.view bu, View.readAt_rep_full arg9.view bd]
      rfl))) $$ H10
  isplitl [H11]; · iexact H11
  isplitl [H12]; · iexact H12
  iexact H13

theorem idle_run (h1 : ¬ cond1 i (ld2 arg2 T2) (ldPrev i arg1 T1) (ldCur i arg1 T1) = 1#1) (h2 : ¬ k0_cond2 i (ld2 arg2 T2) = 1#1) :
    iprop(pt c arg1 q T1 ∗ pt c arg2 q T2)
      ⊢ wp frame (wpE (defs₀ (F := F)) Variants.none c none) Set.univ
      (kbody i arg1 harg1 arg2 harg2 arg3 harg3 arg4 harg4 arg5 harg5 arg6 harg6 arg7 harg7 arg8 harg8 arg9 harg9 arg10 harg10 arg11 harg11 arg12 harg12 arg13 harg13)
      (fun _ => iprop(pt c arg1 q T1 ∗ pt c arg2 q T2)) := by
  unfold kbody pt
  simp only [owns_eq_rep]
  rw [cc0_moe_experts_eq_skeleton]
  unfold cc0_moe_experts_skel
  simp only [k0_part1_eq_skeleton, k0_part1_skel]
  iintro ⟨H1, H2⟩
  sl_exec
  rw [wp_ret]
  isplitl [H1]; · iexact H1
  iexact H2
end
end Cert.Kernel2.Hand
end
-- ==== Proof.ExTables.lean ====
/-
  The experts' call: what its index maps, its conditions and its side condition come to, the two prefetched tables given
  as numbers (the expert of every block, the number of blocks in use).
-/
module

public import proofs.«01_k».proof.Proof.ExBody
public import Idealize.ShloMosaic.Lib.Pointwise.Index

@[expose] public section

noncomputable section

namespace Cert.Kernel2.Hand

open Cert.Kernel2 Cert.Kernel2.Gen
open Idealize.ShloMosaic Idealize.ShloMosaic.TcCoe Idealize.ShloMosaic.Tactic
open Idealize.SL Idealize.SL.Sem

variable {F : FTy → Type} [FloatOps F]

attribute [local instance] Cert.Kernel2.Gen.facts

/-- The tables as numbers. -/
structure Tabs (pf : pre0.Contents (Elt F)) (tb : Fin 288 → Fin 32) (nu : ℕ) : Prop where
  pos : 1 ≤ nu
  le : nu ≤ 288
  cur : ∀ i : Fin 288, (pf 0 : S288.Idx → Elt F .i32) (ix1 i) = BitVec.ofNat 32 (tb i).val
  cnt : (pf 1 : S1.Idx → Elt F .i32) (ix1 0) = BitVec.ofNat 32 nu

section
variable {pf : pre0.Contents (Elt F)} {tb : Fin 288 → Fin 32} {nu : ℕ} (T : Tabs pf tb nu) (i : grid0.Coords)

/-- A point of the grid. -/
abbrev pnt (i : grid0.Coords) : Fin 288 := i 0

theorem pred_val {n : ℕ} (h1 : 1 ≤ n) (h2 : n ≤ 288) : Scalar.subi (BitVec.ofNat 32 n) 1#32 = BitVec.ofNat 32 (n - 1) := by
  obtain ⟨k, rfl⟩ : ∃ k, n = k + 1 := ⟨n - 1, by omega⟩
  show BitVec.ofNat 32 (k + 1) - 1#32 = _
  apply BitVec.eq_of_toNat_eq
  simp only [BitVec.toNat_sub, BitVec.toNat_ofNat]
  omega

theorem toInt_small {a : ℕ} (ha : a ≤ 288) : (BitVec.ofNat 32 a).toInt = (a : ℤ) := by
  rw [BitVec.toInt_eq_toNat_of_lt] <;> rw [BitVec.toNat_ofNat, Nat.mod_eq_of_lt (by omega)]
  omega

theorem slt_small {a b : ℕ} (ha : a ≤ 288) (hb : b ≤ 288) : (BitVec.ofNat 32 a).slt (BitVec.ofNat 32 b) = decide (a < b) := by
  rw [BitVec.slt, toInt_small ha, toInt_small hb]
  exact decide_eq_decide.2 (by omega)

theorem min_small {a b : ℕ} (ha : a ≤ 288) (hb : b ≤ 288) : (Scalar.minsi (BitVec.ofNat 32 a) (BitVec.ofNat 32 b)).toNat = min a b := by
  unfold Scalar.minsi IntOp.minsi
  rw [slt_small ha hb]
  by_cases h : a < b
  · rw [if_pos (decide_eq_true h), BitVec.toNat_ofNat]; omega
  · rw [if_neg (by simpa using h), BitVec.toNat_ofNat]; omega

theorem bit_ne (b : Bool) : Scalar.cmpi CmpIPredicate.ne (Scalar.extui (BitVec.ofBool b)) 0#32 = 1#1 ↔ b = true := by
  cases b <;> decide

include T in
theorem at_cnt (inb) (h1) : pf.at 1 (Rect.unit (s := S1) ![0] S1.size inb) h1 = BitVec.ofNat 32 nu :=
  (congrArg (pf 1 : S1.Idx → Elt F .i32) (funext fun a => by
    match a with | ⟨0, _⟩ => exact Subsingleton.elim (α := Fin 1) _ _)).trans T.cnt

include T in
theorem at_cur {o : ℕ} (ho : o < 288) (inb) (h1) : pf.at 0 (Rect.unit (s := S288) ![o] S1.size inb) h1 = BitVec.ofNat 32 (tb ⟨o, ho⟩).val :=
  (congrArg (pf 0 : S288.Idx → Elt F .i32) (funext fun a => by
    match a with
    | ⟨0, _⟩ =>
      apply Fin.ext
      exact (Rect.emb_apply _ _ _).trans (by show o + 0 * 1 = o; omega))).trans (T.cur ⟨o, ho⟩)

include T in
theorem tr0 : cc0_transform_0 inb_S1_S1_0 numel1_S1 pf i = ![min (i 0).val (nu - 1), 0] := by
  have hi : (i 0).val < 288 := (i 0).isLt
  have hle := T.le
  unfold cc0_transform_0
  refine (congrArg (fun w : BitVec 32 => ![(Scalar.minsi (BitVec.ofNat 32 (i 0).val) (Scalar.subi w 1#32)).toNat, 0]) (at_cnt T _ _)).trans ?_
  rw [pred_val T.pos T.le, min_small (by omega) (by omega)]

include T in
theorem tr7 : cc0_transform_7 inb_S1_S1_0 numel1_S1 pf i = ![min (i 0).val (nu - 1), 0] := tr0 T i

theorem off_val : (Scalar.indexCast (BitVec.ofNat 32 (i 0).val)).toNat = (i 0).val := by
  have hi : (i 0).val < 288 := (i 0).isLt
  show (BitVec.ofNat 32 (i 0).val).toNat = _
  rw [BitVec.toNat_ofNat]; omega

include T in
theorem tr1 : cc0_transform_1 k0_off1_inb numel1_S1 pf i = ![(tb (i 0)).val, 0, 0] := by
  have hi : (i 0).val < 288 := (i 0).isLt
  have ht := (tb (i 0)).isLt
  unfold cc0_transform_1
  have e : ∀ (o : ℕ) (ho : o = (i 0).val) (inb), pf.at 0 (Rect.unit (s := S288) ![o] S1.size inb) numel1_S1 = BitVec.ofNat 32 (tb (i 0)).val := by
    rintro o rfl inb
    exact at_cur T hi inb _
  refine (congrArg (fun w : BitVec 32 => ![w.toNat, 0, 0]) (e _ (off_val i) _)).trans ?_
  rw [BitVec.toNat_ofNat, Nat.mod_eq_of_lt (by omega)]

theorem cond2_iff {n : ℕ} (hn : n ≤ 288) : k0_cond2 i (BitVec.ofNat 32 n) = 1#1 ↔ (i 0).val < n := by
  have hi : (i 0).val < 288 := (i 0).isLt
  unfold k0_cond2
  show Scalar.cmpi CmpIPredicate.ne (Scalar.extui (BitVec.ofBool ((BitVec.ofNat 32 (i 0).val).slt (BitVec.ofNat 32 n)))) 0#32 = 1#1 ↔ _
  rw [bit_ne, slt_small (by omega) hn, decide_eq_true_iff]

theorem beq_small {a b : ℕ} (ha : a ≤ 288) (hb : b ≤ 288) : (BitVec.ofNat 32 a == BitVec.ofNat 32 b) = decide (a = b) := by
  by_cases h : a = b
  · subst h; simp
  · have : BitVec.ofNat 32 a ≠ BitVec.ofNat 32 b := fun e => h (by
      have := congrArg BitVec.toNat e
      rw [BitVec.toNat_ofNat, BitVec.toNat_ofNat] at this; omega)
    simp [h, this]

theorem cond1_iff {n p q : ℕ} (hn : n ≤ 288) (hp : p ≤ 288) (hq : q ≤ 288) :
    cond1 i (BitVec.ofNat 32 n) (BitVec.ofNat 32 p) (BitVec.ofNat 32 q) = 1#1 ↔ (i 0).val < n ∧ ((i 0).val = 0 ∨ q ≠ p) := by
  have hi : (i 0).val < 288 := (i 0).isLt
  unfold cond1
  have e : Scalar.andi (Scalar.cmpi .slt (BitVec.ofNat 32 (i 0).val) (BitVec.ofNat 32 n))
      (Scalar.ori (Scalar.cmpi .eq (BitVec.ofNat 32 (i 0).val) (BitVec.ofNat 32 0)) (Scalar.cmpi .ne (BitVec.ofNat 32 q) (BitVec.ofNat 32 p)))
      = BitVec.ofBool (decide ((i 0).val < n) && (decide ((i 0).val = 0) || !decide (q = p))) := by
    show IntOp.andi (BitVec.ofBool ((BitVec.ofNat 32 (i 0).val).slt (BitVec.ofNat 32 n)))
      (IntOp.ori (BitVec.ofBool (BitVec.ofNat 32 (i 0).val == BitVec.ofNat 32 0)) (BitVec.ofBool (BitVec.ofNat 32 q != BitVec.ofNat 32 p))) = _
    rw [slt_small (by omega) hn, beq_small (by omega) (by omega), bne, beq_small hq hp]
    generalize decide ((i 0).val < n) = x
    generalize decide ((i 0).val = 0) = y
    generalize decide (q = p) = z
    revert x y z; decide
  refine (show _ ↔ _ from Iff.of_eq (congrArg (fun w => Scalar.cmpi CmpIPredicate.ne (Scalar.extui w) 0#32 = 1#1) e)).trans ?_
  rw [bit_ne]
  simp

include T in
theorem ok : ok0 pf := by
  have hrow : ∀ i : grid0.Coords, min (i 0).val (nu - 1) < 288 := fun i => lt_of_le_of_lt (Nat.min_le_left _ _) (i 0).isLt
  have r0 : ∀ (g : grid0.Coords → Fin 2 → ℕ) (hg : ∀ i, g i = ![min (i 0).val (nu - 1), 0]) (i : grid0.Coords),
      ∃ h : (∀ a, (g i a + 1) * S512x1024.size a ≤ S147456x1024.size a),
        EltTy.bits .bf16 = 32 ∨ (Rect.block (s := S147456x1024) S512x1024.size (g i) h).WholeWords (EltTy.packing .bf16) := by
    intro g hg i
    have hr := hrow i
    rw [hg i]
    refine ⟨fun a => ?_, .inr (.inl (.inr ⟨by decide, rfl, .inl ⟨?_, ?_⟩⟩))⟩
    · match a with
      | ⟨0, _⟩ => show (min (i 0).val (nu - 1) + 1) * 512 ≤ 147456; omega
      | ⟨1, _⟩ => show (0 + 1) * 1024 ≤ 1024; omega
    · show 2 ∣ min (i 0).val (nu - 1) * 512
      omega
    · show 2 ∣ 512
      decide
  have rp : ∀ (g : grid0.Coords → Fin 2 → ℕ) (hg : ∀ i, g i = ![min (i 0).val (nu - 1), 0]) (i : grid0.Coords),
      ∃ h : (∀ a, (g i a + 1) * S512x512.size a ≤ S147456x512.size a),
        EltTy.bits .i32 = 32 ∨ (Rect.block (s := S147456x512) S512x512.size (g i) h).WholeWords (EltTy.packing .i32) := by
    intro g hg i
    have hr := hrow i
    rw [hg i]
    refine ⟨fun a => ?_, .inl rfl⟩
    match a with
    | ⟨0, _⟩ => show (min (i 0).val (nu - 1) + 1) * 512 ≤ 147456; omega
    | ⟨1, _⟩ => show (0 + 1) * 512 ≤ 512; omega
  have r1 : ∀ (g : grid0.Coords → Fin 3 → ℕ) (hg : ∀ i, g i = ![(tb (i 0)).val, 0, 0]) (i : grid0.Coords)
      (q : Prop), ∃ h : (∀ a, (g i a + 1) * S1x1024x1024.size a ≤ S32x1024x1024.size a),
        EltTy.bits .f32 = 32 ∨ (Rect.block (s := S32x1024x1024) S1x1024x1024.size (g i) h).WholeWords (EltTy.packing .f32) := by
    intro g hg i q
    have ht := (tb (i 0)).isLt
    rw [hg i]
    refine ⟨fun a => ?_, .inl rfl⟩
    match a with
    | ⟨0, _⟩ => show ((tb (i 0)).val + 1) * 1 ≤ 32; omega
    | ⟨1, _⟩ => show (0 + 1) * 1024 ≤ 1024; omega
    | ⟨2, _⟩ => show (0 + 1) * 1024 ≤ 1024; omega
  have r4 : ∀ (g : grid0.Coords → Fin 3 → ℕ) (hg : ∀ i, g i = ![(tb (i 0)).val, 0, 0]) (i : grid0.Coords)
      (q : Prop), ∃ h : (∀ a, (g i a + 1) * S1x1x1024.size a ≤ S32x1x1024.size a),
        EltTy.bits .f32 = 32 ∨ (Rect.block (s := S32x1x1024) S1x1x1024.size (g i) h).WholeWords (EltTy.packing .f32) := by
    intro g hg i q
    have ht := (tb (i 0)).isLt
    rw [hg i]
    refine ⟨fun a => ?_, .inl rfl⟩
    match a with
    | ⟨0, _⟩ => show ((tb (i 0)).val + 1) * 1 ≤ 32; omega
    | ⟨1, _⟩ => show (0 + 1) * 1 ≤ 1; omega
    | ⟨2, _⟩ => show (0 + 1) * 1024 ≤ 1024; omega
  exact ⟨rp _ (tr0 T), fun i => r1 _ (tr1 T) i True, fun i => r1 _ (tr1 T) i True, fun i => r1 _ (tr1 T) i True,
    fun i => r4 _ (tr1 T) i True, fun i => r4 _ (tr1 T) i True, fun i => r4 _ (tr1 T) i True, r0 _ (tr0 T)⟩

include T in
theorem atD_cnt : pf.atD 1 ![0] = BitVec.ofNat 32 nu := by
  unfold Pipeline.Prefetch.Contents.atD
  refine (dif_pos (show ∀ a : Fin 1, (![0] : Fin 1 → ℕ) a + 1 ≤ S1.size a from by decide)).trans ?_
  exact (congrArg (pf 1 : S1.Idx → Elt F .i32) (funext fun a => by
    match a with | ⟨0, _⟩ => exact Subsingleton.elim (α := Fin 1) _ _)).trans T.cnt

include T in
theorem idle7 : idle0 pf 7 i = !decide ((i 0).val < nu) := by
  show (!(k0_cond2 i (pf.atD 1 ![0]) == 1#1)) = _
  rw [atD_cnt T]
  by_cases h : (i 0).val < nu
  · rw [(cond2_iff i T.le).2 h]; simp [h]
  · have := mt (cond2_iff i T.le).1 h
    simp [h, this]
end

/-- The point `t` of the grid is `t` itself. -/
theorem coord : ∀ t : Fin grid0.N, (grid0.coords t 0).val = t.val := by
  decide +kernel

/-! ## The words the body loads -/

variable {pf : pre0.Contents (Elt F)} {tb : Fin 288 → Fin 32} {nu : ℕ} (T : Tabs pf tb nu)
include T in
theorem ld2_val : ld2 (F := F) (Memref.whole main_arg1) (pf 1) = BitVec.ofNat 32 nu := by
  unfold ld2
  refine (congrFun (View.readAt_rep _ _ _) _).trans ?_
  exact (congrArg (pf 1 : S1.Idx → Elt F .i32) (funext fun a => by
    match a with | ⟨0, _⟩ => exact Subsingleton.elim (α := Fin 1) _ _)).trans T.cnt

include T in
theorem ldCur_val (i : grid0.Coords) : ldCur (F := F) i (Memref.whole main_v21) (pf 0) = BitVec.ofNat 32 (tb (i 0)).val := by
  unfold ldCur
  refine (congrFun (View.readAt_rep _ _ _) _).trans ?_
  refine (congrArg (pf 0 : S288.Idx → Elt F .i32) (funext fun a => ?_)).trans (T.cur (i 0))
  match a with
  | ⟨0, _⟩ =>
    apply Fin.ext
    have h := off_val i
    exact (Rect.emb_apply _ _ _).trans (by show (Scalar.indexCast (BitVec.ofNat 32 (i 0).val)).toNat + 0 * 1 = (i 0).val; omega)

include T in
theorem ldPrev_val (i : grid0.Coords) : ∃ p : Fin 288, (0 < (i 0).val → p.val = (i 0).val - 1) ∧
    ldPrev (F := F) i (Memref.whole main_v21) (pf 0) = BitVec.ofNat 32 (tb p).val := by
  have hi : (i 0).val < 288 := (i 0).isLt
  have h := k0_off2_inb i 0
  refine ⟨⟨k0_off2 i 0, by have : k0_off2 i 0 + 1 ≤ 288 := h; omega⟩, fun hp => ?_, ?_⟩
  · show k0_off2 i 0 = _
    have e : Scalar.maxsi (Scalar.subi (BitVec.ofNat 32 (i 0).val) 1#32) 0#32 = BitVec.ofNat 32 ((i 0).val - 1) := by
      rw [pred_val hp (by omega)]
      show (if (BitVec.ofNat 32 0).slt (BitVec.ofNat 32 ((i 0).val - 1)) then _ else _) = _
      rw [slt_small (by omega) (by omega)]
      by_cases h0 : 0 < (i 0).val - 1
      · rw [if_pos (decide_eq_true h0)]
      · rw [if_neg (by simpa using h0), show (i 0).val - 1 = 0 by omega]
    show (Scalar.maxsi (Scalar.subi (BitVec.ofNat 32 (i 0).val) 1#32) 0#32).toNat = _
    rw [e, BitVec.toNat_ofNat]; omega
  · unfold ldPrev
    refine (congrFun (View.readAt_rep _ _ _) _).trans ?_
    refine (congrArg (pf 0 : S288.Idx → Elt F .i32) (funext fun a => ?_)).trans (T.cur _)
    match a with
    | ⟨0, _⟩ =>
      apply Fin.ext
      exact (Rect.emb_apply _ _ _).trans (by show k0_off2 i 0 + 0 * 1 = k0_off2 i 0; omega)
end Cert.Kernel2.Hand
end
-- ==== Proof.ExFrame.lean ====
/-
  The experts' call's run. The two tables as numbers (`Tabs`): block `t` in use goes through the expert `tb t`; the
  weights of the current expert stay in the scratch between points of one expert, and a point past the last block in
  use does nothing.
-/
module

public import proofs.«01_k».proof.Proof.ExTables
public import Idealize.ShloMosaic.Lib.Pipeline.FrameBody
public import Idealize.ShloMosaic.Lib.Pipeline.Value
public import Idealize.ShloMosaic.Lib.Pipeline.ValueKit.Point

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

attribute [local instance] Cert.Kernel2.Gen.facts

local notation "𝕄" => MT nD τ sig Unit (Elt F) ℕ (UR sig nD τ) ℕ

variable (m : (ℓ : Loc nD τ sig) → Buf (Elt F) ℓ) (ρ : Dev nD → PrngReg)

/-- What the lines before the region leave. -/
abbrev V₀ (c : Dev nD) : Valuation τ sig (Elt F) := fun b => StableHlo.after [hostOps0 (F := F)].flatten (fun b => m (c, b)) b
abbrev V (c : Dev nD) (b : Ref sig .tc) : Buf (Elt F) ((c : Thread nD τ).loc b) := V₀ m c (Proc.devRef .tc b)

variable {pf : pre0.Contents (Elt F)} {tb : Fin 288 → Fin 32} {nu : ℕ} (T : Tabs pf tb nu)

abbrev adm : (pcfg0 (F := F)).Adm := ⟨pf, ok T⟩
abbrev cf : Cfg sig Λ₀ := cfg0 (adm T)

/-- The expert's rows of the weights and biases, the block's rows of the slots. -/
def wblk (W : S32x1024x1024.Idx → Elt F .f32) (e : Fin 32) : S1x1024x1024.Idx → Elt F .f32 := fun j => W (ix3 e (j 1 : Fin 1024) (j 2 : Fin 1024))
def bblk (W : S32x1x1024.Idx → Elt F .f32) (e : Fin 32) : S1x1x1024.Idx → Elt F .f32 := fun j => W (ix3 e (j 1 : Fin 1) (j 2 : Fin 1024))
theorem row_lt (t : Fin 288) (k : Fin 512) : 512 * t.val + k.val < 147456 := by omega
def xblk (W : S147456x1024.Idx → Elt F .bf16) (t : Fin 288) : S512x1024.Idx → Elt F .bf16 :=
  fun j => W (ix2 (⟨512 * t.val + (j 0 : Fin 512).val, row_lt t (j 0)⟩ : Fin 147456) (j 1 : Fin 1024))

/-- The block's packed rows. -/
def pblk (W : S147456x512.Idx → Elt F .i32) (t : Fin 288) : S512x512.Idx → Elt F .i32 :=
  fun j => W (ix2 (⟨512 * t.val + (j 0 : Fin 512).val, row_lt t (j 0)⟩ : Fin 147456) (j 1 : Fin 512))

/-- The block a point works on. -/
def bix (nu : ℕ) (t : ℕ) : Fin 288 := ⟨min t (nu - 1) % 288, Nat.mod_lt _ (by decide)⟩
include T in
theorem bix_val {t : ℕ} (ht : t < 288) : (bix nu t).val = min t (nu - 1) := Nat.mod_eq_of_lt (lt_of_le_of_lt (Nat.min_le_left _ _) ht)

/-- Block `t`'s rows through its expert. -/
def outv (c : Dev nD) (t : Fin 288) : S512x1024.Idx → Elt F .bf16 :=
  blockPay (pblk (V m c main_arg2) t) (k0_pay1 (wblk (V m c main_arg3) (tb t))) (bblk (V m c main_v7) (tb t))
    (k0_pay2 (wblk (V m c main_arg4) (tb t))) (bblk (V m c main_v8) (tb t)) (k0_pay3 (wblk (V m c main_arg5) (tb t))) (bblk (V m c main_v9) (tb t))

theorem pt_lt (t : Fin (cf T).N) : t.val < 288 := by
  have h : t.val < grid0.N := t.isLt
  rw [N_0] at h; exact h
abbrev fi (t : Fin (cf T).N) : Fin 288 := ⟨t.val, pt_lt T t⟩

def iblk (c : Dev nD) (w : Fin 8) (t : Fin (cf T).N) : (((cf T).win w).xblock ((cf T).grid.coords t)).Idx → Elt F ((cf T).win w).elt :=
  (((cf T).win w).blk t).view.read (Elt F) (V m c (Pipeline.arrRef spec0 w))

theorem ix0_val (t : Fin (cf T).N) : ((win0 (adm T)) 0).index t = ![min t.val (nu - 1), 0] := by
  exact (tr0 T (grid0.coords t)).trans (by rw [coord t])
theorem ix1_val (t : Fin (cf T).N) : ((win0 (adm T)) 1).index t = ![(tb (fi T t)).val, 0, 0] := by
  exact (tr1 T (grid0.coords t)).trans (by rw [show (grid0.coords t 0 : Fin 288) = fi T t from Fin.ext (coord t)])

theorem iblk0 (c : Dev nD) (t : Fin (cf T).N) : iblk m T c 0 t = pblk (V m c main_arg2) (bix nu t.val) := by
  funext j
  unfold pblk
  have hb := bix_val T (pt_lt T t)
  blk_ext [iblk, ix0_val T t]

theorem iblk1 (c : Dev nD) (t : Fin (cf T).N) : iblk m T c 1 t = wblk (V m c main_arg3) (tb (fi T t)) := by
  funext j
  unfold wblk
  blk_ext [iblk, ix1_val T t]
theorem ix2_val (t : Fin (cf T).N) : ((win0 (adm T)) 2).index t = ![(tb (fi T t)).val, 0, 0] := ix1_val T t
theorem iblk2 (c : Dev nD) (t : Fin (cf T).N) : iblk m T c 2 t = wblk (V m c main_arg4) (tb (fi T t)) := by
  funext j
  unfold wblk
  blk_ext [iblk, ix2_val T t]
theorem ix3_val (t : Fin (cf T).N) : ((win0 (adm T)) 3).index t = ![(tb (fi T t)).val, 0, 0] := ix1_val T t
theorem iblk3 (c : Dev nD) (t : Fin (cf T).N) : iblk m T c 3 t = wblk (V m c main_arg5) (tb (fi T t)) := by
  funext j
  unfold wblk
  blk_ext [iblk, ix3_val T t]
theorem ix4_val (t : Fin (cf T).N) : ((win0 (adm T)) 4).index t = ![(tb (fi T t)).val, 0, 0] := ix1_val T t
theorem iblk4 (c : Dev nD) (t : Fin (cf T).N) : iblk m T c 4 t = bblk (V m c main_v7) (tb (fi T t)) := by
  funext j
  unfold bblk
  blk_ext [iblk, ix4_val T t]
theorem ix5_val (t : Fin (cf T).N) : ((win0 (adm T)) 5).index t = ![(tb (fi T t)).val, 0, 0] := ix1_val T t
theorem iblk5 (c : Dev nD) (t : Fin (cf T).N) : iblk m T c 5 t = bblk (V m c main_v8) (tb (fi T t)) := by
  funext j
  unfold bblk
  blk_ext [iblk, ix5_val T t]
theorem ix6_val (t : Fin (cf T).N) : ((win0 (adm T)) 6).index t = ![(tb (fi T t)).val, 0, 0] := ix1_val T t
theorem iblk6 (c : Dev nD) (t : Fin (cf T).N) : iblk m T c 6 t = bblk (V m c main_v9) (tb (fi T t)) := by
  funext j
  unfold bblk
  blk_ext [iblk, ix6_val T t]

/-! ## The proof data -/

/-- The table held, the pseudo-random register, the scratch: after a point, the weights of its expert. -/
def scr (c : Dev nD) (p : ℕ) : sProp 𝕄 :=
  iprop(∃ s1, ∃ s2, ∃ s3, ⌜p ≠ 0 → s1 = k0_pay1 (wblk (V m c main_arg3) (tb (bix nu (p - 1)))) ∧ s2 = k0_pay2 (wblk (V m c main_arg4) (tb (bix nu (p - 1))))
      ∧ s3 = k0_pay3 (wblk (V m c main_arg5) (tb (bix nu (p - 1))))⌝
    ∗ owns (c : Thread nD τ) (Memref.whole cc0_scratch0) fullShare s1 ∗ owns (c : Thread nD τ) (Memref.whole cc0_scratch1) fullShare s2
    ∗ owns (c : Thread nD τ) (Memref.whole cc0_scratch2) fullShare s3)

def inv (pf : pre0.Contents (Elt F)) (tb : Fin 288 → Fin 32) (nu : ℕ) (c : Dev nD) (p : ℕ) : sProp 𝕄 :=
  iprop(owns (c : Thread nD τ) (Memref.whole main_v21) fullShare.right (pf 0) ∗ owns (c : Thread nD τ) (Memref.whole main_arg1) fullShare.right (pf 1)
    ∗ scr m (tb := tb) (nu := nu) c p ∗ ∃ r, prngReg c r)

def dats (_ : Fin 1) (c : Dev nD) : Dat τ (Elt F) Unit ℕ (UR sig nD τ) ℕ (cf T) c where
  A w := V m c (Pipeline.arrRef spec0 w)
  after w t := match w with
    | ⟨0, _⟩ => iblk m T c 0 t
    | ⟨1, _⟩ => iblk m T c 1 t
    | ⟨2, _⟩ => iblk m T c 2 t
    | ⟨3, _⟩ => iblk m T c 3 t
    | ⟨4, _⟩ => iblk m T c 4 t
    | ⟨5, _⟩ => iblk m T c 5 t
    | ⟨6, _⟩ => iblk m T c 6 t
    | ⟨7, _⟩ => outv (tb := tb) m c (bix nu t.val)
  Φ t := inv m pf tb nu c t.val
  q _ := fullShare
  owed _ := 0

theorem A_eq (c : Dev nD) (w : Fin (cf T).W) : (dats m T 0 c).A w = V m c (Pipeline.arrRef spec0 w) := by
  dsimp only [dats]
theorem after0 (c : Dev nD) (t : Fin (cf T).N) : (dats m T 0 c).after 0 t = iblk m T c 0 t := by first | (dsimp only [dats]; done) | (dsimp only [dats]; rfl)
theorem before0 (c : Dev nD) (t : Fin (cf T).N) (d) : (dats m T 0 c).before 0 t d = iblk m T c 0 t :=
  ((dats m T 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem after1 (c : Dev nD) (t : Fin (cf T).N) : (dats m T 0 c).after 1 t = iblk m T c 1 t := by first | (dsimp only [dats]; done) | (dsimp only [dats]; rfl)
theorem before1 (c : Dev nD) (t : Fin (cf T).N) (d) : (dats m T 0 c).before 1 t d = iblk m T c 1 t :=
  ((dats m T 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem after2 (c : Dev nD) (t : Fin (cf T).N) : (dats m T 0 c).after 2 t = iblk m T c 2 t := by first | (dsimp only [dats]; done) | (dsimp only [dats]; rfl)
theorem before2 (c : Dev nD) (t : Fin (cf T).N) (d) : (dats m T 0 c).before 2 t d = iblk m T c 2 t :=
  ((dats m T 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem after3 (c : Dev nD) (t : Fin (cf T).N) : (dats m T 0 c).after 3 t = iblk m T c 3 t := by first | (dsimp only [dats]; done) | (dsimp only [dats]; rfl)
theorem before3 (c : Dev nD) (t : Fin (cf T).N) (d) : (dats m T 0 c).before 3 t d = iblk m T c 3 t :=
  ((dats m T 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem after4 (c : Dev nD) (t : Fin (cf T).N) : (dats m T 0 c).after 4 t = iblk m T c 4 t := by first | (dsimp only [dats]; done) | (dsimp only [dats]; rfl)
theorem before4 (c : Dev nD) (t : Fin (cf T).N) (d) : (dats m T 0 c).before 4 t d = iblk m T c 4 t :=
  ((dats m T 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem after5 (c : Dev nD) (t : Fin (cf T).N) : (dats m T 0 c).after 5 t = iblk m T c 5 t := by first | (dsimp only [dats]; done) | (dsimp only [dats]; rfl)
theorem before5 (c : Dev nD) (t : Fin (cf T).N) (d) : (dats m T 0 c).before 5 t d = iblk m T c 5 t :=
  ((dats m T 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem after6 (c : Dev nD) (t : Fin (cf T).N) : (dats m T 0 c).after 6 t = iblk m T c 6 t := by first | (dsimp only [dats]; done) | (dsimp only [dats]; rfl)
theorem before6 (c : Dev nD) (t : Fin (cf T).N) (d) : (dats m T 0 c).before 6 t d = iblk m T c 6 t :=
  ((dats m T 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem after7 (c : Dev nD) (t : Fin (cf T).N) : (dats m T 0 c).after 7 t = outv (tb := tb) m c (bix nu t.val) := by first | (dsimp only [dats]; done) | (dsimp only [dats]; rfl)

theorem ix7_val (t : Fin (cf T).N) : ((win0 (adm T)) 7).index t = ![min t.val (nu - 1), 0] := ix0_val T t

theorem cf_idle7 (t : Fin (cf T).N) : (cf T).idle 7 ((cf T).grid.coords t) = !decide (t.val < nu) := by
  exact (idle7 T (grid0.coords t)).trans (by rw [coord t])

theorem flush_past {t : Fin (cf T).N} (h : nu ≤ t.val + 1) (h' : t.val + 1 < 288) : ((cf T).win 7).flush t = false := by
  unfold Window.flush
  have e1 : decide (t.val + 1 = (cf T).grid.N) = false := decide_eq_false (by
    have : (cf T).grid.N = 288 := N_0
    omega)
  have e2 : decide (∃ h : t.val + 1 < (cf T).grid.N, ((cf T).win 7).index ⟨t.val + 1, h⟩ ≠ ((cf T).win 7).index t) = false :=
    decide_eq_false (fun ⟨h2, hne⟩ => hne (by
      refine (ix7_val T ⟨t.val + 1, h2⟩).trans (Eq.trans ?_ (ix7_val T t).symm)
      show ![min (t.val + 1) (nu - 1), 0] = _
      rw [show min (t.val + 1) (nu - 1) = min t.val (nu - 1) from by omega]))
  rw [e1, e2]
  simp

theorem bix_past {t : ℕ} (h : nu ≤ t + 1) : bix nu (t + 1) = bix nu t := by
  unfold bix
  congr 2
  omega

theorem kept7 (c : Dev nD) (d) (t : Fin (cf T).N) : (dats m T 0 c).kept 7 t d = outv (tb := tb) m c (bix nu t.val) := by
  unfold Dat.kept
  rw [after7]
  exact (Pipeline.fill_of_clip_none 7 _ (fun _ => rfl) _ _ _).trans (Window.fill_cut _ _ _)

theorem keep7 (c : Dev nD) (d) : ∀ (n : ℕ) (h : n + 1 < (cf T).N), nu ≤ n + 1 →
    (dats m T 0 c).before 7 ⟨n + 1, h⟩ d = outv (tb := tb) m c (bix nu (n + 1)) := by
  intro n
  induction n with
  | zero =>
    intro h hn
    refine ((dats m T 0 c).before_of_pos 7 ⟨0 + 1, h⟩ (by simp) (Window.fetch_out ((cf T).win 7) rfl _) d).trans ?_
    rw [if_neg (by rw [flush_past T (by simpa using hn) (by simp)]; simp)]
    unfold Dat.left
    rw [cf_idle7, decide_eq_true (show 0 + 1 - 1 < nu from T.pos)]
    exact (kept7 m T c d _).trans (by rw [bix_past hn]; rfl)
  | succ n ih =>
    intro h hn
    have hN : (cf T).N = 288 := N_0
    refine ((dats m T 0 c).before_of_pos 7 ⟨n + 1 + 1, h⟩ (by simp) (Window.fetch_out ((cf T).win 7) rfl _) d).trans ?_
    rw [if_neg (by rw [flush_past T (by simpa using hn) (by show n + 1 + 1 - 1 + 1 < 288; omega)]; simp)]
    unfold Dat.left
    rw [cf_idle7]
    by_cases hl : n + 1 < nu
    · rw [decide_eq_true (show (n + 1 + 1 - 1) < nu from hl)]
      exact (kept7 m T c d _).trans (by rw [bix_past hn]; rfl)
    · rw [decide_eq_false (show ¬ (n + 1 + 1 - 1) < nu from hl)]
      exact (ih (by omega) (by omega)).trans (by rw [bix_past hn])

/-! ## A point -/

abbrev ms (t : Fin (cf T).N) (w : Fin 8) := ((cf T).win w).stage ((cf T).slots t w)

def bodyAt (t : Fin (cf T).N) : Prog (TpuEff nD τ sig (Elt F) Λ₀ .tc) PUnit :=
  kbody (grid0.coords t) (Memref.whole main_v21) (Memref.isWhole_whole _) (Memref.whole main_arg1) (Memref.isWhole_whole _) (ms T t 0) (hstage0_0 (((cf T).slots t 0).cast nbuf0_0)) (ms T t 1) (hstage0_1 (((cf T).slots t 1).cast nbuf0_1)) (ms T t 2) (hstage0_2 (((cf T).slots t 2).cast nbuf0_2)) (ms T t 3) (hstage0_3 (((cf T).slots t 3).cast nbuf0_3)) (ms T t 4) (hstage0_4 (((cf T).slots t 4).cast nbuf0_4)) (ms T t 5) (hstage0_5 (((cf T).slots t 5).cast nbuf0_5)) (ms T t 6) (hstage0_6 (((cf T).slots t 6).cast nbuf0_6)) (ms T t 7) (hstage0_7 (((cf T).slots t 7).cast nbuf0_7)) (Memref.whole cc0_scratch0) (Memref.isWhole_whole _) (Memref.whole cc0_scratch1) (Memref.isWhole_whole _) (Memref.whole cc0_scratch2) (Memref.isWhole_whole _)

def bodyPre (c : Dev nD) (t : Fin (cf T).N) : sProp 𝕄 :=
  iprop((dats m T 0 c).Φ t.castSucc ∗ (dats m T 0 c).owesAt () t.castSucc
    ∗ (∃ d, owns (c : Thread nD τ) (ms T t 0) fullShare ((dats m T 0 c).before 0 t d))
    ∗ (∃ d, owns (c : Thread nD τ) (ms T t 1) fullShare ((dats m T 0 c).before 1 t d))
    ∗ (∃ d, owns (c : Thread nD τ) (ms T t 2) fullShare ((dats m T 0 c).before 2 t d))
    ∗ (∃ d, owns (c : Thread nD τ) (ms T t 3) fullShare ((dats m T 0 c).before 3 t d))
    ∗ (∃ d, owns (c : Thread nD τ) (ms T t 4) fullShare ((dats m T 0 c).before 4 t d))
    ∗ (∃ d, owns (c : Thread nD τ) (ms T t 5) fullShare ((dats m T 0 c).before 5 t d))
    ∗ (∃ d, owns (c : Thread nD τ) (ms T t 6) fullShare ((dats m T 0 c).before 6 t d))
    ∗ (∃ d, owns (c : Thread nD τ) (ms T t 7) fullShare ((dats m T 0 c).before 7 t d)))
def bodyPost (c : Dev nD) (t : Fin (cf T).N) : sProp 𝕄 :=
  iprop((dats m T 0 c).Φ t.succ ∗ (dats m T 0 c).owesAt () t.succ
    ∗ owns (c : Thread nD τ) (ms T t 0) fullShare ((dats m T 0 c).after 0 t)
    ∗ owns (c : Thread nD τ) (ms T t 1) fullShare ((dats m T 0 c).after 1 t)
    ∗ owns (c : Thread nD τ) (ms T t 2) fullShare ((dats m T 0 c).after 2 t)
    ∗ owns (c : Thread nD τ) (ms T t 3) fullShare ((dats m T 0 c).after 3 t)
    ∗ owns (c : Thread nD τ) (ms T t 4) fullShare ((dats m T 0 c).after 4 t)
    ∗ owns (c : Thread nD τ) (ms T t 5) fullShare ((dats m T 0 c).after 5 t)
    ∗ owns (c : Thread nD τ) (ms T t 6) fullShare ((dats m T 0 c).after 6 t)
    ∗ (dats m T 0 c).leavesExact 7 t)

/-- The output's buffer after a point in use. -/
theorem leaves_live (c : Dev nD) (t : Fin (cf T).N) (h : t.val < nu) :
    owns (c : Thread nD τ) (ms T t 7) fullShare (outv (tb := tb) m c (bix nu t.val)) ⊢ ((dats m T 0 c).leavesExact 7 t : sProp 𝕄) := by
  unfold Dat.leavesExact
  rw [cf_idle7, decide_eq_true h, after7]
  exact .rfl

theorem leaves_past (c : Dev nD) (t : Fin (cf T).N) (h : nu ≤ t.val) (d) :
    owns (c : Thread nD τ) (ms T t 7) fullShare ((dats m T 0 c).before 7 t d) ⊢ ((dats m T 0 c).leavesExact 7 t : sProp 𝕄) := by
  unfold Dat.leavesExact
  rw [cf_idle7, decide_eq_false (Nat.not_lt.2 h)]
  cases hf : ((cf T).win 7).flush t
  · show _ ⊢ iprop(∃ d, _)
    iintro H
    iexists d
    iexact H
  · rw [after7]
    obtain ⟨n, hn⟩ := t
    obtain ⟨k, rfl⟩ : ∃ k, n = k + 1 := ⟨n - 1, by have := T.pos; have : nu ≤ n := h; omega⟩
    rw [keep7 m T c d k hn h]
    exact .rfl

theorem defs₀_row (t : Fin (cf T).N) :
    defs₀ (F := F) .tc (cf T).body ((cf T).bodyArgs t ((cf T).slots t)) = bodyAt T t := by
  unfold defs₀; rw [Defs.onTc_tc]; rfl

theorem sound_body (c : Dev nD) (t : Fin (cf T).N) :
    bodyPre m T c t ⊢ wp frame (wpE (defs₀ (F := F)) Variants.none c none) Set.univ (bodyAt T t) (fun _ => bodyPost m T c t) := by
  have hlt := pt_lt T t
  have hle := T.le
  have hc : (grid0.coords t 0 : Fin 288) = fi T t := Fin.ext (coord t)
  obtain ⟨p, hp, ep⟩ := ldPrev_val T (grid0.coords t)
  have e2 : ld2 (F := F) (Memref.whole main_arg1) (pf 1) = BitVec.ofNat 32 nu := ld2_val T
  have ec := ldCur_val T (grid0.coords t)
  have c2 := cond2_iff (grid0.coords t) hle
  have c1 := cond1_iff (grid0.coords t) hle (p := (tb p).val) (q := (tb (grid0.coords t 0)).val) (by have := (tb p).isLt; omega) (by have := (tb (grid0.coords t 0)).isLt; omega)
  rw [← e2] at c1 c2
  rw [← ep, ← ec] at c1
  rw [show (grid0.coords t 0).val = t.val from coord t] at c1 c2 hp
  unfold bodyPre bodyPost bodyAt
  rw [after0, after1, after2, after3, after4, after5, after6]
  simp only [before0, before1, before2, before3, before4, before5, before6]
  rw [show (dats m T 0 c).Φ t.castSucc = inv m pf tb nu c t.val from rfl, show (dats m T 0 c).Φ t.succ = inv m pf tb nu c (t.val + 1) from rfl]
  rw [show (dats m T 0 c).owesAt () t.succ = (dats m T 0 c).owesAt () t.castSucc from rfl]
  unfold inv scr
  by_cases hu : t.val < nu
  · by_cases hs : t.val = 0 ∨ (tb (grid0.coords t 0)).val ≠ (tb p).val
    · have hb : bix nu t.val = fi T t := Fin.ext ((bix_val T hlt).trans (by show min t.val (nu - 1) = t.val; omega))
      iintro ⟨⟨Ht, Hn, ⟨%s1, %s2, %s3, %hs3, Hs1, Hs2, Hs3⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
      have hr := switch_run c (grid0.coords t) (Memref.whole main_v21) (Memref.isWhole_whole _) (Memref.whole main_arg1) (Memref.isWhole_whole _) (ms T t 0) (hstage0_0 (((cf T).slots t 0).cast nbuf0_0)) (ms T t 1) (hstage0_1 (((cf T).slots t 1).cast nbuf0_1)) (ms T t 2) (hstage0_2 (((cf T).slots t 2).cast nbuf0_2)) (ms T t 3) (hstage0_3 (((cf T).slots t 3).cast nbuf0_3)) (ms T t 4) (hstage0_4 (((cf T).slots t 4).cast nbuf0_4)) (ms T t 5) (hstage0_5 (((cf T).slots t 5).cast nbuf0_5)) (ms T t 6) (hstage0_6 (((cf T).slots t 6).cast nbuf0_6)) (ms T t 7) (hstage0_7 (((cf T).slots t 7).cast nbuf0_7)) (Memref.whole cc0_scratch0) (Memref.isWhole_whole _) (Memref.whole cc0_scratch1) (Memref.isWhole_whole _) (Memref.whole cc0_scratch2) (Memref.isWhole_whole _) fullShare.right (pf 0) (pf 1) (iblk m T c 0 t) (iblk m T c 1 t) (iblk m T c 2 t) (iblk m T c 3 t) (iblk m T c 4 t) (iblk m T c 5 t) (iblk m T c 6 t) ((dats m T 0 c).before 7 t d7) s1 s2 s3 (c1.2 ⟨hu, hs⟩) (c2.2 hu)
      ihave Hrun := hr $$ [Ht Hn H0 H1 H2 H3 H4 H5 H6 H7 Hs1 Hs2 Hs3]
      · isplitl [Ht]; · iexact Ht
        isplitl [Hn]; · iexact Hn
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [Hs1]; · iexact Hs1
        isplitl [Hs2]; · iexact Hs2
        iexact Hs3
      iapply (wp_wand frame _ _) $$ Hrun
      iintro %_ ⟨Ht, Hn, H0, H1, H2, H3, H4, H5, H6, H7, Hs1, Hs2, Hs3⟩
      isplitl [Ht Hn Hs1 Hs2 Hs3 Hg]
      · isplitl [Ht]; · iexact Ht
        isplitl [Hn]; · iexact Hn
        isplitr [Hg]
        · iexists _, _, _
          isplitr
          rotate_left
          · isplitl [Hs1]; · iexact Hs1
            isplitl [Hs2]; · iexact Hs2
            iexact Hs3
          · ipureintro
            intro _
            exact by rw [show t.val + 1 - 1 = t.val from rfl, hb, iblk1, iblk2, iblk3]; exact ⟨rfl, rfl, rfl⟩
        · iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_live m T c t hu)
      unfold outv
      rw [hb, iblk0, iblk1, iblk2, iblk3, iblk4, iblk5, iblk6, hb]
      iexact H7
    · have hb : bix nu t.val = fi T t := Fin.ext ((bix_val T hlt).trans (by show min t.val (nu - 1) = t.val; omega))
      have ht0 : t.val ≠ 0 := fun h => hs (.inl h)
      have hbp : tb (bix nu (t.val - 1)) = tb (fi T t) := by
        have e1 : tb (grid0.coords t 0) = tb p := Fin.ext (not_not.1 fun h => hs (.inr h))
        rw [← hc, e1]
        congr 1
        exact Fin.ext ((bix_val T (by omega)).trans (by rw [hp (by omega)]; omega))
      iintro ⟨⟨Ht, Hn, ⟨%s1, %s2, %s3, %hs3, Hs1, Hs2, Hs3⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
      have hr := stay_run c (grid0.coords t) (Memref.whole main_v21) (Memref.isWhole_whole _) (Memref.whole main_arg1) (Memref.isWhole_whole _) (ms T t 0) (hstage0_0 (((cf T).slots t 0).cast nbuf0_0)) (ms T t 1) (hstage0_1 (((cf T).slots t 1).cast nbuf0_1)) (ms T t 2) (hstage0_2 (((cf T).slots t 2).cast nbuf0_2)) (ms T t 3) (hstage0_3 (((cf T).slots t 3).cast nbuf0_3)) (ms T t 4) (hstage0_4 (((cf T).slots t 4).cast nbuf0_4)) (ms T t 5) (hstage0_5 (((cf T).slots t 5).cast nbuf0_5)) (ms T t 6) (hstage0_6 (((cf T).slots t 6).cast nbuf0_6)) (ms T t 7) (hstage0_7 (((cf T).slots t 7).cast nbuf0_7)) (Memref.whole cc0_scratch0) (Memref.isWhole_whole _) (Memref.whole cc0_scratch1) (Memref.isWhole_whole _) (Memref.whole cc0_scratch2) (Memref.isWhole_whole _) fullShare.right (pf 0) (pf 1) (iblk m T c 0 t) (iblk m T c 4 t) (iblk m T c 5 t) (iblk m T c 6 t) ((dats m T 0 c).before 7 t d7) s1 s2 s3 (fun h => hs (c1.1 h).2) (c2.2 hu)
      ihave Hrun := hr $$ [Ht Hn H0 H4 H5 H6 H7 Hs1 Hs2 Hs3]
      · isplitl [Ht]; · iexact Ht
        isplitl [Hn]; · iexact Hn
        isplitl [H0]; · iexact H0
        isplitl [H4]; · iexact H4
        isplitl [H5]; · iexact H5
        isplitl [H6]; · iexact H6
        isplitl [H7]; · iexact H7
        isplitl [Hs1]; · iexact Hs1
        isplitl [Hs2]; · iexact Hs2
        iexact Hs3
      iapply (wp_wand frame _ _) $$ Hrun
      iintro %_ ⟨Ht, Hn, H0, H4, H5, H6, H7, Hs1, Hs2, Hs3⟩
      isplitl [Ht Hn Hs1 Hs2 Hs3 Hg]
      · isplitl [Ht]; · iexact Ht
        isplitl [Hn]; · iexact Hn
        isplitr [Hg]
        · iexists _, _, _
          isplitr
          rotate_left
          · isplitl [Hs1]; · iexact Hs1
            isplitl [Hs2]; · iexact Hs2
            iexact Hs3
          · ipureintro
            intro _
            exact by rw [show t.val + 1 - 1 = t.val from rfl, hb, ← hbp]; exact hs3 ht0
        · iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      iapply (leaves_live m T c t hu)
      unfold outv
      obtain ⟨q1, q2, q3⟩ := hs3 ht0
      rw [hb, iblk0, iblk4, iblk5, iblk6, hb, q1, q2, q3, hbp]
      iexact H7
  · have ht0 : t.val ≠ 0 := by have := T.pos; omega
    have hbp : bix nu (t.val + 1 - 1) = bix nu (t.val - 1) := by
      show bix nu t.val = _
      unfold bix
      congr 2
      omega
    iintro ⟨⟨Ht, Hn, ⟨%s1, %s2, %s3, %hs3, Hs1, Hs2, Hs3⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
    have hr := idle_run c (grid0.coords t) (Memref.whole main_v21) (Memref.isWhole_whole _) (Memref.whole main_arg1) (Memref.isWhole_whole _) (ms T t 0) (hstage0_0 (((cf T).slots t 0).cast nbuf0_0)) (ms T t 1) (hstage0_1 (((cf T).slots t 1).cast nbuf0_1)) (ms T t 2) (hstage0_2 (((cf T).slots t 2).cast nbuf0_2)) (ms T t 3) (hstage0_3 (((cf T).slots t 3).cast nbuf0_3)) (ms T t 4) (hstage0_4 (((cf T).slots t 4).cast nbuf0_4)) (ms T t 5) (hstage0_5 (((cf T).slots t 5).cast nbuf0_5)) (ms T t 6) (hstage0_6 (((cf T).slots t 6).cast nbuf0_6)) (ms T t 7) (hstage0_7 (((cf T).slots t 7).cast nbuf0_7)) (Memref.whole cc0_scratch0) (Memref.isWhole_whole _) (Memref.whole cc0_scratch1) (Memref.isWhole_whole _) (Memref.whole cc0_scratch2) (Memref.isWhole_whole _) fullShare.right (pf 0) (pf 1) (fun h => hu (c1.1 h).1) (fun h => hu (c2.1 h))
    ihave Hrun := hr $$ [Ht Hn]
    · isplitl [Ht]; · iexact Ht
      iexact Hn
    iapply (wp_wand frame _ _) $$ Hrun
    iintro %_ ⟨Ht, Hn⟩
    isplitl [Ht Hn Hs1 Hs2 Hs3 Hg]
    · isplitl [Ht]; · iexact Ht
      isplitl [Hn]; · iexact Hn
      isplitr [Hg]
      · iexists _, _, _
        isplitr
        rotate_left
        · isplitl [Hs1]; · iexact Hs1
          isplitl [Hs2]; · iexact Hs2
          iexact Hs3
        · ipureintro
          intro _
          exact by rw [hbp]; exact hs3 ht0
      · iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_past m T c t (Nat.not_lt.1 hu) d7)
    iexact H7
end Cert.Kernel2.Hand
-- ==== Proof.ExRun.lean ====
/-
  The experts' call from @main's first line to its last: the result holds, at a row of a block in use, the row through
  the block's expert (`outv`), and zero at the rows past the last block in use.
-/
module

public import proofs.«01_k».proof.Proof.ExFrame
public import Idealize.ShloMosaic.Lib.Claim

@[expose] public section

noncomputable section

namespace Cert.Kernel2.Hand

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

attribute [local instance] Cert.Kernel2.Gen.facts

local notation "𝕄" => MT nD τ sig Unit (Elt F) ℕ (UR sig nD τ) ℕ

variable (m : (ℓ : Loc nD τ sig) → Buf (Elt F) ℓ) (ρ : Dev nD → PrngReg)

variable {pf : pre0.Contents (Elt F)} {tb : Fin 288 → Fin 32} {nu : ℕ} (T : Tabs pf tb nu)

theorem body_obligation (c : Dev nD) : BodyObligation (dats (F := F) m T 0 c) (defs₀ (F := F)) Variants.none () Set.univ := fun t => by
  rw [bigSep_W0, bigSep_W0, defs₀_row]
  exact triple_restated (sound_body m T c t) rfl .rfl fun _ => .rfl

theorem tables_eq (c : Dev nD) (q : PosShare TreeShare) (v : pre0.Contents (Elt F)) :
    (Pipeline.prefHeld pre0 c (fun _ => q) v : sProp 𝕄)
    = iprop(owns (c : Thread nD τ) (Memref.whole main_v21) q (v 0) ∗ owns (c : Thread nD τ) (Memref.whole main_arg1) q (v 1)) := by
  unfold Pipeline.prefHeld
  refine (bigSep_univ_eq_bigSepL [(0 : Fin 2), (1 : Fin 2)] (by decide) (by decide) _).trans ?_
  exact congrArg₂ BIBase.sep (owns_whole _ _ _ _).symm (owns_whole _ _ _ _).symm

theorem enter (c : Dev nD) : iprop(Pipeline.ΦA (U := UR sig nD τ) (Val := Elt F) spec0 c ∗ Pipeline.ΦT pre0 pf c) ⊢ inv m pf tb nu c 0 := by
  unfold Pipeline.ΦA Pipeline.ΦT inv scr
  rw [tables_eq, Gen.scopedRest0_eq]
  iintro ⟨⟨⟨⟨%f1, H1⟩, ⟨%f2, H2⟩, ⟨%f3, H3⟩⟩, Hg⟩, Ht, Hn⟩
  isplitl [Ht]; · iexact Ht
  isplitl [Hn]; · iexact Hn
  isplitr [Hg]
  · iexists f1, f2, f3
    isplitr; · ipureintro; exact fun h => absurd rfl h
    rw [owns_whole, owns_whole, owns_whole]
    isplitl [H1]; · iexact H1
    isplitl [H2]; · iexact H2
    iexact H3
  iexact Hg

theorem leave (c : Dev nD) (p : ℕ) : inv m pf tb nu c p ⊢ Pipeline.ΦA (U := UR sig nD τ) (Val := Elt F) spec0 c := by
  unfold Pipeline.ΦA inv scr
  rw [Gen.scopedRest0_eq]
  simp only [owns_whole]
  iintro ⟨-, -, ⟨%f1, %f2, %f3, %hf, H1, H2, H3⟩, Hg⟩
  isplitr [Hg]
  · isplitl [H1]; · iexists f1; iexact H1
    isplitl [H2]; · iexists f2; iexact H2
    iexists f3; iexact H3
  iexact Hg

theorem hostOps0_fresh : (hostOps0 : List (HloOp τ sig (Elt F))).Forall fun op => op.fresh = ∅ := by
  simp only [List.Forall]; repeat' constructor

abbrev tailOps : List (List (HloOp τ sig (Elt F))) := [hostOps1, hostOps1_1]

set_option maxHeartbeats 800000 in
theorem hmain (𝒱₀ : Variants) : Pipeline.HMainPK (Ix := Unit) (Name := ℕ) (U := UR sig nD τ) (Lvl := ℕ) pcfgs 0 defs₀ 𝒱₀ m (main (F := F))
    (fun c b => V₀ m c (Proc.devRef .tc b)) (fun _ => Pipeline.chain (tailOps.map StableHlo.seq)) :=
  Pipeline.hmainP_around pcfgs 0 defs₀ 𝒱₀ m main [hostOps0] tailOps (by simp only [List.Forall]; exact hostOps0_sub)
    (by simp only [List.Forall]; exact hostOps0_fresh) main_chain

theorem tail_sub : ∀ ops ∈ tailOps (F := F), ∀ op ∈ ops, op.bufs ⊆ Pipeline.tailRefs sig pre0 spec0 := by
  intro ops ho op h
  have hs : op.bufs ⊆ StableHlo.tcRefs τ sig := by
    simp only [List.mem_cons, List.not_mem_nil, or_false] at ho
    rcases ho with rfl | rfl
    · exact (List.forall_iff_forall_mem.mp hostOps1_sub) op h
    · exact (List.forall_iff_forall_mem.mp hostOps1_1_sub) op h
  refine Pipeline.sub_tailRefs pre0 spec0 op hs fun k => ?_
  have hk : Proc.devRef (τ := τ) .tc (pre0.ref k) = Proc.devRef .tc main_v21 ∨ Proc.devRef (τ := τ) .tc (pre0.ref k) = Proc.devRef .tc main_arg1 := by
    match k with
    | ⟨0, _⟩ => exact .inl rfl
    | ⟨1, _⟩ => exact .inr rfl
  simp only [List.mem_cons, List.not_mem_nil, or_false] at ho
  rcases ho with rfl | rfl <;> simp only [List.mem_cons, List.not_mem_nil, or_false] at h
  · subst h
    rcases hk with e | e <;> rw [e] <;> simp only [StableHlo.nullary_bufs, Finset.mem_insert, Finset.mem_singleton, not_or] <;> and_intros <;> exact StableHlo.devRef_ne_of_ne (by decide)
  · rcases h with rfl | rfl <;> rcases hk with e | e <;> rw [e] <;>
      simp only [StableHlo.TRef.unary, StableHlo.TRef.ternary, StableHlo.unary_bufs, StableHlo.ternary_bufs, Finset.mem_insert, Finset.mem_singleton, not_or] <;> and_intros <;> exact StableHlo.devRef_ne_of_ne (by decide)

theorem tail_fresh : ∀ ops ∈ tailOps (F := F), ∀ op ∈ ops, op.fresh = ∅ := by
  intro ops ho op h
  simp only [List.mem_cons, List.not_mem_nil, or_false] at ho
  rcases ho with rfl | rfl
  · simp only [List.mem_cons, List.not_mem_nil, or_false] at h
    subst h; rfl
  · simp only [List.mem_cons, List.not_mem_nil, or_false] at h
    rcases h with rfl | rfl <;> rfl

theorem tail_keep : ∀ ops ∈ tailOps (F := F), ∀ op ∈ ops, ∀ w, Proc.devRef .tc (Pipeline.arrRef spec0 w) ∉ op.writes := by
  intro ops ho op h w
  simp only [List.mem_cons, List.not_mem_nil, or_false] at ho
  rcases ho with rfl | rfl <;> simp only [List.mem_cons, List.not_mem_nil, or_false] at h
  · subst h
    fin_cases w <;> simp only [StableHlo.nullary_writes, Finset.mem_singleton] <;> exact StableHlo.devRef_ne_of_ne (by decide)
  · rcases h with rfl | rfl <;> fin_cases w <;>
      simp only [StableHlo.TRef.unary, StableHlo.TRef.ternary, StableHlo.unary_writes, StableHlo.ternary_writes, Finset.mem_singleton] <;> exact StableHlo.devRef_ne_of_ne (by decide)

set_option backward.isDefEq.respectTransparency.types false in
theorem run_main (hpf : ∀ c k, V₀ m c (Proc.devRef .tc (pre0.ref k)) = pf k) :
    θ_run defs (onTc (τ := τ) (main (F := F))) ⟨m, fun _ => 0, ρ⟩
    (fun r => Pipeline.FramePost (Pipeline.pin pcfgs fun _ => adm T) (dats m T) 0 (Pipeline.afterTail pcfgs (fun _ => adm T) (dats m T) 0 (V₀ m) tailOps) r ∧ r.2.sem = fun _ => 0) :=
  Pipeline.θ_run_frameP_around_track (Q' := _) pcfgs (fun _ => adm T) (dats m T) (0 : Fin 1) launch0 defs₀ Variants.none m ρ main
    (hbody := fun c => (body_obligation m T c).loose) (hshare := fun c => (dats m T 0 c).share_full fun _ => rfl)
    (howed := fun _ _ => rfl) (V₀ := V₀ m) (opss := tailOps) (hsub := tail_sub) (hfresh := tail_fresh) (hkeep := tail_keep)
    (hmain := hmain m Variants.none) (hA := A_eq m T) (hpf := hpf)
    (hin := fun c => enter m c) (hout := fun c => leave m c _) (hQ' := fun _ h => h)
end Cert.Kernel2.Hand
-- ==== Proof.ExOut.lean ====
module

public import proofs.«01_k».proof.Proof.ExRun

/-!
The array the experts' call leaves: a used block's rows are its slots' rows through its expert.
-/

@[expose] public section

noncomputable section

namespace Cert.Kernel2.Hand

open Cert.Kernel2 Cert.Kernel2.Gen
open Idealize.ShloMosaic Idealize.ShloMosaic.TcCoe Idealize.ShloMosaic.Tactic
open Idealize.SL.Sem
open Idealize.ShloMosaic.Pipeline (Dat Cfg Window)

variable {F : FTy → Type} [FloatOps F]

attribute [local instance] Cert.Kernel2.Gen.facts

variable (m : (ℓ : Loc nD τ sig) → Buf (Elt F) ℓ) (ρ : Dev nD → PrngReg)
variable {pf : pre0.Contents (Elt F)} {tb : Fin 288 → Fin 32} {nu : ℕ} (T : Tabs pf tb nu)

theorem blkOf_lt (i : S147456x1024.Idx) : (i 0 : Fin 147456).val / 512 < 288 := by
  have h : (i 0 : Fin 147456).val < 147456 := (i 0).isLt
  omega

/-- Row `r` is row `r % 512` of block `r / 512`. -/
def whole (tb : Fin 288 → Fin 32) (c : Dev nD) : S147456x1024.Idx → Elt F .bf16 := fun i =>
  outv (tb := tb) m c ⟨(i 0 : Fin 147456).val / 512, blkOf_lt i⟩ (ix2 (⟨(i 0 : Fin 147456).val % 512, Nat.mod_lt _ (by decide)⟩ : Fin 512) (i 1 : Fin 1024))

theorem xblk_whole (c : Dev nD) (b : Fin 288) : xblk (whole m tb c) b = outv (tb := tb) m c b := by
  funext j
  have hj : (j 0 : Fin 512).val < 512 := (j 0).isLt
  unfold xblk whole
  have e1 : (512 * b.val + (j 0 : Fin 512).val) / 512 = b.val := by omega
  have e2 : (512 * b.val + (j 0 : Fin 512).val) % 512 = (j 0 : Fin 512).val := by omega
  have a1 : (⟨(512 * b.val + (j 0 : Fin 512).val) / 512, by omega⟩ : Fin 288) = b := Fin.ext e1
  have a2 : (ix2 (⟨(512 * b.val + (j 0 : Fin 512).val) % 512, Nat.mod_lt _ (by decide)⟩ : Fin 512) (j 1 : Fin 1024) : S512x1024.Idx) = j := by
    funext a
    match a with
    | ⟨0, _⟩ => exact Fin.ext e2
    | ⟨1, _⟩ => rfl
  exact (congrArg (fun b => outv (tb := tb) m c b _) a1).trans (congrArg _ a2)

def rb (W : S147456x1024.Idx → Elt F .bf16) (t : Fin (cf T).N) : (((cf T).win 7).xblock ((cf T).grid.coords t)).Idx → Elt F ((cf T).win 7).elt :=
  (((cf T).win 7).blk t).view.read (Elt F) W

theorem rb_eq (W : S147456x1024.Idx → Elt F .bf16) (t : Fin (cf T).N) : rb T W t = xblk W (bix nu t.val) := by
  funext j
  have hb := bix_val T (pt_lt T t)
  have key : ∀ (j : S512x1024.Idx) (A : Fin 2), ![min t.val (nu - 1), 0] A * ![512, 1024] A + (j A).val
      = (ix2 (⟨512 * (bix nu t.val).val + (j 0 : Fin 512).val, row_lt (bix nu t.val) (j 0)⟩ : Fin 147456) (j 1 : Fin 1024) A).val := by
    intro j A
    match A with
    | ⟨0, _⟩ =>
      show min t.val (nu - 1) * 512 + _ = 512 * (bix nu t.val).val + _
      rw [hb, Nat.mul_comm]; rfl
    | ⟨1, _⟩ =>
      show 0 * 1024 + _ = _
      rw [Nat.zero_mul, Nat.zero_add]; rfl
  refine congrArg W (funext fun a => Fin.ext ?_)
  refine (Window.rect_emb_val_off ((cf T).win 7) t j a).trans ?_
  rw [show ((cf T).win 7).index t a = ![min t.val (nu - 1), 0] a from congrFun (ix7_val T t) a]
  exact key j a

theorem flushed7 (c : Dev nD) (t : Fin (cf T).N) : (dats m T 0 c).flushed 7 t = (((cf T).win 7).blk t).view.read (Elt F) (whole m tb c) := by
  exact (after7 m T c t).trans ((xblk_whole m c _).symm.trans (rb_eq T (whole m tb c) t).symm)

theorem flush_last (t : Fin (cf T).N) (h : t.val + 1 < nu ∨ t.val = 287) : ((cf T).win 7).flush t = true := by
  have hN : (cf T).grid.N = 288 := N_0
  have hN' : (cf T).N = 288 := N_0
  unfold Window.flush
  rcases h with h | h
  · have hl := T.le
    have e2 : decide (∃ h : t.val + 1 < (cf T).grid.N, ((cf T).win 7).index ⟨t.val + 1, h⟩ ≠ ((cf T).win 7).index t) = true :=
      decide_eq_true ⟨by omega, fun he => by
        have h2 := (ix7_val T ⟨t.val + 1, by omega⟩).symm.trans (he.trans (ix7_val T t))
        have h3 := congrFun h2 0
        simp only [Matrix.cons_val_zero] at h3
        omega⟩
    rw [e2, Bool.or_true, Bool.and_true]; rfl
  · have e1 : decide (t.val + 1 = (cf T).grid.N) = true := decide_eq_true (by omega)
    rw [e1, Bool.true_or, Bool.and_true]; rfl

theorem xs7 (t : Fin (cf T).N) (a) : ((cf T).win 7).xsize ((cf T).grid.coords t) a = ((cf T).win 7).size a := rfl

theorem mem7 (t : Fin (cf T).N) (i : S147456x1024.Idx) (h : min t.val (nu - 1) = (i 0 : Fin 147456).val / 512) : i ∈ (((cf T).win 7).blk t).view.set := by
  have h1 : (i 1 : Fin 1024).val < 1024 := (i 1).isLt
  have key : ∀ A : Fin 2, ![min t.val (nu - 1), 0] A * ![512, 1024] A ≤ (i A).val ∧ (i A).val < ![min t.val (nu - 1), 0] A * ![512, 1024] A + ![512, 1024] A := by
    intro A
    match A with
    | ⟨0, _⟩ =>
      show min t.val (nu - 1) * 512 ≤ (i 0 : Fin 147456).val ∧ (i 0 : Fin 147456).val < min t.val (nu - 1) * 512 + 512
      omega
    | ⟨1, _⟩ =>
      show 0 * 1024 ≤ (i 1 : Fin 1024).val ∧ (i 1 : Fin 1024).val < 0 * 1024 + 1024
      omega
  refine (Window.emb_mem_blk_iff ((cf T).win 7) t i).2 fun a => ?_
  rw [xs7, show ((cf T).win 7).index t a = ![min t.val (nu - 1), 0] a from congrFun (ix7_val T t) a]
  exact key a

theorem arr7 (c : Dev nD) (i : S147456x1024.Idx) (hi : (i 0 : Fin 147456).val < 512 * nu) :
    ((dats m T 0 c).arrAt 7 (cf T).N : S147456x1024.Idx → Elt F .bf16) i = whole m tb c i := by
  have hN : (cf T).N = 288 := N_0
  have hl := T.le
  have hr := blkOf_lt i
  obtain ⟨t, ht, hf⟩ : ∃ t : Fin (cf T).N, min t.val (nu - 1) = (i 0 : Fin 147456).val / 512 ∧ (t.val + 1 < nu ∨ t.val = 287) := by
    by_cases h : (i 0 : Fin 147456).val / 512 + 1 < nu
    · exact ⟨⟨(i 0 : Fin 147456).val / 512, by omega⟩, by show min ((i 0 : Fin 147456).val / 512) (nu - 1) = _; omega, Or.inl h⟩
    · exact ⟨⟨287, by omega⟩, by show min 287 (nu - 1) = _; omega, Or.inr rfl⟩
  refine Dat.arrAt_apply_of_mem (dats m T 0 c) 7 (whole m tb c) (fun t _ => flushed7 m T c t) _ t i t.isLt (flush_last T t hf) (mem7 T t i ht)

end Cert.Kernel2.Hand

end
-- ==== Proof.ExHost.lean ====
/-
  The lines around the experts' call: the table of the blocks' experts, the rows in use, the biases' reshapes; and the
  run from memories whose words are in range (`Good`).
-/
module

public import proofs.«01_k».proof.Proof.ExOut
public import proofs.«01_k».proof.Proof.Table
public import Idealize.ShloMosaic.Lib.PlanTiles.Rows

@[expose] public section

noncomputable section

namespace Cert.Kernel2.Hand

open Cert.Kernel2 Cert.Kernel2.Gen
open Idealize.ShloMosaic Idealize.ShloMosaic.TcCoe Idealize.ShloMosaic.Tactic
open Idealize.SL.Sem
open Idealize.ShloMosaic.Pipeline (Dat Cfg Window)

variable {F : FTy → Type} [FloatOps F]

attribute [local instance] Cert.Kernel2.Gen.facts

variable (m : (ℓ : Loc nD τ sig) → Buf (Elt F) ℓ) (ρ : Dev nD → PrngReg)

/-- The words of the block's experts and of the number of blocks in use. -/
def bw (c : Dev nD) : IVec S288 32 := m ((c : Thread nD τ).loc main_arg0)
def mw (c : Dev nD) : IVec S1 32 := m ((c : Thread nD τ).loc main_arg1)

/-- The words in range. -/
structure Good : Prop where
  lt : ∀ (c : Dev nD) (i : Fin 288), (bw m c (ix1 i)).toNat < 32
  pos : ∀ c : Dev nD, 1 ≤ (mw m c (ix1 0)).toNat
  le : ∀ c : Dev nD, (mw m c (ix1 0)).toNat ≤ 288

def nuOf (c : Dev nD) : ℕ := (mw m c (ix1 0)).toNat
def tbOf (c : Dev nD) (i : Fin 288) : Fin 32 := ⟨(bw m c (ix1 (bix (nuOf m c) i.val))).toNat % 32, Nat.mod_lt _ (by decide)⟩

theorem V_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results_simp
theorem V_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results_simp
theorem V_arg2 (c : Dev nD) : V m c main_arg2 = m ((c : Thread nD τ).loc main_arg2) := by
  show StableHlo.after (List.flatten [hostOps0]) (fun b => m (c, b)) (Proc.devRef .tc main_arg2) = _
  simp only [hostOps0, List.flatten_cons, List.flatten_nil, List.append_nil]
  after_results_simp
theorem V_arg3 (c : Dev nD) : V m c main_arg3 = m ((c : Thread nD τ).loc main_arg3) := by
  show StableHlo.after (List.flatten [hostOps0]) (fun b => m (c, b)) (Proc.devRef .tc main_arg3) = _
  simp only [hostOps0, List.flatten_cons, List.flatten_nil, List.append_nil]
  after_results_simp
theorem V_arg4 (c : Dev nD) : V m c main_arg4 = m ((c : Thread nD τ).loc main_arg4) := by
  show StableHlo.after (List.flatten [hostOps0]) (fun b => m (c, b)) (Proc.devRef .tc main_arg4) = _
  simp only [hostOps0, List.flatten_cons, List.flatten_nil, List.append_nil]
  after_results_simp
theorem V_arg5 (c : Dev nD) : V m c main_arg5 = m ((c : Thread nD τ).loc main_arg5) := by
  show StableHlo.after (List.flatten [hostOps0]) (fun b => m (c, b)) (Proc.devRef .tc main_arg5) = _
  simp only [hostOps0, List.flatten_cons, List.flatten_nil, List.append_nil]
  after_results_simp
theorem V_arg6 (c : Dev nD) : V m c main_arg6 = m ((c : Thread nD τ).loc main_arg6) := by
  show StableHlo.after (List.flatten [hostOps0]) (fun b => m (c, b)) (Proc.devRef .tc main_arg6) = _
  simp only [hostOps0, List.flatten_cons, List.flatten_nil, List.append_nil]
  after_results_simp
theorem V_arg7 (c : Dev nD) : V m c main_arg7 = m ((c : Thread nD τ).loc main_arg7) := by
  show StableHlo.after (List.flatten [hostOps0]) (fun b => m (c, b)) (Proc.devRef .tc main_arg7) = _
  simp only [hostOps0, List.flatten_cons, List.flatten_nil, List.append_nil]
  after_results_simp
theorem V_arg8 (c : Dev nD) : V m c main_arg8 = m ((c : Thread nD τ).loc main_arg8) := by
  show StableHlo.after (List.flatten [hostOps0]) (fun b => m (c, b)) (Proc.devRef .tc main_arg8) = _
  simp only [hostOps0, List.flatten_cons, List.flatten_nil, List.append_nil]
  after_results_simp

theorem V_v7 (c : Dev nD) (e : Fin 32) (k : Fin 1024) : (V m c main_v7 : S32x1x1024.Idx → Elt F .f32) (ix3 e 0 k) = (m ((c : Thread nD τ).loc main_arg6) : S32x1024.Idx → Elt F .f32) (ix2 e k) := by
  have h : (V m c main_v7 : S32x1x1024.Idx → Elt F .f32) = shapeCast S32x1x1024 (m ((c : Thread nD τ).loc main_arg6)) shapeCasts_S32x1024_S32x1x1024 := by
    entry_read
    rfl
  rw [h]
  refine shapeCast_apply _ _ _ _ ?_
  refine (Shape.rowMajor_val_two (ix2 e k : S32x1024.Idx)).trans (Eq.trans ?_ (Shape.rowMajor_val_three (ix3 e 0 k : S32x1x1024.Idx)).symm)
  show e.val * 1024 + k.val = (e.val * 1 + 0) * 1024 + k.val
  omega
theorem V_v8 (c : Dev nD) (e : Fin 32) (k : Fin 1024) : (V m c main_v8 : S32x1x1024.Idx → Elt F .f32) (ix3 e 0 k) = (m ((c : Thread nD τ).loc main_arg7) : S32x1024.Idx → Elt F .f32) (ix2 e k) := by
  have h : (V m c main_v8 : S32x1x1024.Idx → Elt F .f32) = shapeCast S32x1x1024 (m ((c : Thread nD τ).loc main_arg7)) shapeCasts_S32x1024_S32x1x1024 := by
    entry_read
    rfl
  rw [h]
  refine shapeCast_apply _ _ _ _ ?_
  refine (Shape.rowMajor_val_two (ix2 e k : S32x1024.Idx)).trans (Eq.trans ?_ (Shape.rowMajor_val_three (ix3 e 0 k : S32x1x1024.Idx)).symm)
  show e.val * 1024 + k.val = (e.val * 1 + 0) * 1024 + k.val
  omega
theorem V_v9 (c : Dev nD) (e : Fin 32) (k : Fin 1024) : (V m c main_v9 : S32x1x1024.Idx → Elt F .f32) (ix3 e 0 k) = (m ((c : Thread nD τ).loc main_arg8) : S32x1024.Idx → Elt F .f32) (ix2 e k) := by
  have h : (V m c main_v9 : S32x1x1024.Idx → Elt F .f32) = shapeCast S32x1x1024 (m ((c : Thread nD τ).loc main_arg8)) shapeCasts_S32x1024_S32x1x1024 := by
    entry_read
    rfl
  rw [h]
  refine shapeCast_apply _ _ _ _ ?_
  refine (Shape.rowMajor_val_two (ix2 e k : S32x1024.Idx)).trans (Eq.trans ?_ (Shape.rowMajor_val_three (ix3 e 0 k : S32x1x1024.Idx)).symm)
  show e.val * 1024 + k.val = (e.val * 1 + 0) * 1024 + k.val
  omega

def w14 (c : Dev nD) : IVec S288 32 :=
  minsi (iotaInDim S288 32 0) (broadcastInDim S288 ![] bcast_S_S288 (subi (shapeCast S_ (mw m c) shapeCasts_S1_S_) (constantI S_ 32 1#32)))

set_option maxRecDepth 8192 in
theorem V_v21 (c : Dev nD) : (V m c main_v21 : S288.Idx → Elt F .i32)
    = Host.gather gather_S288_S288x1_S288_n_0_n_n_0_1_1 (bw m c) (broadcastInDim S288x1 ![0] bcast_S288_S288x1_0
        (select (cmpi .slt (w14 m c) (broadcastInDim S288 ![] bcast_S_S288 (constantI S_ 32 0#32)))
          (addi (w14 m c) (broadcastInDim S288 ![] bcast_S_S288 (constantI S_ 32 288#32))) (w14 m c))) := by
  show StableHlo.after (List.flatten [hostOps0]) (fun b => m (c, b)) (Proc.devRef .tc main_v21) = _
  simp only [hostOps0, List.flatten_cons, List.flatten_nil, List.append_nil]
  after_results_simp
  unfold w14 mw bw
  rfl

set_option maxRecDepth 8192 in
theorem V_v6 (c : Dev nD) : (V m c main_v6 : S147456x1024.Idx → Elt F .i1)
    = broadcastInDim S147456x1024 ![0, 1] bcast_S147456x1_S147456x1024_0_1 (broadcastInDim S147456x1 ![0] bcast_S147456_S147456x1_0
        (cmpi .slt (iotaInDim S147456 32 0) (broadcastInDim S147456 ![] bcast_S_S147456 (muli (shapeCast S_ (mw m c) shapeCasts_S1_S_) (constantI S_ 32 512#32))))) := by
  show StableHlo.after (List.flatten [hostOps0]) (fun b => m (c, b)) (Proc.devRef .tc main_v6) = _
  simp only [hostOps0, List.flatten_cons, List.flatten_nil, List.append_nil]
  after_results_simp
  unfold mw
  rfl

theorem mw_cast (c : Dev nD) : shapeCast S_ (mw m c) shapeCasts_S1_S_ ValueIdx.ix0 = BitVec.ofNat 32 (nuOf m c) := by
  refine (shapeCast_apply (mw m c) shapeCasts_S1_S_ ValueIdx.ix0 (ix1 0) rfl).trans ?_
  unfold nuOf
  rw [BitVec.ofNat_toNat, BitVec.setWidth_eq]

variable {m}

theorem w14_at (G : Good m) (c : Dev nD) (i : Fin 288) : w14 m c (ValueIdx.ix1 i) = BitVec.ofNat 32 (bix (nuOf m c) i.val).val := by
  have h1 := G.pos c
  have h2 := G.le c
  have hi := i.isLt
  unfold w14
  refine (congrArg (IntOp.minsi (BitVec.ofNat 32 i.val)) ((Routing.bc0 _ _ _).trans ?_)).trans ((PlanTiles.minsi_word (a := i.val) (b := nuOf m c - 1) (by omega) (by unfold nuOf; omega)).trans ?_)
  · refine (congrArg (· - 1#32) (mw_cast m c)).trans (pred_val h1 h2)
  · rw [Nat.min_comm]
    refine congrArg (BitVec.ofNat 32) (Nat.mod_eq_of_lt ?_).symm
    omega

theorem v21_at (G : Good m) (c : Dev nD) (i : Fin 288) : (V m c main_v21 : S288.Idx → Elt F .i32) (ix1 i) = BitVec.ofNat 32 (tbOf m c i).val := by
  rw [V_v21]
  have hb := (bix (nuOf m c) i.val).isLt
  refine (Routing.gather_take1 _ rfl rfl rfl rfl (bw m c) _ i (bix (nuOf m c) i.val) ?_ (by omega)).trans ?_
  · refine (broadcastInDim_apply _ _ _ _ (ValueIdx.ix1 i) fun a => ?_).trans ?_
    · match a with
      | ⟨0, _⟩ => rfl
    · exact Cert.Hand.wrap_at _ _ _ _ (Routing.bc0 _ _ _) (w14_at G c i) (by omega)
  · show bw m c (ix1 _) = BitVec.ofNat 32 ((bw m c (ix1 (bix (nuOf m c) i.val))).toNat % 32)
    rw [Nat.mod_eq_of_lt (G.lt c _), BitVec.ofNat_toNat, BitVec.setWidth_eq]

theorem v6_at (G : Good m) (c : Dev nD) (i : S147456x1024.Idx) :
    (V m c main_v6 : S147456x1024.Idx → Elt F .i1) i = if (i 0 : Fin 147456).val < 512 * nuOf m c then 1#1 else 0#1 := by
  have h2 : nuOf m c ≤ 288 := G.le c
  have hi : (i 0 : Fin 147456).val < 147456 := (i 0).isLt
  rw [V_v6]
  refine (broadcastInDim_apply _ _ _ _ (ValueIdx.ix2 (i 0 : Fin 147456) (0 : Fin 1)) fun a => ?_).trans ?_
  · match a with
    | ⟨0, _⟩ => rfl
    | ⟨1, _⟩ => rfl
  refine (broadcastInDim_apply _ _ _ _ (ValueIdx.ix1 (i 0 : Fin 147456)) fun a => ?_).trans ?_
  · match a with
    | ⟨0, _⟩ => rfl
  refine (congrArg (IntOp.cmpi .slt (BitVec.ofNat 32 (i 0 : Fin 147456).val)) ((Routing.bc0 _ _ _).trans (?_ : _ = BitVec.ofNat 32 (nuOf m c * 512)))).trans ?_
  · exact (congrArg (· * 512#32) (mw_cast m c)).trans (by rw [BitVec.ofNat_mul])
  · unfold IntOp.cmpi
    have hs : (BitVec.ofNat 32 (i 0 : Fin 147456).val).slt (BitVec.ofNat 32 (nuOf m c * 512)) = decide ((i 0 : Fin 147456).val < nuOf m c * 512) := by
      rw [BitVec.slt, StableHlo.Predicate.toInt_ofNat_small _ (by omega), StableHlo.Predicate.toInt_ofNat_small _ (by omega)]
      exact decide_eq_decide.2 (by omega)
    dsimp only
    rw [hs]
    by_cases h : (i 0 : Fin 147456).val < 512 * nuOf m c
    · rw [if_pos h, decide_eq_true (by omega)]; rfl
    · rw [if_neg h, decide_eq_false (by omega)]; rfl

/-- The tables' contents. -/
def pfOf (m : (ℓ : Loc nD τ sig) → Buf (Elt F) ℓ) : pre0.Contents (Elt F) := fun k => V₀ m (0 : Dev nD) (Proc.devRef .tc (pre0.ref k))

theorem tabs (G : Good m) : Tabs (pfOf m) (tbOf m (0 : Dev nD)) (nuOf m (0 : Dev nD)) where
  pos := G.pos 0
  le := G.le 0
  cur i := v21_at G 0 i
  cnt := by
    have h : (V m (0 : Dev nD) main_arg1 : S1.Idx → Elt F .i32) = mw m 0 := V_arg1 m 0
    refine (congrFun h (ix1 0)).trans ?_
    unfold nuOf
    rw [BitVec.ofNat_toNat, BitVec.setWidth_eq]

/-- The result: a used block's rows through its expert, zero at the other rows. -/
def res (m : (ℓ : Loc nD τ sig) → Buf (Elt F) ℓ) (c : Dev nD) : S147456x1024.Idx → Elt F .bf16 := fun i =>
  if (i 0 : Fin 147456).val < 512 * nuOf m c then whole m (tbOf m c) c i else (constant S_ .bf16 0x0000#16 : S_.Idx → Elt F .bf16) ValueIdx.ix0

theorem arr_inj : Function.Injective (Pipeline.arrRef spec0) := by decide

theorem rest_mem (b : Ref sig .tc) (hs : b.isScoped = false) (ha : ∀ w, (spec0 w).arr.view.ref ≠ b) : b ∈ Pipeline.restRefs sig spec0 :=
  Pipeline.mem_restRefs_of b hs ha

section
variable (G : Good m)

abbrev WA (c : Dev nD) : Valuation τ sig (Elt F) := Pipeline.withArrays (Pipeline.pin pcfgs (fun _ => adm (tabs G)) 0).spec c (V₀ m c) fun w => (dats m (tabs G) 0 c).arrAt w (Pipeline.pin pcfgs (fun _ => adm (tabs G)) 0).N

set_option backward.isDefEq.respectTransparency.types false in
theorem WA_v22 (c : Dev nD) : WA G c (Proc.devRef .tc main_v22) = (dats m (tabs G) 0 c).arrAt 7 (cf (tabs G)).N :=
  Pipeline.withArrays_arr spec0 arr_inj c (V₀ m c) _ 7

set_option backward.isDefEq.respectTransparency.types false in
theorem WA_rest (c : Dev nD) (b : Ref sig .tc) (hb : ∀ w, Pipeline.arrRef spec0 w ≠ b) : WA G c (Proc.devRef .tc b) = V m c b :=
  Pipeline.withArrays_of_ne spec0 c (V₀ m c) _ b hb

theorem tail_v23 (c : Dev nD) : (Pipeline.afterTail pcfgs (fun _ => adm (tabs G)) (dats m (tabs G)) 0 (V₀ m) tailOps c main_v23 : S147456x1024.Idx → Elt F .bf16)
    = select (V m c main_v6) ((dats m (tabs G) 0 c).arrAt 7 (cf (tabs G)).N) (broadcastInDim S147456x1024 ![] bcast_S_S147456x1024 (constant S_ .bf16 0x0000#16)) := by
  have h1 := WA_v22 G c
  have h2 := WA_rest G c main_v6 (by decide)
  show StableHlo.after (List.flatten [hostOps1, hostOps1_1]) (WA G c) (Proc.devRef .tc main_v23) = _
  generalize WA G c = W at h1 h2
  simp only [hostOps1, hostOps1_1, List.flatten_cons, List.flatten_nil, List.append_nil, List.cons_append, List.nil_append, StableHlo.TRef.unary, StableHlo.TRef.ternary, StableHlo.TRef.toBuf, StableHlo.TRef.ofBuf, cast_eq]
  after_results_simp
  rw [← h1, ← h2]
  rfl

theorem tail_arg (c : Dev nD) (b : Ref sig .tc) (hb : ∀ w, Pipeline.arrRef spec0 w ≠ b) (h0 : b ≠ main_cst) (h1 : b ≠ main_call0_v0) (h2 : b ≠ main_v23) :
    Pipeline.afterTail pcfgs (fun _ => adm (tabs G)) (dats m (tabs G)) 0 (V₀ m) tailOps c b = V m c b := by
  refine Eq.trans ?_ (WA_rest G c b hb)
  show StableHlo.after (List.flatten [hostOps1, hostOps1_1]) (WA G c) (Proc.devRef .tc b) = _
  generalize WA G c = W
  refine StableHlo.after_of_forall_not_mem _ _ fun op h => ?_
  simp only [List.flatten_cons, List.flatten_nil, List.append_nil, List.cons_append, List.nil_append, List.mem_cons, List.not_mem_nil, or_false] at h
  rcases h with rfl | rfl | rfl <;>
    simp only [StableHlo.TRef.unary, StableHlo.TRef.ternary, StableHlo.nullary_writes, StableHlo.unary_writes, StableHlo.ternary_writes, Finset.mem_singleton] <;>
    refine StableHlo.devRef_ne_of_ne ?_
  · exact h0
  · exact h1
  · exact h2

theorem res_eq (c : Dev nD) : select (V m c main_v6 : S147456x1024.Idx → Elt F .i1) ((dats m (tabs G) 0 c).arrAt 7 (cf (tabs G)).N : S147456x1024.Idx → Elt F .bf16) (broadcastInDim S147456x1024 ![] bcast_S_S147456x1024 (constant S_ .bf16 0x0000#16)) = res m c := by
  obtain rfl : c = 0 := Subsingleton.elim _ _
  have ha : ∀ i : S147456x1024.Idx, (i 0 : Fin 147456).val < 512 * nuOf m (0 : Dev nD) → ((dats m (tabs G) 0 (0 : Dev nD)).arrAt 7 (cf (tabs G)).N : S147456x1024.Idx → Elt F .bf16) i = whole m (tbOf m (0 : Dev nD)) (0 : Dev nD) i :=
    fun i h => arr7 m (tabs G) 0 i h
  generalize ((dats m (tabs G) 0 (0 : Dev nD)).arrAt 7 (cf (tabs G)).N : S147456x1024.Idx → Elt F .bf16) = A at ha
  have hm := v6_at G (0 : Dev nD)
  generalize (V m (0 : Dev nD) main_v6 : S147456x1024.Idx → Elt F .i1) = M at hm
  funext i
  refine (congrArg (fun k => Scalar.select k (A i) (broadcastInDim S147456x1024 ![] bcast_S_S147456x1024 (constant S_ .bf16 0x0000#16 : S_.Idx → Elt F .bf16) i)) (hm i)).trans ?_
  unfold res
  by_cases h : (i 0 : Fin 147456).val < 512 * nuOf m (0 : Dev nD)
  · rw [if_pos h, if_pos h, ← ha i h]
    rfl
  · rw [if_neg h, if_neg h]
    exact Eq.trans (if_neg (by decide)) (Routing.bc0 _ _ _)

include G in
theorem run : θ_run defs (onTc (τ := τ) (main (F := F))) ⟨m, fun _ => 0, ρ⟩ (fun r =>
    (∀ c : Dev nD, r.2.mem ((c : Thread nD τ).loc main_v23) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8))
    ∧ r.2.sem = fun _ => 0) := by
  refine θ_run_mono (run_main m ρ (tabs G) fun c k => by obtain rfl : c = 0 := Subsingleton.elim _ _; rfl) fun r ⟨h, hs⟩ => ⟨fun c => ⟨?_, ?_, ?_, ?_, ?_, ?_, ?_, ?_, ?_, ?_⟩, hs⟩
  · exact ((h c).2 main_v23 (rest_mem main_v23 (by decide) (by decide))).trans ((tail_v23 G c).trans (res_eq G c))
  · exact ((h c).2 main_arg0 (rest_mem main_arg0 (by decide) (by decide))).trans ((tail_arg G c main_arg0 (by decide) (by decide) (by decide) (by decide)).trans (V_arg0 m c))
  · exact ((h c).2 main_arg1 (rest_mem main_arg1 (by decide) (by decide))).trans ((tail_arg G c main_arg1 (by decide) (by decide) (by decide) (by decide)).trans (V_arg1 m c))
  · exact ((h c).1 0).trans (((dats m (tabs G) 0 c).arrAt_in 0 rfl _).trans ((A_eq m (tabs G) c 0).trans (V_arg2 m c)))
  · exact ((h c).1 1).trans (((dats m (tabs G) 0 c).arrAt_in 1 rfl _).trans ((A_eq m (tabs G) c 1).trans (V_arg3 m c)))
  · exact ((h c).1 2).trans (((dats m (tabs G) 0 c).arrAt_in 2 rfl _).trans ((A_eq m (tabs G) c 2).trans (V_arg4 m c)))
  · exact ((h c).1 3).trans (((dats m (tabs G) 0 c).arrAt_in 3 rfl _).trans ((A_eq m (tabs G) c 3).trans (V_arg5 m c)))
  · exact ((h c).2 main_arg6 (rest_mem main_arg6 (by decide) (by decide))).trans ((tail_arg G c main_arg6 (by decide) (by decide) (by decide) (by decide)).trans (V_arg6 m c))
  · exact ((h c).2 main_arg7 (rest_mem main_arg7 (by decide) (by decide))).trans ((tail_arg G c main_arg7 (by decide) (by decide) (by decide) (by decide)).trans (V_arg7 m c))
  · exact ((h c).2 main_arg8 (rest_mem main_arg8 (by decide) (by decide))).trans ((tail_arg G c main_arg8 (by decide) (by decide) (by decide) (by decide)).trans (V_arg8 m c))

end

end Cert.Kernel2.Hand

end
-- ==== Proof.ExSame.lean ====
/-
  The experts' call: the two printed programs have one text; and the words of a memory the precondition holds of are in
  range.
-/
module

public import proofs.«01_k».proof.Proof.ExHost
public import proofs.«01_k».proof.Proof.Gen.Kernel2Ideal
public import proofs.«01_k».proof.Proof.Gen.Pre_blocks
public import proofs.«01_k».proof.Defs
public import Idealize.ShloMosaic.Lib.ReduceAll

@[expose] public section

namespace Cert.Same2

open Idealize.ShloMosaic Idealize.ShloMosaic.TcCoe
open Idealize.SL.Sem

attribute [local instance] Cert.Kernel2.Gen.facts Cert.Kernel2Ideal.Gen.facts Cert.Pre_blocks.Gen.facts
variable {F : FTy → Type} [FloatOps F]

set_option maxHeartbeats 2000000 in
theorem pcfgs_eq : Cert.Kernel2Ideal.pcfgs (F := F) = Cert.Kernel2.pcfgs (F := F) := rfl

set_option maxHeartbeats 2000000 in
theorem main_eq : (Cert.Kernel2Ideal.main (F := F)) = Cert.Kernel2.main (F := F) := rfl

theorem defs₀_eq : Cert.Kernel2Ideal.defs₀ (F := F) = Cert.Kernel2.defs₀ (F := F) := by
  refine congrArg Defs.onTc (funext fun l => funext fun p => ?_)
  match l, p with
  | ⟨0, _⟩, (t, s) => rfl

set_option maxHeartbeats 4000000 in
theorem defs_eq : Cert.Kernel2Ideal.defs (F := F) = Cert.Kernel2.defs (F := F) :=
  congrArg (Pipeline.defs (Cert.Kernel2.pcfgs (F := F))) defs₀_eq

theorem of_kernel {s : MemSt Cert.Kernel2.nD Cert.Kernel2.τ Cert.Kernel2.sig (Elt F)} {Q : PUnit × MemSt Cert.Kernel2.nD Cert.Kernel2.τ Cert.Kernel2.sig (Elt F) → Prop}
    (h : θ_run (Cert.Kernel2.defs (F := F)) (onTc (τ := Cert.Kernel2.τ) (Cert.Kernel2.main (F := F))) s Q) :
    θ_run (Cert.Kernel2Ideal.defs (F := F)) (onTc (τ := Cert.Kernel2Ideal.τ) (Cert.Kernel2Ideal.main (F := F))) s Q := by
  rw [defs_eq, main_eq]
  exact h

/-- What the printed predicate says of the two arrays of words. -/
theorem words_of (x : IVec Cert.Pre_blocks.S288 32) (y : IVec Cert.Pre_blocks.S1 32) (a2) (a3 a4 a5) (a6 a7 a8)
    (h1 : (Cert.Pre_blocks.fn (F := F) x y a2 a3 a4 a5 a6 a7 a8).1 = fun _ => 1#1) (h2 : (Cert.Pre_blocks.fn (F := F) x y a2 a3 a4 a5 a6 a7 a8).2 = fun _ => 1#1) :
    (∀ i : Fin 288, (x (ValueIdx.ix1 i)).toNat < 32) ∧ 1 ≤ (y (ValueIdx.ix1 (0 : Fin 1))).toNat ∧ (y (ValueIdx.ix1 (0 : Fin 1))).toNat ≤ 288 := by
  unfold Cert.Pre_blocks.fn at h1 h2
  dsimp only at h1 h2
  haveI : Subsingleton Cert.Pre_blocks.S_.Idx := ⟨fun a b => funext fun i => i.elim0⟩
  have r1 := fun i => Host.reduce_andi_all _ _ _ _ ValueIdx.ix0 (congrFun h1 ValueIdx.ix0) i
  have r2 := fun i => Host.reduce_andi_all _ _ _ _ ValueIdx.ix0 (congrFun h2 ValueIdx.ix0) i
  constructor
  · intro i
    have h := r1 (ValueIdx.ix1 i)
    change IntOp.andi (IntOp.cmpi .sge (x (ValueIdx.ix1 i)) 0#32) (IntOp.cmpi .slt (x (ValueIdx.ix1 i)) 32#32) = 1#1 at h
    generalize x (ValueIdx.ix1 i) = w at h
    obtain ⟨ha, hb⟩ := IntOp.andi_eq_one.1 h
    have ha' := IntOp.cmpi_sge.1 ha
    have hb' := IntOp.cmpi_slt.1 hb
    rw [show (0#32 : BitVec 32).toInt = 0 by decide] at ha'
    rw [show (32#32 : BitVec 32).toInt = 32 by decide] at hb'
    rw [BitVec.toInt_eq_toNat_cond] at ha' hb'
    split at ha' <;> split at hb' <;> omega
  · have h := r2 (ValueIdx.ix1 0)
    change IntOp.andi (IntOp.cmpi .sge (y (ValueIdx.ix1 0)) 1#32) (IntOp.cmpi .sle (y (ValueIdx.ix1 0)) 288#32) = 1#1 at h
    generalize y (ValueIdx.ix1 0) = w at h ⊢
    obtain ⟨ha, hb⟩ := IntOp.andi_eq_one.1 h
    have ha' := IntOp.cmpi_sge.1 ha
    have hb' := IntOp.cmpi_sle.1 hb
    rw [show (1#32 : BitVec 32).toInt = 1 by decide] at ha'
    rw [show (288#32 : BitVec 32).toInt = 288 by decide] at hb'
    rw [BitVec.toInt_eq_toNat_cond] at ha' hb'
    split at ha' <;> split at hb' <;> omega

theorem good {m : (ℓ : Loc Cert.Kernel2.nD Cert.Kernel2.τ Cert.Kernel2.sig) → Buf (Elt F) ℓ}
    (h : ∀ c : Dev Cert.Kernel2.nD,
      ((Cert.Pre_blocks.fn (F := F) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = fun _ => 1#1)
      ∧ (Cert.Pre_blocks.fn (F := F) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2 = fun _ => 1#1) :
    Cert.Kernel2.Hand.Good m where
  lt c i := (words_of _ _ _ _ _ _ _ _ _ (h c).1 (h c).2).1 i
  pos c := (words_of _ _ _ _ _ _ _ _ _ (h c).1 (h c).2).2.1
  le c := (words_of _ _ _ _ _ _ _ _ _ (h c).1 (h c).2).2.2

theorem frame2 : Cert.quiescent_Kernel2 := fun m ρ h =>
  (θ_run Cert.Kernel2.defs _ _).mono (fun _ H => ⟨fun c => (H.1 c).2, H.2⟩) (Cert.Kernel2.Hand.run ρ (good h))

theorem frame2Ideal : Cert.quiescent_Kernel2Ideal := fun m ρ h =>
  of_kernel ((θ_run Cert.Kernel2.defs _ _).mono (fun _ H => ⟨fun c => (H.1 c).2, H.2⟩) (Cert.Kernel2.Hand.run (F := Ideal) (m := m) ρ (good (F := Ideal) (m := m) h)))

end Cert.Same2

end
-- ==== Proof.ExModel.lean ====
/-
  The experts' call at the ideal values: what one row of a block comes out as, read off the kernel's arithmetic and off
  the reference's.
-/
module

public import proofs.«01_k».proof.Proof.ExHost
public import proofs.«01_k».proof.Proof.Gen.Reference2Ideal.Run
public import Idealize.ShloMosaic.Lib.Pointwise
public import Idealize.ShloMosaic.Lib.StackMember

@[expose] public section

noncomputable section

namespace Cert.Value2

open Idealize.ShloMosaic

attribute [local instance] Cert.Kernel2.Gen.facts Cert.Reference2Ideal.Gen.facts

/-- A row of an expert's projection: the row times the expert's matrix, and the expert's bias. -/
def proj (x : Fin 1024 → EReal) (w : Fin 1024 → Fin 1024 → EReal) (b : Fin 1024 → EReal) : Fin 1024 → EReal :=
  fun f => (∑ d : Fin 1024, x d * w d f) + b f

/-- The clamped SwiGLU of one gate and one up value. -/
def act (g u : EReal) : EReal :=
  (min (Ideal.ofBits .f32 0x40E00000#32) (max (Ideal.ofBits .f32 0xC0E00000#32) u) + 1)
    * (min g (Ideal.ofBits .f32 0x40E00000#32)
      * Ideal.logistic (Ideal.ofBits .f32 0x3FD9DB23#32 * min g (Ideal.ofBits .f32 0x40E00000#32)))

/-- A row through an expert. -/
def row (x : Fin 1024 → EReal) (wg : Fin 1024 → Fin 1024 → EReal) (bg : Fin 1024 → EReal) (wu : Fin 1024 → Fin 1024 → EReal)
    (bu : Fin 1024 → EReal) (wd : Fin 1024 → Fin 1024 → EReal) (bd : Fin 1024 → EReal) : Fin 1024 → EReal :=
  proj (fun f => act (proj x wg bg f) (proj x wu bu f)) wd bd

theorem row_congr {x x' : Fin 1024 → EReal} {wg wg' : Fin 1024 → Fin 1024 → EReal} {bg bg' : Fin 1024 → EReal} {wu wu' : Fin 1024 → Fin 1024 → EReal}
    {bu bu' : Fin 1024 → EReal} {wd wd' : Fin 1024 → Fin 1024 → EReal} {bd bd' : Fin 1024 → EReal} (hx : ∀ d, x d = x' d)
    (h1 : ∀ d f, wg d f = wg' d f) (h2 : ∀ f, bg f = bg' f) (h3 : ∀ d f, wu d f = wu' d f) (h4 : ∀ f, bu f = bu' f)
    (h5 : ∀ d f, wd d f = wd' d f) (h6 : ∀ f, bd f = bd' f) (k : Fin 1024) :
    row x wg bg wu bu wd bd k = row x' wg' bg' wu' bu' wd' bd' k := by
  rw [funext hx, funext fun d => funext (h1 d), funext h2, funext fun d => funext (h3 d), funext h4, funext fun d => funext (h5 d), funext h6]

/-- The two bf16 values of each of a row's words: the low halves, then the high halves. -/
def halves (w : Fin 512 → BitVec 32) : Fin 1024 → EReal := fun d =>
  if h : d.val < 512 then Ideal.ofBits .f32 (w ⟨d.val, h⟩ <<< 16#32)
  else Ideal.ofBits .f32 (w ⟨d.val - 512, by omega⟩ &&& 4294901760#32)

section Kernel
open Cert.Kernel2

/-- A block's rows, read out of its words. -/
def unpK (x : IVec S512x512 32) : FVec Ideal S512x1024 .f32 :=
  concatenate S512x1024 1 [⟨S512x512, bitcastToFloat .f32 (shli x (broadcast S512x512 16#32))⟩,
    ⟨S512x512, bitcastToFloat .f32 (andi x (broadcast S512x512 4294901760#32))⟩] Gen.concatenates_S512x512_S512x512_S512x1024_d1

theorem unpK_at (x : IVec S512x512 32) (n : Fin 512) (d : Fin 1024) : unpK x (ix2 n d) = halves (fun k => x (ix2 n k)) d := by
  pointwise [unpK, halves]
  rfl

/-- The gate and up projections of rows `X` and their activation. -/
def actK (X : FVec Ideal S512x1024 .f32) (w1 : Vec Ideal S1024x1024 .bf16) (b1 : Vec Ideal S1x1x1024 .f32) (w2 : Vec Ideal S1024x1024 .bf16)
    (b2 : Vec Ideal S1x1x1024 .f32) : FVec Ideal S512x1024 .bf16 :=
  let X' : FVec Ideal S512x1024 .bf16 := truncf .bf16 X Gen.bitsLt_bf16_f32
  let g : FVec Ideal S512x1024 .f32 := minimumf (addf (matmul (φ₂ := .bf16) dot_S512x1024_S1024x1024_S512x1024_1_0_0_1_n_n none X' w1 (constant S512x1024 .f32 0x00000000#32))
    (broadcastTo S512x1024 (shapeCast S1x1024 b1 Gen.shapeCasts_S1x1x1024_S1x1024) Gen.broadcasts_S1x1024_S512x1024)) (broadcast S512x1024 (Scalar.ofBits .f32 0x40E00000#32))
  let u : FVec Ideal S512x1024 .f32 := minimumf (broadcast S512x1024 (Scalar.ofBits .f32 0x40E00000#32)) (maximumf (broadcast S512x1024 (Scalar.ofBits .f32 0xC0E00000#32))
    (addf (matmul (φ₂ := .bf16) dot_S512x1024_S1024x1024_S512x1024_1_0_0_1_n_n none X' w2 (constant S512x1024 .f32 0x00000000#32))
      (broadcastTo S512x1024 (shapeCast S1x1024 b2 Gen.shapeCasts_S1x1x1024_S1x1024) Gen.broadcasts_S1x1024_S512x1024)))
  truncf .bf16 (mulf (addf u (broadcast S512x1024 (Scalar.ofBits .f32 0x3F800000#32)))
    (mulf g (logistic (mulf (broadcast S512x1024 (Scalar.ofBits .f32 0x3FD9DB23#32)) g)))) Gen.bitsLt_bf16_f32

theorem pay5_eq (x : IVec S512x512 32) (w1 : Vec Ideal S1024x1024 .bf16) (b1 : Vec Ideal S1x1x1024 .f32) (w2 : Vec Ideal S1024x1024 .bf16)
    (b2 : Vec Ideal S1x1x1024 .f32) : Gen.k0_pay5 x w1 b1 w2 b2 = actK (unpK x) w1 b1 w2 b2 := by
  unfold Gen.k0_pay5 actK unpK
  rfl

set_option maxRecDepth 16384 in
set_option maxHeartbeats 2000000 in
theorem rows_at (X : FVec Ideal S512x1024 .f32) (w1 : Vec Ideal S1x1024x1024 .f32) (b1 : Vec Ideal S1x1x1024 .f32)
    (w2 : Vec Ideal S1x1024x1024 .f32) (b2 : Vec Ideal S1x1x1024 .f32) (w3 : Vec Ideal S1x1024x1024 .f32)
    (b3 : Vec Ideal S1x1x1024 .f32) (n : Fin 512) (k : Fin 1024) :
    Gen.k0_pay4 (actK X (Gen.k0_pay1 w1) b1 (Gen.k0_pay2 w2) b2) (Gen.k0_pay3 w3) (constant S512x1024 .f32 0x00000000#32) b3 (ix2 n k)
      = row (fun d => X (ix2 n d)) (fun d f => w1 (ix3 0 d f)) (fun f => b1 (ix3 0 0 f)) (fun d f => w2 (ix3 0 d f))
          (fun f => b2 (ix3 0 0 f)) (fun d f => w3 (ix3 0 d f)) (fun f => b3 (ix3 0 0 f)) k := by
  pointwise [actK, Gen.k0_pay4, Gen.k0_pay1, Gen.k0_pay2, Gen.k0_pay3, row, proj, act]

theorem pay_at (x : IVec S512x512 32) (w1 : Vec Ideal S1x1024x1024 .f32) (b1 : Vec Ideal S1x1x1024 .f32)
    (w2 : Vec Ideal S1x1024x1024 .f32) (b2 : Vec Ideal S1x1x1024 .f32) (w3 : Vec Ideal S1x1024x1024 .f32)
    (b3 : Vec Ideal S1x1x1024 .f32) (n : Fin 512) (k : Fin 1024) :
    Hand.blockPay x (Gen.k0_pay1 w1) b1 (Gen.k0_pay2 w2) b2 (Gen.k0_pay3 w3) b3 (ix2 n k)
      = row (halves fun d => x (ix2 n d)) (fun d f => w1 (ix3 0 d f)) (fun f => b1 (ix3 0 0 f)) (fun d f => w2 (ix3 0 d f))
          (fun f => b2 (ix3 0 0 f)) (fun d f => w3 (ix3 0 d f)) (fun f => b3 (ix3 0 0 f)) k := by
  unfold Hand.blockPay
  rw [pay5_eq]
  refine (rows_at _ _ _ _ _ _ _ n k).trans ?_
  exact row_congr (unpK_at x n) (fun _ _ => rfl) (fun _ => rfl) (fun _ _ => rfl) (fun _ => rfl) (fun _ _ => rfl) (fun _ => rfl) k

end Kernel

section Reference
open Cert.Reference2Ideal Cert.Reference2Ideal.Gen

theorem rows3 {α : Type} (W : S32x1024x1024.Idx → α) (idx : IVec S288x1 32) (b : Fin 288) (e : Fin 32)
    (he : idx (ix2 b 0) = BitVec.ofNat 32 e.val) (j k : Fin 1024) :
    Host.gather gather_S32x1024x1024_S288x1_S288x1024x1024_12_0_n_n_0_1_110241024 W idx (ix3 b j k) = W (ix3 e j k) := by
  let D := gather_S32x1024x1024_S288x1_S288x1024x1024_12_0_n_n_0_1_110241024
  have hc : ∀ A : Fin 3, D.batchCoord (ix3 b j k) A = 0 := fun A => D.batchCoord_eq_zero _ _ List.not_mem_nil
  unfold Host.gather
  refine congrArg W (funext fun a => Fin.ext ?_)
  match a with
  | ⟨0, _⟩ =>
    show D.start (ix3 b j k) idx 0 + D.batchCoord (ix3 b j k) 0 + D.offCoord (ix3 b j k) 0 = e.val
    have ho : D.offCoord (ix3 b j k) 0 = 0 := D.offCoord_eq_zero _ _ (by decide)
    have hs : D.start (ix3 b j k) idx 0 = min (idx (ix2 b 0)).toInt.toNat (32 - 1) := by
      unfold GatherDims.start
      rw [dif_pos (by decide)]
      refine congrArg (fun i => min (idx i).toInt.toNat (32 - 1)) (funext fun B => Fin.ext ?_)
      match B with
      | ⟨0, _⟩ => rfl
      | ⟨1, _⟩ => rfl
    have hl := e.isLt
    rw [hc, ho, hs, he, StableHlo.Predicate.toInt_ofNat_small _ (by omega)]
    show min ((e.val : Int)).toNat 31 + 0 + 0 = e.val
    omega
  | ⟨1, _⟩ =>
    show D.start (ix3 b j k) idx 1 + D.batchCoord (ix3 b j k) 1 + D.offCoord (ix3 b j k) 1 = j.val
    have hs : D.start (ix3 b j k) idx 1 = 0 := dif_neg (by decide)
    have ho : D.offCoord (ix3 b j k) 1 = j.val := (dif_pos (by decide)).trans rfl
    rw [hc, hs, ho, Nat.zero_add]
  | ⟨2, _⟩ =>
    show D.start (ix3 b j k) idx 2 + D.batchCoord (ix3 b j k) 2 + D.offCoord (ix3 b j k) 2 = k.val
    have hs : D.start (ix3 b j k) idx 2 = 0 := dif_neg (by decide)
    have ho : D.offCoord (ix3 b j k) 2 = k.val := (dif_pos (by decide)).trans rfl
    rw [hc, hs, ho, Nat.zero_add]

/-- The slots' rows, read out of their words. -/
def unpR (x : IVec S147456x512 32) : FVec Ideal S147456x1024 .f32 :=
  concatenate S147456x1024 1 [⟨S147456x512, bitcastToFloat .f32 (Host.shli x (broadcastInDim S147456x512 ![] bcast_S_S147456x512 (constantI S_ 32 16#32)))⟩,
    ⟨S147456x512, bitcastToFloat .f32 (andi x (broadcastInDim S147456x512 ![] bcast_S_S147456x512 (constantI S_ 32 4294901760#32)))⟩]
    concatenates_S147456x512_S147456x512_S147456x1024_d1

theorem unpR_at (x : IVec S147456x512 32) (r : Fin 147456) (d : Fin 1024) : unpR x (ix2 r d) = halves (fun k => x (ix2 r k)) d := by
  pointwise [unpR, halves]
  rfl

/-- The reference's projection of every row by its block's matrix. -/
def projT (X : FVec Ideal S147456x1024 .f32) (G : FVec Ideal S288x1024x1024 .f32) (B : FVec Ideal S288x1024 .f32) : FVec Ideal S288x512x1024 .f32 :=
  addf (Host.dotGeneral dot_S288x512x1024_S288x1024x1024_S288x512x1024_2_1_1_2_0_0 none (shapeCast _ X shapeCasts_S147456x1024_S288x512x1024) G)
    (broadcastInDim S288x512x1024 ![0, 1, 2] bcast_S288x1x1024_S288x512x1024_0_1_2 (broadcastInDim S288x1x1024 ![0, 2] bcast_S288x1024_S288x1x1024_0_2 B))

theorem projT_at (X : FVec Ideal S147456x1024 .f32) (G : FVec Ideal S288x1024x1024 .f32) (B : FVec Ideal S288x1024 .f32)
    (b : Fin 288) (n : Fin 512) (f : Fin 1024) (r : Fin 147456) (hr : r.val = 512 * b.val + n.val) :
    projT X G B (ix3 b n f) = proj (fun d => X (ix2 r d)) (fun d f => G (ix3 b d f)) (fun f => B (ix2 b f)) f := by
  rw [show r = ⟨b.val * 512 + n.val, by omega⟩ from Fin.ext (by dsimp only; omega)]
  pointwise [projT, proj]

/-- The clamped SwiGLU of the reference, on whole arrays. -/
def actT (g u : FVec Ideal S288x512x1024 .f32) : FVec Ideal S288x512x1024 .f32 :=
  mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) u)) (broadcastInDim S288x512x1024 ![] bcast_S_S288x512x1024 (constant S_ .f32 0x3F800000#32)))
    (mulf (minimumf g (broadcastInDim S288x512x1024 ![] bcast_S_S288x512x1024 (constant S_ .f32 0x40E00000#32)))
      (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (broadcastInDim S288x512x1024 ![] bcast_S_S288x512x1024 (constant S_ .f32 0x3FD9DB23#32)) (minimumf g (broadcastInDim S288x512x1024 ![] bcast_S_S288x512x1024 (constant S_ .f32 0x40E00000#32)))))))))

theorem actT_at (g u : FVec Ideal S288x512x1024 .f32) (i : S288x512x1024.Idx) : actT g u i = act (g i) (u i) := by
  pointwise [actT, act, Ideal.logistic, id_eq]

/-- The last projection of the reference. -/
def downT (A : FVec Ideal S288x512x1024 .f32) (G : FVec Ideal S288x1024x1024 .f32) (B : FVec Ideal S288x1024 .f32) : FVec Ideal S288x512x1024 .f32 :=
  addf (Host.dotGeneral dot_S288x512x1024_S288x1024x1024_S288x512x1024_2_1_1_2_0_0 none A G)
    (broadcastInDim S288x512x1024 ![0, 1, 2] bcast_S288x1x1024_S288x512x1024_0_1_2 (broadcastInDim S288x1x1024 ![0, 2] bcast_S288x1024_S288x1x1024_0_2 B))

theorem downT_at (A : FVec Ideal S288x512x1024 .f32) (G : FVec Ideal S288x1024x1024 .f32) (B : FVec Ideal S288x1024 .f32)
    (b : Fin 288) (n : Fin 512) (f : Fin 1024) :
    downT A G B (ix3 b n f) = proj (fun d => A (ix3 b n d)) (fun d f => G (ix3 b d f)) (fun f => B (ix2 b f)) f := by
  pointwise [downT, proj]

/-- Which blocks are used. -/
def usedT (nu : IVec S1 32) : IVec S288 1 :=
  cmpi .slt (iotaInDim S288 32 0) (broadcastInDim S288 ![] bcast_S_S288 (shapeCast _ nu shapeCasts_S1_S_))

/-- The blocks' experts as the gathers read them. -/
def takeT (be : IVec S288 32) : IVec S288x1 32 :=
  broadcastInDim S288x1 ![0] bcast_S288_S288x1_0 (select (cmpi .slt be (broadcastInDim S288 ![] bcast_S_S288 (constantI S_ 32 0#32))) (addi be (broadcastInDim S288 ![] bcast_S_S288 (constantI S_ 32 32#32))) be)

/-- The reference's rows under its mask. -/
def maskT (u : IVec S288 1) (Y : FVec Ideal S288x512x1024 .f32) : FVec Ideal S147456x1024 .bf16 :=
  truncf .bf16 (shapeCast _ (select (broadcastInDim S288x512x1024 ![0, 1, 2] bcast_S288x1x1_S288x512x1024_0_1_2 (broadcastInDim S288x1x1 ![0] bcast_S288_S288x1x1_0 u)) Y (broadcastInDim S288x512x1024 ![] bcast_S_S288x512x1024 (id (constant S_ .f32 0x00000000#32)))) shapeCasts_S288x512x1024_S147456x1024) bitsLt_bf16_f32

theorem maskT_at (u : IVec S288 1) (Y : FVec Ideal S288x512x1024 .f32) (r : Fin 147456) (k : Fin 1024) :
    maskT u Y (ix2 r k) = Scalar.select (u (ix1 ⟨r.val / 512, by omega⟩)) (Y (ix3 ⟨r.val / 512, by omega⟩ ⟨r.val % 512, by omega⟩ k)) 0 := by
  pointwise [maskT, id_eq]

/-- The reference's result of its nine arrays. -/
def refT (be : IVec S288 32) (nu : IVec S1 32) (X : IVec S147456x512 32) (W1 W2 W3 : FVec Ideal S32x1024x1024 .f32)
    (B1 B2 B3 : FVec Ideal S32x1024 .f32) : FVec Ideal S147456x1024 .bf16 :=
  maskT (usedT nu)
    (downT (actT (projT (unpR X) (Host.gather gather_S32x1024x1024_S288x1_S288x1024x1024_12_0_n_n_0_1_110241024 W1 (takeT be)) (Host.gather gather_S32x1024_S288x1_S288x1024_1_0_n_n_0_1_11024 B1 (takeT be))) (projT (unpR X) (Host.gather gather_S32x1024x1024_S288x1_S288x1024x1024_12_0_n_n_0_1_110241024 W2 (takeT be)) (Host.gather gather_S32x1024_S288x1_S288x1024_1_0_n_n_0_1_11024 B2 (takeT be))))
      (Host.gather gather_S32x1024x1024_S288x1_S288x1024x1024_12_0_n_n_0_1_110241024 W3 (takeT be)) (Host.gather gather_S32x1024_S288x1_S288x1024_1_0_n_n_0_1_11024 B3 (takeT be)))

open Idealize.ShloMosaic.TcCoe in
/-- What the reference leaves, by these names. -/
theorem ref_eq (m : (ℓ : Loc nD τ sig) → Buf (Elt Ideal) ℓ) (c : Dev nD) :
    Value.res_out0 m c = refT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

theorem rows2 {α : Type} (W : S32x1024.Idx → α) (idx : IVec S288x1 32) (b : Fin 288) (e : Fin 32)
    (he : idx (ix2 b 0) = BitVec.ofNat 32 e.val) (k : Fin 1024) :
    Host.gather gather_S32x1024_S288x1_S288x1024_1_0_n_n_0_1_11024 W idx (ix2 b k) = W (ix2 e k) :=
  Routing.gather_row gather_S32x1024_S288x1_S288x1024_1_0_n_n_0_1_11024 rfl rfl rfl rfl rfl W idx b k e he (by decide)

theorem takeT_at (be : IVec S288 32) (b : Fin 288) (e : Fin 32) (he : be (ix1 b) = BitVec.ofNat 32 e.val) :
    takeT be (ix2 b 0) = BitVec.ofNat 32 e.val := by
  have hl := e.isLt
  have h : ¬ IntOp.cmpi .slt (BitVec.ofNat 32 e.val) 0#32 = 1#1 := by
    rw [IntOp.cmpi_slt, StableHlo.Predicate.toInt_ofNat_small _ (by omega)]
    show ¬ ((e.val : Int) < 0)
    omega
  pointwise [takeT]
  rw [he]
  exact if_neg h

theorem usedT_at (nu : IVec S1 32) (b : Fin 288) (h : (nu (ix1 0)).toNat ≤ 288) :
    usedT nu (ix1 b) = if b.val < (nu (ix1 0)).toNat then 1#1 else 0#1 := by
  pointwise [usedT]
  have hb := b.isLt
  have hn : nu (ix1 0) = BitVec.ofNat 32 (nu (ix1 0)).toNat := by rw [BitVec.ofNat_toNat, BitVec.setWidth_eq]
  generalize (nu (ix1 0)).toNat = k at h hn ⊢
  rw [hn]
  have hs : IntOp.cmpi .slt (BitVec.ofNat 32 b.val) (BitVec.ofNat 32 k) = 1#1 ↔ b.val < k := by
    rw [IntOp.cmpi_slt, StableHlo.Predicate.toInt_ofNat_small _ (by omega), StableHlo.Predicate.toInt_ofNat_small _ (by omega)]
    omega
  split
  · rename_i hlt
    exact hs.2 hlt
  · rename_i hlt
    exact (BitVec.eq_zero_or_eq_one _).resolve_right fun e => hlt (hs.1 e)

/-- A row of the reference: its slot's row through its block's expert if the block is used, zeros if not. -/
theorem refT_at (be : IVec S288 32) (nu : IVec S1 32) (X : IVec S147456x512 32) (W1 W2 W3 : FVec Ideal S32x1024x1024 .f32)
    (B1 B2 B3 : FVec Ideal S32x1024 .f32) (r : Fin 147456) (k : Fin 1024) (b : Fin 288) (hb : b.val = r.val / 512) (e : Fin 32)
    (he : be (ix1 b) = BitVec.ofNat 32 e.val) (hn : (nu (ix1 0)).toNat ≤ 288) :
    refT be nu X W1 W2 W3 B1 B2 B3 (ix2 r k) = if r.val < 512 * (nu (ix1 0)).toNat then
      row (halves fun d => X (ix2 r d)) (fun d f => W1 (ix3 e d f)) (fun f => B1 (ix2 e f)) (fun d f => W2 (ix3 e d f)) (fun f => B2 (ix2 e f))
        (fun d f => W3 (ix3 e d f)) (fun f => B3 (ix2 e f)) k else 0 := by
  have ht := takeT_at be b e he
  have hr : r.val = 512 * b.val + r.val % 512 := by omega
  unfold refT
  rw [maskT_at, show (⟨r.val / 512, by omega⟩ : Fin 288) = b from Fin.ext hb.symm, usedT_at nu b hn, downT_at]
  simp only [actT_at, projT_at _ _ _ b ⟨r.val % 512, by omega⟩ _ r hr, unpR_at, rows3 _ _ b e ht, rows2 _ _ b e ht]
  by_cases h : b.val < (nu (ix1 0)).toNat
  · rw [if_pos h, if_pos (by omega)]
    rfl
  · rw [if_neg h, if_neg (by omega)]
    rfl

end Reference

open Cert.Kernel2.Hand in
open Idealize.ShloMosaic.TcCoe in
/-- The kernel leaves what the reference leaves of the same arrays. -/
theorem res_ref {m : (ℓ : Loc Cert.Kernel2.nD Cert.Kernel2.τ Cert.Kernel2.sig) → Buf (Elt Ideal) ℓ} (G : Good m) (c : Dev Cert.Kernel2.nD) :
    res m c = refT (m ((c : Thread Cert.Kernel2.nD Cert.Kernel2.τ).loc Cert.Kernel2.main_arg0)) (m ((c : Thread Cert.Kernel2.nD Cert.Kernel2.τ).loc Cert.Kernel2.main_arg1))
      (m ((c : Thread Cert.Kernel2.nD Cert.Kernel2.τ).loc Cert.Kernel2.main_arg2)) (m ((c : Thread Cert.Kernel2.nD Cert.Kernel2.τ).loc Cert.Kernel2.main_arg3))
      (m ((c : Thread Cert.Kernel2.nD Cert.Kernel2.τ).loc Cert.Kernel2.main_arg4)) (m ((c : Thread Cert.Kernel2.nD Cert.Kernel2.τ).loc Cert.Kernel2.main_arg5))
      (m ((c : Thread Cert.Kernel2.nD Cert.Kernel2.τ).loc Cert.Kernel2.main_arg6)) (m ((c : Thread Cert.Kernel2.nD Cert.Kernel2.τ).loc Cert.Kernel2.main_arg7))
      (m ((c : Thread Cert.Kernel2.nD Cert.Kernel2.τ).loc Cert.Kernel2.main_arg8)) := by
  funext i
  obtain ⟨r, k, rfl⟩ : ∃ (r : Fin 147456) (k : Fin 1024), i = ix2 r k := ⟨i 0, i 1, eq_ix2 i⟩
  have hr := r.isLt
  have hb : r.val / 512 < 288 := by omega
  have hlt := G.lt c ⟨r.val / 512, hb⟩
  have hn : (mw m c (ix1 0)).toNat ≤ 288 := G.le c
  have h := refT_at (bw m c) (mw m c) (m ((c : Thread Cert.Kernel2.nD Cert.Kernel2.τ).loc Cert.Kernel2.main_arg2)) (m ((c : Thread Cert.Kernel2.nD Cert.Kernel2.τ).loc Cert.Kernel2.main_arg3))
      (m ((c : Thread Cert.Kernel2.nD Cert.Kernel2.τ).loc Cert.Kernel2.main_arg4)) (m ((c : Thread Cert.Kernel2.nD Cert.Kernel2.τ).loc Cert.Kernel2.main_arg5))
      (m ((c : Thread Cert.Kernel2.nD Cert.Kernel2.τ).loc Cert.Kernel2.main_arg6)) (m ((c : Thread Cert.Kernel2.nD Cert.Kernel2.τ).loc Cert.Kernel2.main_arg7))
      (m ((c : Thread Cert.Kernel2.nD Cert.Kernel2.τ).loc Cert.Kernel2.main_arg8)) r k ⟨r.val / 512, hb⟩ rfl
      ⟨(bw m c (ix1 ⟨r.val / 512, hb⟩)).toNat, hlt⟩ (by rw [BitVec.ofNat_toNat, BitVec.setWidth_eq]) hn
  refine Eq.trans ?_ h.symm
  show (if r.val < 512 * nuOf m c then _ else _) = _
  by_cases hu : r.val < 512 * nuOf m c
  · have hu' : r.val < 512 * (mw m c (ix1 0)).toNat := hu
    rw [if_pos hu, if_pos hu']
    have hx : bix (nuOf m c) (r.val / 512) = ⟨r.val / 512, hb⟩ := Fin.ext (by
      show min (r.val / 512) (nuOf m c - 1) % 288 = r.val / 512; omega)
    have ht : tbOf m c ⟨r.val / 512, hb⟩ = ⟨(bw m c (ix1 ⟨r.val / 512, hb⟩)).toNat, hlt⟩ := Fin.ext (by
      show (bw m c (ix1 (bix (nuOf m c) (r.val / 512)))).toNat % 32 = (bw m c (ix1 ⟨r.val / 512, hb⟩)).toNat
      rw [hx, Nat.mod_eq_of_lt hlt])
    unfold whole outv
    refine (pay_at _ _ _ _ _ _ _ _ _).trans ?_
    exact row_congr (congrFun (congrArg halves (funext fun d : Fin 512 => (congrFun (V_arg2 m c) _).trans (congrArg (fun r' : Fin 147456 => (m ((c : Thread Cert.Kernel2.nD Cert.Kernel2.τ).loc Cert.Kernel2.main_arg2) : Cert.Kernel2.S147456x512.Idx → Elt Ideal .i32) (ix2 r' d)) (Fin.ext (by show 512 * (r.val / 512) + r.val % 512 = r.val; omega))))))
      (fun d f => (congrFun (V_arg3 m c) _).trans (congrArg (fun e : Fin 32 => (m ((c : Thread Cert.Kernel2.nD Cert.Kernel2.τ).loc Cert.Kernel2.main_arg3) : Cert.Kernel2.S32x1024x1024.Idx → Elt Ideal .f32) (ix3 e d f)) ht))
      (fun f => (V_v7 m c _ f).trans (congrArg (fun e : Fin 32 => (m ((c : Thread Cert.Kernel2.nD Cert.Kernel2.τ).loc Cert.Kernel2.main_arg6) : Cert.Kernel2.S32x1024.Idx → Elt Ideal .f32) (ix2 e f)) ht))
      (fun d f => (congrFun (V_arg4 m c) _).trans (congrArg (fun e : Fin 32 => (m ((c : Thread Cert.Kernel2.nD Cert.Kernel2.τ).loc Cert.Kernel2.main_arg4) : Cert.Kernel2.S32x1024x1024.Idx → Elt Ideal .f32) (ix3 e d f)) ht))
      (fun f => (V_v8 m c _ f).trans (congrArg (fun e : Fin 32 => (m ((c : Thread Cert.Kernel2.nD Cert.Kernel2.τ).loc Cert.Kernel2.main_arg7) : Cert.Kernel2.S32x1024.Idx → Elt Ideal .f32) (ix2 e f)) ht))
      (fun d f => (congrFun (V_arg5 m c) _).trans (congrArg (fun e : Fin 32 => (m ((c : Thread Cert.Kernel2.nD Cert.Kernel2.τ).loc Cert.Kernel2.main_arg5) : Cert.Kernel2.S32x1024x1024.Idx → Elt Ideal .f32) (ix3 e d f)) ht))
      (fun f => (V_v9 m c _ f).trans (congrArg (fun e : Fin 32 => (m ((c : Thread Cert.Kernel2.nD Cert.Kernel2.τ).loc Cert.Kernel2.main_arg8) : Cert.Kernel2.S32x1024.Idx → Elt Ideal .f32) (ix2 e f)) ht)) k
  · have hu' : ¬ r.val < 512 * (mw m c (ix1 0)).toNat := hu
    rw [if_neg hu, if_neg hu']
    show Ideal.ofBits .bf16 0x0000#16 = 0
    exact Ideal.ofBits_zero_bf16

end Cert.Value2
-- ==== Proof.CbBody.lean ====
/-
  The combine's body at one grid point: 256 trips of four row copies each, all on one DMA cell, then 256 trips of four
  waits, then the rows' arithmetic. The 1024 copies are one batch (`Transfers.Batch`): copy `t` takes the row of the
  slots that the table names at `t` to row `t / 4` of plane `t % 4` of the scratch. The slots are lent as one read token
  a copy; the scratch's rows are taken apart and joined again after the last wait.
-/
module

public import proofs.«01_k».proof.Proof.Gen.Kernel3.Frame
public import proofs.«01_k».proof.Proof.Gen.Kernel3.Loops
public import Idealize.ShloMosaic.Lib.Batch
public import Idealize.ShloMosaic.Lib.Ring
public import Idealize.ShloMosaic.Lib.Pointwise.Index
public import Idealize.ShloMosaic.Lib.Pipeline.Routed
public import Idealize.ShloMosaic.Lib.Pipeline.TableIdle
public import Idealize.ShloMosaic.Lib.VecWindow
public import Idealize.ShloMosaic.Lib.Tactic
public import Idealize.ShloMosaic.Lib.WordArith.Masks

@[expose] public section

noncomputable section

namespace Cert.Kernel3.Hand

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The algebra of the proof: the pipeline library's beside the transfers' counters. -/
local notation "𝕄" => MT nD τ sig Unit (Elt F) ℕ (Pipeline.UC sig nD τ) ℕ

/-! ## Rows -/

theorem sRow_inb (r : Fin 147456) : ∀ a, (![r.val, 0] : Fin 2 → ℕ) a + S1x512.size a ≤ S147456x512.size a := by
  have h := r.isLt
  intro a; fin_cases a
  · show r.val + 1 ≤ 147456; omega
  · show 0 + 512 ≤ 512; omega

theorem dRow_inb (j : Fin 4) (k : Fin 256) : ∀ a, (![j.val, k.val, 0] : Fin 3 → ℕ) a + S1x1x512.size a ≤ S4x256x512.size a := by
  have h := k.isLt
  have h' := j.isLt
  intro a; fin_cases a
  · show j.val + 1 ≤ 4; omega
  · show k.val + 1 ≤ 256; omega
  · show 0 + 512 ≤ 512; omega

/-- Row `r` of the slots. -/
def sRow (r : Fin 147456) : Memref sig .tc .hbm S1x512 .i32 :=
  (Memref.whole main_arg4).slice (Rect.unit (s := S147456x512) ![r.val, 0] S1x512.size (sRow_inb r)) (fun _ => rfl)

/-- Row `k` of plane `j` of the scratch. -/
def dRow (j : Fin 4) (k : Fin 256) : Memref sig .tc .vmem S1x512 .i32 :=
  ((Memref.whole cc0_scratch0).slice (Rect.unit (s := S4x256x512) ![j.val, k.val, 0] S1x1x512.size (dRow_inb j k)) (fun _ => rfl)).squeeze S1x512 squeezes_S1x1x512_S1x512

/-- The units one row's copy puts on its cell. -/
abbrev NN : ℕ := 64

theorem amount_row (j : Fin 4) (k : Fin 256) (sm : DmaSem sig) : (dRow j k).view.amount (.dma sm) = NN := rfl

theorem mem_dRow (j : Fin 4) (k : Fin 256) (i : S4x256x512.Idx) : i ∈ (dRow j k).view.set ↔ i 0 = j ∧ i 1 = k := by
  unfold dRow
  rw [show (((Memref.whole cc0_scratch0).slice (Rect.unit (s := S4x256x512) ![j.val, k.val, 0] S1x1x512.size (dRow_inb j k)) (fun _ => rfl)).squeeze S1x512 squeezes_S1x1x512_S1x512).view.set
    = (Rect.unit (s := S4x256x512) ![j.val, k.val, 0] S1x1x512.size (dRow_inb j k)).set from (View.set_reshape _ _).trans (View.set_slice_whole _ _)]
  rw [Rect.mem_set_unit]
  constructor
  · intro h
    have h0 : j.val ≤ (i 0).val ∧ (i 0).val < j.val + 1 := h 0
    have h1 : k.val ≤ (i 1).val ∧ (i 1).val < k.val + 1 := h 1
    exact ⟨Fin.ext (by omega), Fin.ext (by omega)⟩
  · rintro ⟨h0, h1⟩ a
    have h0' : (i 0).val = j.val := by rw [h0]
    have h1' : (i 1).val = k.val := by rw [h1]
    fin_cases a
    · show j.val ≤ (i 0).val ∧ (i 0).val < j.val + 1; omega
    · show k.val ≤ (i 1).val ∧ (i 1).val < k.val + 1; omega
    · have := (i 2).isLt
      show 0 ≤ (i 2).val ∧ (i 2).val < 0 + 512
      exact ⟨Nat.zero_le _, by rw [Nat.zero_add]; exact this⟩

/-- What the batch is stated over at a point: the table's, the scratch's and the slots' contents, the rows the table
    names. -/
structure Pt (c : Dev nD) where
  a1 : Memref sig .tc .smem S1024 .i32
  f1 : Buf (Elt F) (a1.view.loc (c : Thread nD τ))
  fo : Buf (Elt F) ((Memref.whole cc0_scratch0).view.loc (c : Thread nD τ))
  fy : Buf (Elt F) ((Memref.whole main_arg4).view.loc (c : Thread nD τ))
  ds : Fin 1024 → Fin 147456
  tab : ∀ t : Fin 1024, (a1.view.read (Elt F) f1 (ix1 t) : BitVec 32).toNat = (ds t).val

section
variable {c : Dev nD} (P : Pt (F := F) c)

def q4 (t : Fin 1024) : Fin 256 := ⟨t.val / 4, by omega⟩
def r4 (t : Fin 1024) : Fin 4 := ⟨t.val % 4, by omega⟩
/-- The copy that fills row `k` of plane `j`. -/
def at4 (j : Fin 4) (k : Fin 256) : Fin 1024 := ⟨4 * k.val + j.val, by omega⟩

theorem at4_qr (t : Fin 1024) : at4 (r4 t) (q4 t) = t := Fin.ext (by show 4 * (t.val / 4) + t.val % 4 = t.val; omega)
theorem r4_at (j : Fin 4) (k : Fin 256) : r4 (at4 j k) = j := Fin.ext (by show (4 * k.val + j.val) % 4 = j.val; omega)
theorem q4_at (j : Fin 4) (k : Fin 256) : q4 (at4 j k) = k := Fin.ext (by show (4 * k.val + j.val) / 4 = k.val; omega)

/-- The scratch filled: row `k` of plane `j` the slots' row that the table names at `4 k + j`. -/
def filled (ds : Fin 1024 → Fin 147456) (y : S147456x512.Idx → Elt F .i32) : S4x256x512.Idx → Elt F .i32 :=
  fun i => y (ix2 (ds (at4 (i 0 : Fin 4) (i 1 : Fin 256))) (i 2 : Fin 512))

def Pt.g : Buf (Elt F) ((Memref.whole cc0_scratch0).view.loc (c : Thread nD τ)) := filled P.ds P.fy

def dBuf (j : Fin 4) (k : Fin 256) (f : Buf (Elt F) ((Memref.whole cc0_scratch0).view.loc (c : Thread nD τ))) : Buf (Elt F) ((dRow j k).view.loc (c : Thread nD τ)) := f
def sBuf (r : Fin 147456) (f : Buf (Elt F) ((Memref.whole main_arg4).view.loc (c : Thread nD τ))) : Buf (Elt F) ((sRow r).view.loc (c : Thread nD τ)) := f

/-- Copy `t`'s row of the scratch, before and after. -/
def dPt (t : Fin 1024) (f : Buf (Elt F) ((Memref.whole cc0_scratch0).view.loc (c : Thread nD τ))) : sProp 𝕄 :=
  ((dRow (r4 t) (q4 t)).view.loc (c : Thread nD τ)) ↦[(dRow (r4 t) (q4 t)).view.set]{fullShare} dBuf (r4 t) (q4 t) f
/-- Copy `t`'s row of the slots, at the copy's own token. -/
def sPt (t : Fin 1024) : sProp 𝕄 :=
  ((sRow (P.ds t)).view.loc (c : Thread nD τ)) ↦[(sRow (P.ds t)).view.set]{Transfers.shareTokN fullShare t.val} sBuf (P.ds t) P.fy
/-- What copy `t` takes. -/
def give (t : Fin 1024) : sProp 𝕄 := iprop(dPt t P.fo ∗ sPt P t)
/-- What copy `t` delivers. -/
def back (t : Fin 1024) : sProp 𝕄 := iprop(dPt t P.g ∗ sPt P t)

instance (t : Fin 1024) : Storable (upEmb : UEmb _ 𝕄) (back P t) := by
  unfold back dPt sPt; infer_instance

/-- The batch with `j` copies issued and `u` units consumed. -/
abbrev batch (j u : ℕ) : sProp 𝕄 :=
  Transfers.Batch (countersEmb (U := Pipeline.UC sig nD τ)) (c : Thread nD τ) (.dma (9 : DmaSem sig)) () NN (back P) j u

theorem sRow_read (fy : Buf (Elt F) ((Memref.whole main_arg4).view.loc (c : Thread nD τ))) (r : Fin 147456) (x : S1x512.Idx) :
    (sRow r).view.read (Elt F) (sBuf (c := c) r fy) x = (fy : S147456x512.Idx → Elt F .i32) (ix2 r (x 1 : Fin 512)) := by
  have e : (Rect.unit (s := S147456x512) ![r.val, 0] S1x512.size (sRow_inb r)).emb x = (ix2 r (x 1 : Fin 512) : S147456x512.Idx) := by
    have h0 : (x 0).val = 0 := by have := (x 0).isLt; have : (x 0).val < 1 := this; omega
    funext a; apply Fin.ext; rw [Rect.emb_apply]
    fin_cases a
    · show r.val + 1 * (x 0).val = r.val; omega
    · show 0 + 1 * (x 1).val = (x 1).val; omega
  have h : (sRow r).view.read (Elt F) (sBuf (c := c) r fy) x
    = (fy : S147456x512.Idx → Elt F .i32) ((Rect.unit (s := S147456x512) ![r.val, 0] S1x512.size (sRow_inb r)).emb x) := rfl
  exact h.trans (congrArg _ e)

theorem dRow_emb (j : Fin 4) (k : Fin 256) (x : S1x512.Idx) : (dRow j k).view.emb x = (ix3 j k (x 1 : Fin 512) : S4x256x512.Idx) := by
  have h0 : (x 0).val = 0 := by have := (x 0).isLt; have : (x 0).val < 1 := this; omega
  have e1 : Shape.reshapeEquiv squeezes_S1x1x512_S1x512.numel_eq x = (ix3 (0 : Fin 1) (0 : Fin 1) (x 1 : Fin 512) : S1x1x512.Idx) :=
    Shape.reshapeEquiv_eq_of_rowMajor _ (by
      rw [Shape.rowMajor_val_three, Shape.rowMajor_val_two]
      show ((0 : ℕ) * 1 + 0) * 512 + (x 1).val = (x 0).val * 512 + (x 1).val
      omega)
  have e : (Rect.unit (s := S4x256x512) ![j.val, k.val, 0] S1x1x512.size (dRow_inb j k)).emb (ix3 (0 : Fin 1) (0 : Fin 1) (x 1 : Fin 512) : S1x1x512.Idx)
      = (ix3 j k (x 1 : Fin 512) : S4x256x512.Idx) := by
    funext a; apply Fin.ext; rw [Rect.emb_apply]
    fin_cases a
    · show j.val + 1 * 0 = j.val; omega
    · show k.val + 1 * 0 = k.val; omega
    · show 0 + 1 * (x 1).val = (x 1).val; omega
  exact (congrArg (Rect.unit (s := S4x256x512) ![j.val, k.val, 0] S1x1x512.size (dRow_inb j k)).emb e1).trans e

theorem dRow_write (j : Fin 4) (k : Fin 256) (f : Buf (Elt F) ((Memref.whole cc0_scratch0).view.loc (c : Thread nD τ))) (w : S1x512.Idx → Elt F .i32) (x : S1x512.Idx) :
    (dRow j k).view.write (Elt F) (dBuf (c := c) j k f) w Finset.univ ((dRow j k).view.emb x) = w x :=
  (View.write_emb_of_mem _ _ (Finset.mem_univ x)).trans rfl

theorem g_at (t : Fin 1024) (col : Fin 512) : (P.g : S4x256x512.Idx → Elt F .i32) (ix3 (r4 t) (q4 t) col) = (P.fy : S147456x512.Idx → Elt F .i32) (ix2 (P.ds t) col) := by
  show (P.fy : S147456x512.Idx → Elt F .i32) (ix2 (P.ds (at4 (r4 t) (q4 t))) col) = _
  rw [at4_qr]

/-- Copy `t`'s delivery: the row written is the row the filled scratch has there. -/
theorem delivers (t : Fin 1024) :
    iprop((((dRow (r4 t) (q4 t)).view.loc (c : Thread nD τ)) ↦[(dRow (r4 t) (q4 t)).view.set]{fullShare}
        ((dRow (r4 t) (q4 t)).view.write (Elt F) (dBuf (r4 t) (q4 t) P.fo) (ReadAs.same.apply ((sRow (P.ds t)).view.read (Elt F) (sBuf (P.ds t) P.fy))) Finset.univ))
      ∗ (((sRow (P.ds t)).view.loc (c : Thread nD τ)) ↦[(sRow (P.ds t)).view.set]{Transfers.shareTokN fullShare t.val} sBuf (P.ds t) P.fy))
      ⊢ (back P t : sProp 𝕄) := by
  unfold back dPt sPt
  refine Entails.of_eq ?_
  congr 1
  refine pointsTo_congr fun i hi => ?_
  obtain ⟨x, -, rfl⟩ := Finset.mem_map.mp hi
  refine (dRow_write _ _ _ _ x).trans ?_
  refine (sRow_read P.fy (P.ds t) x).trans ?_
  refine (g_at P t (x 1 : Fin 512)).symm.trans ?_
  exact congrArg (P.g : S4x256x512.Idx → Elt F .i32) (dRow_emb _ _ x).symm

/-- The batch's copy `t` issued at the head of a program. -/
theorem wp_issue {α : Type} {Q : α → sProp 𝕄} (t : ℕ) (ht : t < 1024)
    {src : Memref sig .tc .hbm S1x512 .i32} {dst : Memref sig .tc .vmem S1x512 .i32}
    (hs : src = sRow (P.ds ⟨t, ht⟩)) (hd : dst = dRow (r4 ⟨t, ht⟩) (q4 ⟨t, ht⟩))
    {hsrc : src.view.WordExact} {hdst : dst.view.WordExact} {hsem : DmaTarget.Typed (nD := nD) (τ := τ) (p := (c : Thread nD τ).2) .hbm (.dma (9 : DmaSem sig)) (.here dst)}
    {k : PUnit → Prog (TpuEff nD τ sig (Elt F) Λ₀ .tc) α} :
    iprop(bigSep (Transfers.pending t) (give P) ∗ batch P t 0)
      ⊢ iprop((iprop(bigSep (Transfers.pending (t + 1)) (give P) ∗ batch P (t + 1) 0) -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma (9 : DmaSem sig)) hsrc hdst hsem) k) Q) := by
  subst hs; subst hd
  iintro ⟨Hp, HB⟩ Hk
  ihave Hp' := (show bigSep (Transfers.pending t) (give P)
      ⊢ iprop((((dRow (r4 ⟨t, ht⟩) (q4 ⟨t, ht⟩)).view.loc (c : Thread nD τ)) ↦[(dRow (r4 ⟨t, ht⟩) (q4 ⟨t, ht⟩)).view.set]{fullShare} dBuf (r4 ⟨t, ht⟩) (q4 ⟨t, ht⟩) P.fo)
        ∗ (((sRow (P.ds ⟨t, ht⟩)).view.loc (c : Thread nD τ)) ↦[(sRow (P.ds ⟨t, ht⟩)).view.set]{Transfers.shareTokN fullShare t} sBuf (P.ds ⟨t, ht⟩) P.fy)
        ∗ bigSep (Transfers.pending (t + 1)) (give P))
    from (Entails.of_eq (show bigSep (Transfers.pending t) (give P) = iprop(give P ⟨t, ht⟩ ∗ bigSep (Transfers.pending (t + 1)) (give P)) by
        rw [Transfers.pending_succ ht]; exact bigSep_insert (Transfers.not_mem_pending_succ ht))).trans sep_assoc.1) $$ Hp
  icases Hp' with ⟨Hd, Hs, Hr⟩
  iapply (Transfers.wp_dmaBatch (countersEmb (U := Pipeline.UC sig nD τ)) Variants.none (c : Thread nD τ) none (src := sRow (P.ds ⟨t, ht⟩))
    (dst := dRow (r4 ⟨t, ht⟩) (q4 ⟨t, ht⟩)) () NN rfl subset_rfl (D := back P) (j := t) (u := 0) ht (Nat.zero_le _) (delivers P ⟨t, ht⟩)) $$ [Hs Hd HB]
  · isplitl [Hs]; · iexact Hs
    isplitl [Hd]; · iexact Hd
    iexact HB
  iintro HB
  iapply Hk
  isplitl [Hr]; · iexact Hr
  iexact HB

theorem bind_ret_unit {E : Type → Type} {α β : Type} (a : α) (k : α → Prog E β) : (Prog.ret a).bind k = k a := rfl

/-- The point's table, as the run holds it. -/
def tabPt : sProp 𝕄 := (P.a1.view.loc (c : Thread nD τ)) ↦[P.a1.view.set]{fullShare} P.f1

/-- The table's word `t` read at the head of a program. -/
theorem wp_word {α : Type} {Q : α → sProp 𝕄} (t : Fin 1024) (off : Fin 1 → ℕ) (ho : off = ![t.val]) (inb : ∀ a, off a + S1.size a ≤ S1024.size a)
    {k : Elt F .i32 → Prog (TpuEff nD τ sig (Elt F) Λ₀ .tc) α} :
    (tabPt P : sProp 𝕄)
      ⊢ iprop((tabPt P -∗ wp frame (wpE (defs₀ (F := F)) Variants.none (c : Thread nD τ) none) Set.univ (k (P.a1.view.read (Elt F) P.f1 (ix1 t))) Q)
          -∗ wp frame (wpE (defs₀ (F := F)) Variants.none (c : Thread nD τ) none) Set.univ ((smemLoad P.a1 (Rect.unit (s := S1024) off S1.size inb) numel1_S1 rfl).bind k) Q) := by
  subst ho
  unfold tabPt
  have h := wp_smemLoadElt (Ix := Unit) (Name := ℕ) (U := Pipeline.UC sig nD τ) (Lvl := ℕ) (defs := defs₀ (F := F)) Variants.none (c : Thread nD τ) none Set.univ (Γ := ∅) (Q := Q)
    (m := P.a1) (r := Rect.unit (s := S1024) ![t.val] S1.size inb) (hw := View.loads_smem_one rfl numel1_S1)
    (x := Shape.Idx.first (numel1_S1.symm ▸ Nat.one_pos)) (k := k) (S := P.a1.view.set) (q := fullShare) (f := P.f1) (View.set_slice_subset _ _)
  have e : (P.a1.access (Rect.unit (s := S1024) ![t.val] S1.size inb)).read (Elt F) P.f1 (Shape.Idx.first (numel1_S1.symm ▸ Nat.one_pos))
      = P.a1.view.read (Elt F) P.f1 (ix1 t) := by
    have e' : (Rect.unit (s := S1024) ![t.val] S1.size inb).emb (Shape.Idx.first (numel1_S1.symm ▸ Nat.one_pos)) = (ix1 t : S1024.Idx) := by
      funext a; apply Fin.ext; rw [Rect.emb_apply]
      fin_cases a
      show t.val + 1 * 0 = t.val; omega
    exact congrArg (P.a1.view.read (Elt F) P.f1) e'
  rw [e] at h
  exact h

theorem chk_of (t : Fin 1024) : ∀ a, (![(P.a1.view.read (Elt F) P.f1 (ix1 t) : BitVec 32).toNat, 0] : Fin 2 → ℕ) a + S1x512.size a ≤ S147456x512.size a := by
  rw [P.tab t]; exact sRow_inb (P.ds t)

theorem iv_toNat (k : ℕ) (hk : k < 256) : (Scf.iv 0#32 1#32 k).toNat = k :=
  WordArith.toNat_iv_zero_one k (by omega)

theorem iv_mul (k j : ℕ) (hk : k < 256) (hj : j < 4) :
    (Scalar.addi (Scalar.muli (Scf.iv 0#32 1#32 k) 4#32) (BitVec.ofNat 32 j)).toNat = 4 * k + j := by
  have h := iv_toNat k hk
  show (Scf.iv 0#32 1#32 k * 4#32 + BitVec.ofNat 32 j).toNat = 4 * k + j
  rw [BitVec.toNat_add, BitVec.toNat_mul, h, BitVec.toNat_ofNat]
  show (k * 4 % 2 ^ 32 + j % 2 ^ 32) % 2 ^ 32 = 4 * k + j
  omega

theorem src_eq (t : Fin 1024) (off : Fin 2 → ℕ) (ho : off = ![(P.a1.view.read (Elt F) P.f1 (ix1 t) : BitVec 32).toNat, 0])
    (inb : ∀ a, off a + S1x512.size a ≤ S147456x512.size a) (hs) :
    (Memref.whole main_arg4).slice (Rect.unit (s := S147456x512) off S1x512.size inb) hs = sRow (P.ds t) := by
  unfold sRow
  exact Memref.slice_unit_congr _ (by rw [ho, P.tab t]) _ _ _ _

theorem row_eq (j : Fin 4) (k : Fin 256) (off : Fin 3 → ℕ) (ho : off = ![j.val, k.val, 0])
    (inb : ∀ a, off a + S1x1x512.size a ≤ S4x256x512.size a) :
    ((Memref.whole cc0_scratch0).slice (Rect.unit (s := S4x256x512) off S1x1x512.size inb) (fun _ => rfl)).squeeze S1x512 squeezes_S1x1x512_S1x512 = dRow j k := by
  subst ho
  rfl

/-- Before trip `k` of the issuing loop: the table, the copies from `4 k` on still to issue, the batch. -/
def issueAt (k : ℕ) (_ : Unit) : sProp 𝕄 :=
  iprop(tabPt P ∗ bigSep (Transfers.pending (4 * k)) (give P) ∗ batch P (4 * k) 0)

theorem issue_step (i : grid0.Coords) (h1 : P.a1.IsWhole) (a2 : Memref sig .tc .vmem S256x1024 .f32) (h2 : a2.IsWhole) (a3 : Memref sig .tc .vmem S256x128 .f32) (h3 : a3.IsWhole)
    (a4 : Memref sig .tc .vmem S1x1024 .f32) (h4 : a4.IsWhole) (h5) (a6 : Memref sig .tc .vmem S256x1024 .f32) (h6 : a6.IsWhole) (h7) (k : Fin k0_t1_loop.trips) (acc : Unit) :
    issueAt P k acc ⊢ wp frame (wpE (defs₀ (F := F)) Variants.none (c : Thread nD τ) none) Set.univ
      (k0_t1_body (F := F) i P.a1 h1 a2 h2 a3 h3 a4 h4 (Memref.whole main_arg4) h5 a6 h6 (Memref.whole cc0_scratch0) h7 cc0_scratch1 k acc) (issueAt P (k.val + 1)) := by
  have hk : k.val < 256 := k.isLt
  unfold issueAt k0_t1_body
  iintro ⟨HT, Hp, HB⟩
  iapply (wp_word P ⟨4 * k.val, by omega⟩ (k0_off1 k) (by unfold k0_off1; exact congrArg (fun z => (![z] : Fin 1 → ℕ)) (iv_mul k 0 hk (by omega))) (k0_off1_inb k)) $$ HT
  iintro HT
  iapply (wp_assume Variants.none (c : Thread nD τ) none Set.univ (chk_of P _))
  iapply (wp_issue P (4 * k.val) (by omega) (src_eq P ⟨4 * k.val, by omega⟩ _ rfl _ _)
    (row_eq (r4 ⟨4 * k.val, by omega⟩) (q4 ⟨4 * k.val, by omega⟩) _ (by
      unfold k0_off2 r4 q4
      have e1 : 0 = (4 * k.val) % 4 := by omega
      have e2 : (Scf.iv 0#32 1#32 k.val).toNat = (4 * k.val) / 4 := (iv_toNat k hk).trans (by omega)
      exact (congrArg (fun z => (![z, (Scf.iv 0#32 1#32 k.val).toNat, 0] : Fin 3 → ℕ)) e1).trans (congrArg (fun z => (![(4 * k.val) % 4, z, 0] : Fin 3 → ℕ)) e2)) _)) $$ [Hp HB]
  · isplitl [Hp] <;> iassumption
  iintro ⟨Hp, HB⟩
  iapply (wp_word P ⟨4 * k.val + 1, by omega⟩ (k0_off4 k) (by unfold k0_off4; exact congrArg (fun z => (![z] : Fin 1 → ℕ)) (iv_mul k 1 hk (by omega))) (k0_off4_inb k)) $$ HT
  iintro HT
  iapply (wp_assume Variants.none (c : Thread nD τ) none Set.univ (chk_of P _))
  iapply (wp_issue P (4 * k.val + 1) (by omega) (src_eq P ⟨4 * k.val + 1, by omega⟩ _ rfl _ _)
    (row_eq (r4 ⟨4 * k.val + 1, by omega⟩) (q4 ⟨4 * k.val + 1, by omega⟩) _ (by
      unfold k0_off5 r4 q4
      have e1 : 1 = (4 * k.val + 1) % 4 := by omega
      have e2 : (Scf.iv 0#32 1#32 k.val).toNat = (4 * k.val + 1) / 4 := (iv_toNat k hk).trans (by omega)
      exact (congrArg (fun z => (![z, (Scf.iv 0#32 1#32 k.val).toNat, 0] : Fin 3 → ℕ)) e1).trans (congrArg (fun z => (![(4 * k.val + 1) % 4, z, 0] : Fin 3 → ℕ)) e2)) _)) $$ [Hp HB]
  · isplitl [Hp] <;> iassumption
  iintro ⟨Hp, HB⟩
  iapply (wp_word P ⟨4 * k.val + 2, by omega⟩ (k0_off7 k) (by unfold k0_off7; exact congrArg (fun z => (![z] : Fin 1 → ℕ)) (iv_mul k 2 hk (by omega))) (k0_off7_inb k)) $$ HT
  iintro HT
  iapply (wp_assume Variants.none (c : Thread nD τ) none Set.univ (chk_of P _))
  iapply (wp_issue P (4 * k.val + 2) (by omega) (src_eq P ⟨4 * k.val + 2, by omega⟩ _ rfl _ _)
    (row_eq (r4 ⟨4 * k.val + 2, by omega⟩) (q4 ⟨4 * k.val + 2, by omega⟩) _ (by
      unfold k0_off8 r4 q4
      have e1 : 2 = (4 * k.val + 2) % 4 := by omega
      have e2 : (Scf.iv 0#32 1#32 k.val).toNat = (4 * k.val + 2) / 4 := (iv_toNat k hk).trans (by omega)
      exact (congrArg (fun z => (![z, (Scf.iv 0#32 1#32 k.val).toNat, 0] : Fin 3 → ℕ)) e1).trans (congrArg (fun z => (![(4 * k.val + 2) % 4, z, 0] : Fin 3 → ℕ)) e2)) _)) $$ [Hp HB]
  · isplitl [Hp] <;> iassumption
  iintro ⟨Hp, HB⟩
  iapply (wp_word P ⟨4 * k.val + 3, by omega⟩ (k0_off10 k) (by unfold k0_off10; exact congrArg (fun z => (![z] : Fin 1 → ℕ)) (iv_mul k 3 hk (by omega))) (k0_off10_inb k)) $$ HT
  iintro HT
  iapply (wp_assume Variants.none (c : Thread nD τ) none Set.univ (chk_of P _))
  iapply (wp_issue P (4 * k.val + 3) (by omega) (src_eq P ⟨4 * k.val + 3, by omega⟩ _ rfl _ _)
    (row_eq (r4 ⟨4 * k.val + 3, by omega⟩) (q4 ⟨4 * k.val + 3, by omega⟩) _ (by
      unfold k0_off11 r4 q4
      have e1 : 3 = (4 * k.val + 3) % 4 := by omega
      have e2 : (Scf.iv 0#32 1#32 k.val).toNat = (4 * k.val + 3) / 4 := (iv_toNat k hk).trans (by omega)
      exact (congrArg (fun z => (![z, (Scf.iv 0#32 1#32 k.val).toNat, 0] : Fin 3 → ℕ)) e1).trans (congrArg (fun z => (![(4 * k.val + 3) % 4, z, 0] : Fin 3 → ℕ)) e2)) _)) $$ [Hp HB]
  · isplitl [Hp] <;> iassumption
  iintro ⟨Hp, HB⟩
  simp only [bind_ret_unit]
  sl_step
  isplitl [HT]; · iexact HT
  isplitl [Hp]; · iexact Hp
  iexact HB

/-- Before trip `k` of the draining loop: until the last trip has run the batch with `4 k` copies' units consumed, after
    it the cell at zero and every delivery. -/
def drainAt (k : ℕ) (_ : Unit) : sProp 𝕄 :=
  iprop((∃ W, owes (c : Thread nD τ) 0 W)
    ∗ (if k < 256 then batch P 1024 (4 * k * NN)
       else iprop(semVal ((c : Thread nD τ), SemLoc.dma (9 : DmaSem sig)) 0 ∗ bigSep Finset.univ (back P))))

theorem wp_wait {α : Type} {Q : α → sProp 𝕄} (u : ℕ) (hu : u + NN < NN * 1024)
    {src : Memref sig .tc .hbm S1x512 .i32} {dst : Memref sig .tc .vmem S1x512 .i32} (hd : dst.view.dmaCredit = NN)
    {hsrc : src.view.WordExact} {hdst : dst.view.WordExact}
    {k : PUnit → Prog (TpuEff nD τ sig (Elt F) Λ₀ .tc) α} :
    iprop(batch P 1024 u ∗ ∃ W, owes (c : Thread nD τ) 0 W)
      ⊢ iprop((iprop(batch P 1024 (u + NN) ∗ ∃ W, owes (c : Thread nD τ) 0 W) -∗ wp frame (wpE (defs₀ (F := F)) Variants.none (c : Thread nD τ) none) Set.univ (k ⟨⟩) Q)
          -∗ wp frame (wpE (defs₀ (F := F)) Variants.none (c : Thread nD τ) none) Set.univ (.op (.waitDma2 (9 : DmaSem sig) src dst hsrc hdst) k) Q) := by
  iintro ⟨HB, ⟨%W, HO⟩⟩ Hk
  iapply (Transfers.wp_waitBatch (countersEmb (U := Pipeline.UC sig nD τ)) Variants.none (c : Thread nD τ) none (srcw := src) (dstw := dst) () (N := NN) hd hu) $$ [HB HO]
  · isplitl [HB] <;> iassumption
  iintro ⟨HB, HO⟩
  iapply Hk
  isplitl [HB]; · iexact HB
  iexists _; iexact HO

theorem wp_waitLast {α : Type} {Q : α → sProp 𝕄} (u : ℕ) (hu : u + NN = NN * 1024)
    {src : Memref sig .tc .hbm S1x512 .i32} {dst : Memref sig .tc .vmem S1x512 .i32} (hd : dst.view.dmaCredit = NN)
    {hsrc : src.view.WordExact} {hdst : dst.view.WordExact}
    {k : PUnit → Prog (TpuEff nD τ sig (Elt F) Λ₀ .tc) α} :
    iprop(batch P 1024 u ∗ ∃ W, owes (c : Thread nD τ) 0 W)
      ⊢ iprop((iprop(semVal ((c : Thread nD τ), SemLoc.dma (9 : DmaSem sig)) 0 ∗ bigSep Finset.univ (back P) ∗ ∃ W, owes (c : Thread nD τ) 0 W)
            -∗ wp frame (wpE (defs₀ (F := F)) Variants.none (c : Thread nD τ) none) Set.univ (k ⟨⟩) Q)
          -∗ wp frame (wpE (defs₀ (F := F)) Variants.none (c : Thread nD τ) none) Set.univ (.op (.waitDma2 (9 : DmaSem sig) src dst hsrc hdst) k) Q) := by
  iintro ⟨HB, ⟨%W, HO⟩⟩ Hk
  iapply (Transfers.wp_waitBatchLast (countersEmb (U := Pipeline.UC sig nD τ)) Variants.none (c : Thread nD τ) none (srcw := src) (dstw := dst) () (N := NN) hd (by decide) hu) $$ [HB HO]
  · isplitl [HB] <;> iassumption
  iintro ⟨HA, Hc, HO⟩
  iapply Hk
  isplitl [Hc]; · iexact Hc
  isplitl [HA]; · iexact HA
  iexists _; iexact HO

theorem drain_step (i : grid0.Coords) (h1 : P.a1.IsWhole) (a2 : Memref sig .tc .vmem S256x1024 .f32) (h2 : a2.IsWhole) (a3 : Memref sig .tc .vmem S256x128 .f32) (h3 : a3.IsWhole)
    (a4 : Memref sig .tc .vmem S1x1024 .f32) (h4 : a4.IsWhole) (h5) (a6 : Memref sig .tc .vmem S256x1024 .f32) (h6 : a6.IsWhole) (h7) (k : Fin k0_t2_loop.trips) (acc : Unit) :
    drainAt P k acc ⊢ wp frame (wpE (defs₀ (F := F)) Variants.none (c : Thread nD τ) none) Set.univ
      (k0_t2_body (F := F) i P.a1 h1 a2 h2 a3 h3 a4 h4 (Memref.whole main_arg4) h5 a6 h6 (Memref.whole cc0_scratch0) h7 cc0_scratch1 k acc) (drainAt P (k.val + 1)) := by
  have hk : k.val < 256 := k.isLt
  unfold drainAt k0_t2_body
  simp only [if_pos hk]
  iintro ⟨HO, HB⟩
  iapply (wp_wait P (4 * k.val * NN) (by unfold NN; omega) rfl) $$ [HB HO]
  · isplitl [HB] <;> iassumption
  iintro ⟨HB, HO⟩
  iapply (wp_wait P (4 * k.val * NN + NN) (by unfold NN; omega) rfl) $$ [HB HO]
  · isplitl [HB] <;> iassumption
  iintro ⟨HB, HO⟩
  iapply (wp_wait P (4 * k.val * NN + NN + NN) (by unfold NN; omega) rfl) $$ [HB HO]
  · isplitl [HB] <;> iassumption
  iintro ⟨HB, HO⟩
  rcases Nat.lt_or_ge (k.val + 1) 256 with hl | hl
  · simp only [if_pos hl]
    iapply (wp_wait P (4 * k.val * NN + NN + NN + NN) (by unfold NN; omega) rfl) $$ [HB HO]
    · isplitl [HB] <;> iassumption
    iintro ⟨HB, HO⟩
    simp only [bind_ret_unit]
    sl_step
    isplitl [HO]; · iexact HO
    rw [show 4 * (k.val + 1) * NN = 4 * k.val * NN + NN + NN + NN + NN by unfold NN; omega]
    iexact HB
  · simp only [if_neg (Nat.not_lt.mpr hl)]
    iapply (wp_waitLast P (4 * k.val * NN + NN + NN + NN) (by unfold NN; omega) rfl) $$ [HB HO]
    · isplitl [HB] <;> iassumption
    iintro ⟨Hc, HA, HO⟩
    simp only [bind_ret_unit]
    sl_step
    isplitl [HO]; · iexact HO
    isplitl [Hc] <;> iassumption

/-! ## The rows taken apart and joined -/

/-- The slots, whole. -/
def slotPt : sProp 𝕄 := ((Memref.whole main_arg4).view.loc (c : Thread nD τ)) ↦[Finset.univ]{fullShare} P.fy
/-- The scratch, whole. -/
def outPt (f : Buf (Elt F) ((Memref.whole cc0_scratch0).view.loc (c : Thread nD τ))) : sProp 𝕄 :=
  ((Memref.whole cc0_scratch0).view.loc (c : Thread nD τ)) ↦[Finset.univ]{fullShare} f

/-- Copy `t`'s elements among the scratch's, -/
def dSet (t : Fin 1024) : Finset (Idx ((Memref.whole cc0_scratch0).view.loc (c : Thread nD τ))) := (dRow (r4 t) (q4 t)).view.set
/-- and row `r`'s among the slots'. -/
def sSet (r : Fin 147456) : Finset (Idx ((Memref.whole main_arg4).view.loc (c : Thread nD τ))) := (sRow r).view.set
theorem mem_dSet (t : Fin 1024) (i : Idx ((Memref.whole cc0_scratch0).view.loc (c : Thread nD τ))) :
    i ∈ dSet (c := c) t ↔ (i : S4x256x512.Idx) 0 = r4 t ∧ (i : S4x256x512.Idx) 1 = q4 t := mem_dRow _ _ i

/-- What no copy takes of the slots. -/
def slotRest : sProp 𝕄 := iprop((((Memref.whole main_arg4).view.loc (c : Thread nD τ)) ↦[Finset.univ]{Transfers.shareDrop fullShare 1024} P.fy)
  ∗ bigSep Finset.univ (fun t : Fin 1024 => (((Memref.whole main_arg4).view.loc (c : Thread nD τ)) ↦[Finset.univ \ sSet (P.ds t)]{Transfers.shareTokN fullShare t.val} P.fy : sProp 𝕄)))

theorem swap3 (A B C : sProp 𝕄) : iprop(A ∗ B ∗ C) = iprop(B ∗ A ∗ C) :=
  Entails.antisymm
    (show iprop(A ∗ B ∗ C) ⊢ iprop(B ∗ A ∗ C) by
      iintro ⟨a, b, d⟩; isplitl [b]; · iexact b
      isplitl [a] <;> iassumption)
    (show iprop(B ∗ A ∗ C) ⊢ iprop(A ∗ B ∗ C) by
      iintro ⟨b, a, d⟩; isplitl [a]; · iexact a
      isplitl [b] <;> iassumption)

theorem slot_split : slotPt P = iprop(bigSep Finset.univ (sPt P) ∗ slotRest P) := by
  have h1 : slotPt P = iprop((((Memref.whole main_arg4).view.loc (c : Thread nD τ)) ↦[Finset.univ]{Transfers.shareDrop fullShare 1024} P.fy)
      ∗ bigSep (Finset.range 1024) (fun t => (((Memref.whole main_arg4).view.loc (c : Thread nD τ)) ↦[Finset.univ]{Transfers.shareTokN fullShare t} P.fy : sProp 𝕄))) :=
    Entails.antisymm (Transfers.pointsTo_toks_range fullShare 1024).1 (Transfers.pointsTo_toks_range fullShare 1024).2
  have h2 : bigSep (Finset.range 1024) (fun t => (((Memref.whole main_arg4).view.loc (c : Thread nD τ)) ↦[Finset.univ]{Transfers.shareTokN fullShare t} P.fy : sProp 𝕄))
      = bigSep Finset.univ (fun t : Fin 1024 => (((Memref.whole main_arg4).view.loc (c : Thread nD τ)) ↦[Finset.univ]{Transfers.shareTokN fullShare t.val} P.fy : sProp 𝕄)) :=
    (Ring.bigSep_fin_eq_range 1024 _ _ fun t h => rfl).symm
  have h3 : bigSep Finset.univ (fun t : Fin 1024 => (((Memref.whole main_arg4).view.loc (c : Thread nD τ)) ↦[Finset.univ]{Transfers.shareTokN fullShare t.val} P.fy : sProp 𝕄))
      = bigSep Finset.univ (fun t : Fin 1024 => iprop(sPt P t ∗ (((Memref.whole main_arg4).view.loc (c : Thread nD τ)) ↦[Finset.univ \ sSet (P.ds t)]{Transfers.shareTokN fullShare t.val} P.fy))) :=
    bigSep_congr fun t _ => by
      have h := pointsTo_split_subset (Ix := Unit) (Val := Elt F) (Name := ℕ) (U := Pipeline.UC sig nD τ) (Lvl := ℕ) (ℓ := (Memref.whole main_arg4).view.loc (c : Thread nD τ)) (q := Transfers.shareTokN fullShare t.val) (f := P.fy)
        (I := sSet (P.ds t)) (S := Finset.univ) (Finset.subset_univ _)
      exact Entails.antisymm h.1 h.2
  rw [h1, h2, h3, show bigSep Finset.univ (fun t : Fin 1024 => iprop(sPt P t ∗ (((Memref.whole main_arg4).view.loc (c : Thread nD τ)) ↦[Finset.univ \ sSet (P.ds t)]{Transfers.shareTokN fullShare t.val} P.fy)))
      = iprop(bigSep Finset.univ (sPt P) ∗ bigSep Finset.univ (fun t : Fin 1024 => (((Memref.whole main_arg4).view.loc (c : Thread nD τ)) ↦[Finset.univ \ sSet (P.ds t)]{Transfers.shareTokN fullShare t.val} P.fy : sProp 𝕄)))
    from bigSep_sep _ _ _]
  unfold slotRest
  exact swap3 _ _ _

theorem dSet_cover : (Finset.univ : Finset (Fin 1024)).biUnion (fun t => dSet (c := c) t) = Finset.univ := by
  refine Finset.eq_univ_iff_forall.mpr fun i => ?_
  rw [Finset.mem_biUnion]
  exact ⟨at4 ((i : S4x256x512.Idx) 0) ((i : S4x256x512.Idx) 1), Finset.mem_univ _, (mem_dSet _ i).mpr ⟨(r4_at _ _).symm, (q4_at _ _).symm⟩⟩

theorem out_split (f : Buf (Elt F) ((Memref.whole cc0_scratch0).view.loc (c : Thread nD τ))) :
    outPt (c := c) f = bigSep Finset.univ (fun t => dPt (c := c) t f) := by
  have hU := pointsTo_biUnion (Ix := Unit) (Val := Elt F) (Name := ℕ) (U := Pipeline.UC sig nD τ) (Lvl := ℕ) (ℓ := (Memref.whole cc0_scratch0).view.loc (c : Thread nD τ)) (q := fullShare) (f := f)
    (Finset.univ : Finset (Fin 1024)) (fun t => dSet (c := c) t) (by
      intro t _ t' _ hne
      rw [Finset.disjoint_left]
      intro i hi hi'
      have h1 := (mem_dSet _ _).mp hi
      have h2 := (mem_dSet _ _).mp hi'
      exact hne ((at4_qr t).symm.trans ((by rw [← h1.1, ← h1.2, h2.1, h2.2] : at4 (r4 t) (q4 t) = at4 (r4 t') (q4 t')).trans (at4_qr t'))))
  unfold outPt
  rw [← dSet_cover (c := c), hU]
  rfl

/-- Plane `j` of the scratch's contents. -/
def plane (s : S4x256x512.Idx → Elt F .i32) (j : Fin 4) : S1x256x512.Idx → Elt F .i32 :=
  fun i => s (ix3 j (i 1 : Fin 256) (i 2 : Fin 512))

/-- What the body stores: the point's rows of the residual and the gates, the scratch's four planes and the norm's gains. -/
def combPay (x : S256x1024.Idx → Elt F .f32) (a : S256x128.Idx → Elt F .f32) (g : S1x1024.Idx → Elt F .f32) (s : S4x256x512.Idx → Elt F .i32) :
    S256x1024.Idx → Elt F .f32 :=
  k0_pay1 a (k0_pay2 x a (plane s 0) (plane s 1)) (k0_pay3 a) (k0_pay4 (plane s 2)) (plane s 3) g

theorem pt_of_read {sp : Space} {sh : Shape} {e : EltTy} (m : Memref sig .tc sp sh e) (q : PosShare TreeShare) (X : sh.Idx → Elt F e)
    (f : Buf (Elt F) (m.view.loc (c : Thread nD τ))) (h : m.view.read (Elt F) f = X) :
    (m.view.loc (c : Thread nD τ) ↦[m.view.set]{q} f : sProp 𝕄) ⊢ (m.view.loc (c : Thread nD τ) ↦[m.view.set]{q} m.view.rep X : sProp 𝕄) := by
  rw [← owns_eq_rep]
  unfold owns
  iintro H; iexists f; isplitr; · ipureintro; exact h
  iexact H

theorem plane_of (s : S4x256x512.Idx → Elt F .i32) (j : Fin 4) (inb : ∀ a, (![j.val, 0, 0] : Fin 3 → ℕ) a + S1x256x512.size a ≤ S4x256x512.size a) :
    View.readAt (Elt F) (Memref.whole cc0_scratch0).view (Rect.unit (s := S4x256x512) ![j.val, 0, 0] S1x256x512.size inb).toLoadRect ((Memref.whole cc0_scratch0).view.rep s) = plane s j := by
  rw [View.readAt_rep]
  funext y
  unfold plane
  refine congrArg s ?_
  funext a; apply Fin.ext
  have h0 : (y 0).val = 0 := by have := (y 0).isLt; have : (y 0).val < 1 := this; omega
  fin_cases a
  · show j.val + 1 * (y 0).val = j.val; omega
  · show 0 + 1 * (y 1).val = (y 1).val; omega
  · show 0 + 1 * (y 2).val = (y 2).val; omega

/-- THE BODY at a point: from the table, the slots and the scratch whole, the cell at zero and the windows' buffers, to
    the same with the scratch filled and the output's buffer at the rows' arithmetic. -/
theorem body_run (i : grid0.Coords) (h1 : P.a1.IsWhole) (a2 : Memref sig .tc .vmem S256x1024 .f32) (h2 : a2.IsWhole) (a3 : Memref sig .tc .vmem S256x128 .f32) (h3 : a3.IsWhole)
    (a4 : Memref sig .tc .vmem S1x1024 .f32) (h4 : a4.IsWhole) (h5) (a6 : Memref sig .tc .vmem S256x1024 .f32) (h6 : a6.IsWhole) (h7) (W : Waits sig Unit)
    (x : S256x1024.Idx → Elt F .f32) (a : S256x128.Idx → Elt F .f32) (gn : S1x1024.Idx → Elt F .f32) (y : S256x1024.Idx → Elt F .f32) :
    iprop(tabPt P ∗ slotPt P ∗ outPt P.fo ∗ semVal ((c : Thread nD τ), SemLoc.dma (9 : DmaSem sig)) 0 ∗ owes (c : Thread nD τ) 0 W
        ∗ owns (c : Thread nD τ) a2 fullShare x ∗ owns (c : Thread nD τ) a3 fullShare a ∗ owns (c : Thread nD τ) a4 fullShare gn ∗ owns (c : Thread nD τ) a6 fullShare y)
      ⊢ wp frame (wpE (defs₀ (F := F)) Variants.none (c : Thread nD τ) none) Set.univ
        (cc0_moe_combine (F := F) i P.a1 h1 a2 h2 a3 h3 a4 h4 (Memref.whole main_arg4) h5 a6 h6 (Memref.whole cc0_scratch0) h7 cc0_scratch1)
        (fun _ => iprop(tabPt P ∗ slotPt P ∗ owns (c : Thread nD τ) (Memref.whole cc0_scratch0) fullShare (filled P.ds P.fy) ∗ semVal ((c : Thread nD τ), SemLoc.dma (9 : DmaSem sig)) 0 ∗ (∃ W, owes (c : Thread nD τ) 0 W)
        ∗ owns (c : Thread nD τ) a2 fullShare x ∗ owns (c : Thread nD τ) a3 fullShare a ∗ owns (c : Thread nD τ) a4 fullShare gn
        ∗ owns (c : Thread nD τ) a6 fullShare (combPay x a gn (filled P.ds P.fy)))) := by
  rw [owns_eq_rep (c : Thread nD τ) a2, owns_eq_rep (c : Thread nD τ) a3, owns_eq_rep (c : Thread nD τ) a4, owns_eq_rep (c : Thread nD τ) a6, owns_eq_rep (c : Thread nD τ) a6,
    owns_eq_rep (c : Thread nD τ) (Memref.whole cc0_scratch0)]
  rw [cc0_moe_combine_eq_skeleton]
  unfold cc0_moe_combine_skel
  simp only [k0_part1_eq_skeleton, k0_part1_skel, bind_assoc, pure_bind]
  iintro ⟨HT, HS, HD, Hc, HO, H2, H3, H4, H6⟩
  ihave HS' := (Entails.of_eq (slot_split P)) $$ HS
  icases HS' with ⟨HS, HSr⟩
  ihave HD' := (Entails.of_eq (out_split P.fo)) $$ HD
  ihave HG := (show iprop(bigSep Finset.univ (fun t => dPt (c := c) t P.fo) ∗ bigSep Finset.univ (sPt P)) ⊢ bigSep (Transfers.pending (4 * 0)) (give P) from
    Entails.of_eq (by rw [show 4 * 0 = 0 from rfl, Transfers.pending_zero]; exact (bigSep_sep _ _ _).symm)) $$ [HD' HS]
  · isplitl [HD'] <;> iassumption
  imod (Transfers.batch_alloc' (Lvl := ℕ) (countersEmb (U := Pipeline.UC sig nD τ)) (c : Thread nD τ) () NN (back P) (sm := .dma (9 : DmaSem sig)) (E := Set.univ)) $$ Hc with HB
  sl_for (issueAt P) $$ [HT HG HB]
  · intro k acc; exact issue_step P i h1 a2 h2 a3 h3 a4 h4 h5 a6 h6 h7 k acc
  · unfold issueAt
    isplitl [HT]; · iexact HT
    isplitl [HG]; · iexact HG
    iexact HB
  iintro %acc HL
  ihave HL' := (show issueAt P k0_t1_loop.trips acc ⊢ iprop(tabPt P ∗ batch P 1024 0) from by
    unfold issueAt
    rw [show 4 * k0_t1_loop.trips = 1024 from by decide]
    iintro ⟨HT, -, HB⟩
    isplitl [HT] <;> iassumption) $$ HL
  icases HL' with ⟨HT, HB⟩
  sl_for (drainAt P) $$ [HB HO]
  · intro k acc; exact drain_step P i h1 a2 h2 a3 h3 a4 h4 h5 a6 h6 h7 k acc
  · unfold drainAt
    rw [if_pos (by decide)]
    isplitl [HO]; · iexists _; iexact HO
    iexact HB
  iintro %acc2 HL
  ihave HL' := (show drainAt P k0_t2_loop.trips acc2 ⊢ iprop((∃ W, owes (c : Thread nD τ) 0 W) ∗ semVal ((c : Thread nD τ), SemLoc.dma (9 : DmaSem sig)) 0 ∗ bigSep Finset.univ (back P)) from by
    unfold drainAt
    rw [if_neg (by decide)]) $$ HL
  icases HL' with ⟨HO, Hc, HA⟩
  ihave HA' := (show bigSep Finset.univ (back P) ⊢ iprop(bigSep Finset.univ (fun t => dPt (c := c) t P.g) ∗ bigSep Finset.univ (sPt P)) from
    Entails.of_eq (bigSep_sep _ _ _)) $$ HA
  icases HA' with ⟨HD, HS⟩
  ihave HD' := (Entails.of_eq (((out_split P.g).symm.trans (show outPt (c := c) P.g = (owns (c : Thread nD τ) (Memref.whole cc0_scratch0) fullShare (filled P.ds P.fy) : sProp 𝕄) from (owns_whole _ _ _ _).symm)).trans (owns_eq_rep _ _ _ _))) $$ HD
  ihave HS' := (Entails.of_eq (slot_split P).symm) $$ [HS HSr]
  · isplitl [HS] <;> iassumption
  sl_exec
  rw [wp_ret]
  isplitl [HT]; · iexact HT
  isplitl [HS']; · iexact HS'
  isplitl [HD']; · iexact HD'
  isplitl [Hc]; · iexact Hc
  isplitl [HO]; · iexact HO
  isplitl [H2]; · iexact H2
  isplitl [H3]; · iexact H3
  isplitl [H4]; · iexact H4
  iapply (pt_of_read a6 fullShare _ _ ((View.read_writes_full _ _ _ _ _).trans (by
      delta body_run.sl.x body_run.sl.x_1 body_run.sl.x_2 body_run.sl.v44
      rw [View.readAt_rep_full a2.view x, View.readAt_rep_full a3.view a, View.readAt_rep_full a4.view gn]
      unfold combPay
      rw [← plane_of (filled P.ds P.fy) 0 inb_S4x256x512_S1x256x512_0_0_0, ← plane_of (filled P.ds P.fy) 1 inb_S4x256x512_S1x256x512_1_0_0,
        ← plane_of (filled P.ds P.fy) 2 inb_S4x256x512_S1x256x512_2_0_0, ← plane_of (filled P.ds P.fy) 3 inb_S4x256x512_S1x256x512_3_0_0]
      rfl))) $$ H6

end

end Cert.Kernel3.Hand
-- ==== Proof.CbFrame.lean ====
/-
  The combine's run. Every grid point runs `body_run` on its block of the table, its rows of the residual and of the
  gates, and the gains; the slots, left in HBM, are read through copies into the scratch. Parameter: the rows `dest` that
  the table's words name.
-/
module

public import proofs.«01_k».proof.Proof.CbBody
public import proofs.«01_k».proof.Proof.Gen.Kernel3.Frame
public import proofs.«01_k».proof.Proof.Gen.Kernel3.Launch
public import proofs.«01_k».proof.Proof.Gen.Kernel3.Points
public import Idealize.ShloMosaic.Lib.Pipeline.Routed
public import Idealize.ShloMosaic.Lib.Pipeline.FrameBody
public import Idealize.ShloMosaic.Lib.Pipeline.ValueKit.Point

@[expose] public section

noncomputable section

namespace Cert.Kernel3.Hand

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

set_option maxHeartbeats 800000 in
theorem hmainC (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

/-! ## The blocks -/

theorem idx : ∀ t : Fin cfg0.N, win0_0.index t = ![t.val] ∧ win0_1.index t = ![t.val, 0] ∧ win0_2.index t = ![t.val, 0] ∧ win0_3.index t = ![0, 0] ∧ win0_4.index t = ![t.val, 0] :=
  (by decide +kernel : ∀ t : Fin grid0.N, _)

theorem point_lt (t : Fin cfg0.N) : t.val < 128 := by
  have h : t.val < grid0.N := t.isLt
  rw [N_0] at h; exact h

theorem iblk0_apply (c : Dev nD) (t : Fin cfg0.N) (j : Fin 1024) :
    (iblk m c 0 t : S1024.Idx → Elt F .i32) (ix1 j) = (V m c main_arg0 : S131072.Idx → Elt F .i32) (ix1 (⟨1024 * t.val + j.val, by have := point_lt t; omega⟩ : Fin 131072)) := by
  blk_ext [iblk, idx t]

theorem iblk1_apply (c : Dev nD) (t : Fin cfg0.N) (k : Fin 256) (col : Fin 1024) :
    (iblk m c 1 t : S256x1024.Idx → Elt F .f32) (ix2 k col) = (V m c main_arg1 : S32768x1024.Idx → Elt F .f32) (ix2 (⟨256 * t.val + k.val, by have := point_lt t; omega⟩ : Fin 32768) col) := by
  blk_ext [iblk, idx t]

theorem iblk2_apply (c : Dev nD) (t : Fin cfg0.N) (k : Fin 256) (col : Fin 128) :
    (iblk m c 2 t : S256x128.Idx → Elt F .f32) (ix2 k col) = (V m c main_arg2 : S32768x128.Idx → Elt F .f32) (ix2 (⟨256 * t.val + k.val, by have := point_lt t; omega⟩ : Fin 32768) col) := by
  blk_ext [iblk, idx t]

theorem iblk3_apply (c : Dev nD) (t : Fin cfg0.N) (k : Fin 1) (col : Fin 1024) :
    (iblk m c 3 t : S1x1024.Idx → Elt F .f32) (ix2 k col) = (V m c main_v0 : S1x1024.Idx → Elt F .f32) (ix2 k col) := by
  blk_ext [iblk, idx t]

/-! ## The proof data -/

section
variable (dest : Dev nD → Fin 131072 → Fin 147456)

/-- The table's words name `dest`. -/
def Entry : Prop :=
  ∀ (c : Dev nD) (a : Fin 131072), ((V m c main_arg0 : S131072.Idx → Elt F .i32) (ix1 a) : BitVec 32).toNat = (dest c a).val

/-- The rows that point `p`'s copies take. -/
def rowsAt (c : Dev nD) (p : ℕ) (j : Fin 1024) : Fin 147456 := dest c ⟨(1024 * p + j.val) % 131072, Nat.mod_lt _ (by decide)⟩

/-- Point `t`'s rows of the output. -/
def outv (c : Dev nD) (t : Fin cfg0.N) : S256x1024.Idx → Elt F .f32 :=
  combPay (iblk m c 1 t) (iblk m c 2 t) (iblk m c 3 t) (filled (rowsAt dest c t.val) (V m c main_arg4 : S147456x512.Idx → Elt F .i32))

/-- The slots at a point. -/
def slots (c : Dev nD) : sProp 𝕄 := ((c : Thread nD τ).loc main_arg4) ↦{fullShare} V m c main_arg4

/-- The invariant between points: the slots, the scratch at some contents, the cell at zero, the pseudo-random register. -/
def inv (c : Dev nD) : sProp 𝕄 :=
  iprop(slots m c ∗ (∃ f : Buf (Elt F) ((c : Thread nD τ).loc cc0_scratch0), ((c : Thread nD τ).loc cc0_scratch0) ↦{fullShare} f)
    ∗ semVal ((c : Thread nD τ), SemLoc.dma (9 : DmaSem sig)) 0 ∗ ∃ r, prngReg c r)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv m dest c t
  Φ _ := inv m c
  q _ := fullShare
  owed _ := 0

theorem A_eq (c : Dev nD) (w : Fin cfg0.W) : (dats m dest 0 c).A w = V m c (Pipeline.arrRef spec0 w) := by
  dsimp only [dats]
theorem after0_0 (c : Dev nD) (t : Fin cfg0.N) : (dats m dest 0 c).after 0 t = iblk m c 0 t := by dsimp only [dats]
theorem before0_0 (c : Dev nD) (t : Fin cfg0.N) (d) : (dats m dest 0 c).before 0 t d = iblk m c 0 t :=
  ((dats m dest 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m dest 0 c).after 1 t = iblk m c 1 t := by dsimp only [dats]
theorem before0_1 (c : Dev nD) (t : Fin cfg0.N) (d) : (dats m dest 0 c).before 1 t d = iblk m c 1 t :=
  ((dats m dest 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m dest 0 c).after 2 t = iblk m c 2 t := by dsimp only [dats]
theorem before0_2 (c : Dev nD) (t : Fin cfg0.N) (d) : (dats m dest 0 c).before 2 t d = iblk m c 2 t :=
  ((dats m dest 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m dest 0 c).after 3 t = iblk m c 3 t := by dsimp only [dats]
theorem before0_3 (c : Dev nD) (t : Fin cfg0.N) (d) : (dats m dest 0 c).before 3 t d = iblk m c 3 t :=
  ((dats m dest 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m dest 0 c).after 4 t = outv m dest c t := by dsimp only [dats]

abbrev ms0_0 (t : Fin cfg0.N) : Memref sig .tc .smem S1024 .i32 := win0_0.stage (cfg0.slots t 0)
abbrev ms0_1 (t : Fin cfg0.N) : Memref sig .tc .vmem S256x1024 .f32 := win0_1.stage (cfg0.slots t 1)
abbrev ms0_2 (t : Fin cfg0.N) : Memref sig .tc .vmem S256x128 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S256x1024 .f32 := win0_4.stage (cfg0.slots t 4)

/-- Point `t`'s `Pt`, from a staged table that reads as its block. -/
def ptOf (E : Entry m dest) (c : Dev nD) (t : Fin cfg0.N) (f1 : Buf (Elt F) ((ms0_0 t).view.loc (c : Thread nD τ)))
    (fo : Buf (Elt F) ((c : Thread nD τ).loc cc0_scratch0)) (h1 : (ms0_0 t).view.read (Elt F) f1 = iblk m c 0 t) : Pt (F := F) c where
  a1 := ms0_0 t
  f1 := f1
  fo := fo
  fy := V m c main_arg4
  ds := rowsAt dest c t.val
  tab j := by
    have h := (congrFun h1 (ix1 j)).trans (iblk0_apply m c t j)
    rw [h]
    refine (E c _).trans (congrArg (fun a => (dest c a).val) (Fin.ext ?_))
    have := point_lt t
    show 1024 * t.val + j.val = (1024 * t.val + j.val) % 131072
    omega

theorem tabPt_ptOf (E : Entry m dest) (c : Dev nD) (t : Fin cfg0.N) (f1) (fo) (h1) :
    tabPt (ptOf m dest E c t f1 fo h1) = iprop(((ms0_0 t).view.loc (c : Thread nD τ)) ↦[(ms0_0 t).view.set]{fullShare} f1) := rfl
theorem slotPt_ptOf (E : Entry m dest) (c : Dev nD) (t : Fin cfg0.N) (f1) (fo) (h1) :
    slotPt (ptOf m dest E c t f1 fo h1) = slots m c := rfl
theorem outPt_ptOf (E : Entry m dest) (c : Dev nD) (t : Fin cfg0.N) (f1) (fo) (h1) :
    outPt (ptOf m dest E c t f1 fo h1).fo = iprop(((c : Thread nD τ).loc cc0_scratch0) ↦{fullShare} fo) := rfl

def bodyPre (c : Dev nD) (t : Fin cfg0.N) : sProp 𝕄 :=
  iprop((dats m dest 0 c).Φ t.castSucc ∗ (dats m dest 0 c).owesAt () t.castSucc
    ∗ (∃ d, owns (c : Thread nD τ) (ms0_0 t) fullShare ((dats m dest 0 c).before 0 t d))
    ∗ (∃ d, owns (c : Thread nD τ) (ms0_1 t) fullShare ((dats m dest 0 c).before 1 t d))
    ∗ (∃ d, owns (c : Thread nD τ) (ms0_2 t) fullShare ((dats m dest 0 c).before 2 t d))
    ∗ (∃ d, owns (c : Thread nD τ) (ms0_3 t) fullShare ((dats m dest 0 c).before 3 t d))
    ∗ (∃ d, owns (c : Thread nD τ) (ms0_4 t) fullShare ((dats m dest 0 c).before 4 t d)))
def bodyPost (c : Dev nD) (t : Fin cfg0.N) : sProp 𝕄 :=
  iprop((dats m dest 0 c).Φ t.succ ∗ (dats m dest 0 c).owesAt () t.succ
    ∗ owns (c : Thread nD τ) (ms0_0 t) fullShare ((dats m dest 0 c).after 0 t)
    ∗ owns (c : Thread nD τ) (ms0_1 t) fullShare ((dats m dest 0 c).after 1 t)
    ∗ owns (c : Thread nD τ) (ms0_2 t) fullShare ((dats m dest 0 c).after 2 t)
    ∗ owns (c : Thread nD τ) (ms0_3 t) fullShare ((dats m dest 0 c).after 3 t)
    ∗ owns (c : Thread nD τ) (ms0_4 t) fullShare ((dats m dest 0 c).after 4 t))

theorem sound_body (E : Entry m dest) (c : Dev nD) (t : Fin cfg0.N) :
    bodyPre m dest c t ⊢ wp frame (wpE (defs₀ (F := F)) Variants.none c none) Set.univ (bodyAt0 t) (fun _ => bodyPost m dest c t) := by
  unfold bodyPre bodyPost bodyAt0
  rw [after0_0, after0_1, after0_2, after0_3, after0_4]
  simp only [before0_0, before0_1, before0_2, before0_3]
  rw [show (dats m dest 0 c).Φ t.castSucc = inv m c from rfl, show (dats m dest 0 c).Φ t.succ = inv m c from rfl]
  unfold Dat.owesAt Pipeline.owesWithin
  rw [show (dats m dest 0 c).owed t.castSucc = 0 from rfl, show (dats m dest 0 c).owed t.succ = 0 from rfl]
  unfold inv
  iintro ⟨⟨HS, ⟨%fo, HD⟩, Hc, Hg⟩, ⟨%W, -, HW⟩, ⟨%d0, H1⟩, ⟨%d1, H2⟩, ⟨%d2, H3⟩, ⟨%d3, H4⟩, ⟨%d4, H5⟩⟩
  ihave H1' := (show (owns (c : Thread nD τ) (ms0_0 t) fullShare (iblk m c 0 t) : sProp 𝕄) ⊢ iprop(∃ f1, ⌜(ms0_0 t).view.read (Elt F) f1 = iblk m c 0 t⌝ ∗ (((ms0_0 t).view.loc (c : Thread nD τ)) ↦[(ms0_0 t).view.set]{fullShare} f1)) from by unfold owns; exact .rfl) $$ H1
  icases H1' with ⟨%f1, %h1, H1⟩
  ihave Hrun := (body_run (ptOf m dest E c t f1 fo h1) (grid0.coords t) (hstage0_0 ((cfg0.slots t 0).cast nbuf0_0)) (ms0_1 t) (hstage0_1 ((cfg0.slots t 1).cast nbuf0_1)) (ms0_2 t) (hstage0_2 ((cfg0.slots t 2).cast nbuf0_2))
      (ms0_3 t) (hstage0_3 ((cfg0.slots t 3).cast nbuf0_3)) (Memref.isWhole_whole _) (ms0_4 t) (hstage0_4 ((cfg0.slots t 4).cast nbuf0_4)) (Memref.isWhole_whole _) W
      (iblk m c 1 t) (iblk m c 2 t) (iblk m c 3 t) ((dats m dest 0 c).before 4 t d4)) $$ [HS HD Hc HW H1 H2 H3 H4 H5]
  · rw [tabPt_ptOf, slotPt_ptOf, outPt_ptOf]
    isplitl [H1]; · iexact H1
    isplitl [HS]; · iexact HS
    isplitl [HD]; · iexact HD
    isplitl [Hc]; · iexact Hc
    isplitl [HW]; · iexact HW
    isplitl [H2]; · iexact H2
    isplitl [H3]; · iexact H3
    isplitl [H4]; · iexact H4
    iexact H5
  rw [tabPt_ptOf, slotPt_ptOf, owns_whole]
  iapply (wp_wand frame _ _) $$ Hrun
  iintro %_ ⟨H1, HS, HD, Hc, ⟨%W', HW'⟩, H2, H3, H4, H5⟩
  isplitl [HS HD Hc Hg]
  · isplitl [HS]; · iexact HS
    isplitl [HD]; · iexists _; iexact HD
    isplitl [Hc] <;> iassumption
  isplitl [HW']
  · iexists W'; isplitr; · ipureintro; exact fun _ _ => Or.inl trivial
    iexact HW'
  isplitl [H1]
  · unfold owns
    iexists f1; isplitr; · ipureintro; exact h1
    iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (E : Entry m dest) (c : Dev nD) : BodyObligation (dats (F := F) m dest 0 c) (defs₀ (F := F)) Variants.none () Set.univ := fun t => by
  rw [bigSep_W0, bigSep_W0, defs₀_row]
  exact triple_restated (sound_body m dest E c t) rfl .rfl fun _ => .rfl

/-! ## The run -/

abbrev osem0 : Fin 1 → SemLoc sig := fun j => (![SemLoc.dma 9] : Fin 1 → SemLoc sig) j
theorem ownSemFacts0 : Pipeline.OwnSemFacts spec0 osem0 := by decide

abbrev R0 : Finset (Ref sig .tc) := {main_arg4}
theorem R0_sub : R0 ⊆ Pipeline.restRefs sig spec0 := by decide

theorem ends_eq (c : Dev nD) (W) : (Pipeline.Ends spec0 osem0 R0 c W : sProp 𝕄)
    = iprop((((c : Thread nD τ).loc main_arg4) ↦{fullShare} W main_arg4) ∗ semVal ((c : Thread nD τ), SemLoc.dma (9 : DmaSem sig)) 0
      ∗ (∃ f : Buf (Elt F) ((c : Thread nD τ).loc cc0_scratch0), ((c : Thread nD τ).loc cc0_scratch0) ↦{fullShare} f) ∗ ∃ r, prngReg c r) := by
  unfold Pipeline.Ends
  rw [Pipeline.routed_singleton, Pipeline.ownSems0_eq_of_list c osem0 [0] (by decide) (by decide), Gen.scopedRest0_eq c]
  rfl

theorem enter (c : Dev nD) : (Pipeline.Ends spec0 osem0 R0 c (V m c) : sProp 𝕄) ⊢ inv m c := by
  rw [ends_eq]; unfold inv slots
  iintro ⟨H, Hs, Hd, Hg⟩
  isplitl [H]; · iexact H
  isplitl [Hd]; · iexact Hd
  isplitl [Hs] <;> iassumption

theorem leave (c : Dev nD) : inv m c ⊢ (Pipeline.Ends spec0 osem0 R0 c (V m c) : sProp 𝕄) := by
  rw [ends_eq]; unfold inv slots
  iintro ⟨H, Hd, Hs, Hg⟩
  isplitl [H]; · iexact H
  isplitl [Hs]; · iexact Hs
  isplitl [Hd]; · iexact Hd
  iexact Hg

set_option backward.isDefEq.respectTransparency.types false in
theorem run_main (E : Entry m dest) : θ_run defs (onTc (τ := τ) (main (F := F))) ⟨m, fun _ => 0, ρ⟩
    (fun r => Pipeline.RoutedPost cfgs (dats m dest) 0 R0 (V m) (V m) r ∧ r.2.sem = fun _ => 0) :=
  Pipeline.θ_run_frame_routed (Q' := _) cfgs (dats m dest) (0 : Fin 1) launch0 ownSemFacts0 defs₀ Variants.none m ρ main
    (hbody := fun c => (body_obligation m dest E c).loose) (hshare := fun c => (dats m dest 0 c).share_full fun _ => rfl)
    (howed := fun _ _ => rfl) (V := V m) (hmain := hmainC m Variants.none) (hA := A_eq m dest) (R := R0) (hR := R0_sub) (Y := V m)
    (hin := fun c => enter m c) (hout := fun c => leave m c) (hQ' := fun _ h => h)

/-! ## The output -/

/-- The output: row `r` is row `r % 256` of point `r / 256`. -/
def res (c : Dev nD) : S32768x1024.Idx → Elt F .f32 := fun i =>
  outv m dest c ⟨(i 0 : Fin 32768).val / 256, by
    have h : (i 0 : Fin 32768).val < 32768 := (i 0).isLt
    show _ < grid0.N
    rw [N_0]; omega⟩ (ix2 (⟨(i 0 : Fin 32768).val % 256, Nat.mod_lt _ (by decide)⟩ : Fin 256) (i 1 : Fin 1024))

theorem res_at (c : Dev nD) (t : Fin cfg0.N) (k : Fin 256) (col : Fin 1024) (h : 256 * t.val + k.val < 32768) :
    res m dest c (ix2 (⟨256 * t.val + k.val, h⟩ : Fin 32768) col) = outv m dest c t (ix2 k col) := by
  exact congr (congrArg (outv m dest c) (Fin.ext (show (256 * t.val + k.val) / 256 = t.val by omega)))
    (congrArg (fun k : Fin 256 => (ix2 k col : S256x1024.Idx)) (Fin.ext (show (256 * t.val + k.val) % 256 = k.val by omega)))

theorem flushed4 (c : Dev nD) (t : Fin cfg0.N) : (dats m dest 0 c).flushed 4 t = ((cfg0.win 4).blk t).view.read (Elt F) (res m dest c) := by
  refine (after0_4 m dest c t).trans ?_
  funext j
  have ht := point_lt t
  have key : ∀ j : S256x1024.Idx, outv m dest c t j = res m dest c (ix2 (⟨256 * t.val + (j 0 : Fin 256).val, by have h : (j 0 : Fin 256).val < 256 := (j 0).isLt; omega⟩ : Fin 32768) (j 1 : Fin 1024)) := by
    intro j
    refine Eq.trans ?_ (res_at m dest c t (j 0 : Fin 256) (j 1 : Fin 1024) _).symm
    exact congrArg _ (ValueIdx.eq_ix2 j)
  refine (key j).trans (congrArg (res m dest c) (funext fun a => Fin.ext ?_))
  refine Eq.trans ?_ (Window.rect_emb_val_off (cfg0.win 4) t j a).symm
  rw [show (cfg0.win 4).index t a = ![t.val, 0] a from congrFun (idx t).2.2.2.2 a]
  have key2 : ∀ (j : S256x1024.Idx) (A : Fin 2), (ix2 (⟨256 * t.val + (j 0 : Fin 256).val, by have h : (j 0 : Fin 256).val < 256 := (j 0).isLt; omega⟩ : Fin 32768) (j 1 : Fin 1024) A).val = ![t.val, 0] A * ![256, 1024] A + (j A).val := by
    intro j A
    match A with
    | ⟨0, _⟩ => show 256 * t.val + _ = t.val * 256 + _; rw [Nat.mul_comm]; rfl
    | ⟨1, _⟩ => show _ = 0 * 1024 + _; rw [Nat.zero_mul, Nat.zero_add]; rfl
  exact key2 j a

theorem mem4 (t : Fin cfg0.N) (i : S32768x1024.Idx) (h : t.val = (i 0 : Fin 32768).val / 256) : i ∈ ((cfg0.win 4).blk t).view.set := by
  have h1 : (i 1 : Fin 1024).val < 1024 := (i 1).isLt
  have key : ∀ A : Fin 2, ![t.val, 0] A * ![256, 1024] A ≤ (i A).val ∧ (i A).val < ![t.val, 0] A * ![256, 1024] A + ![256, 1024] A := by
    intro A
    match A with
    | ⟨0, _⟩ =>
      show t.val * 256 ≤ (i 0 : Fin 32768).val ∧ (i 0 : Fin 32768).val < t.val * 256 + 256
      omega
    | ⟨1, _⟩ =>
      show 0 * 1024 ≤ (i 1 : Fin 1024).val ∧ (i 1 : Fin 1024).val < 0 * 1024 + 1024
      omega
  refine (Window.emb_mem_blk_iff (cfg0.win 4) t i).2 fun a => ?_
  rw [show (cfg0.win 4).xsize (cfg0.grid.coords t) a = (cfg0.win 4).size a from rfl, show (cfg0.win 4).index t a = ![t.val, 0] a from congrFun (idx t).2.2.2.2 a]
  exact key a

theorem arr4 (c : Dev nD) : ((dats m dest 0 c).arrAt 4 cfg0.N : S32768x1024.Idx → Elt F .f32) = res m dest c := by
  funext i
  have h : (i 0 : Fin 32768).val < 32768 := (i 0).isLt
  have hN : cfg0.N = 128 := N_0
  let t : Fin cfg0.N := ⟨(i 0 : Fin 32768).val / 256, by omega⟩
  exact Dat.arrAt_apply_of_mem (dats m dest 0 c) 4 (res m dest c) (fun t _ => flushed4 m dest c t) _ t i t.isLt (flush0_4 t) (mem4 t i rfl)

/-- The run: the output is `res`, the arguments as they were. -/
theorem run (E : Entry m dest) : θ_run defs (onTc (τ := τ) (main (F := F))) ⟨m, fun _ => 0, ρ⟩ (fun r =>
    (∀ c : Dev nD, r.2.mem ((c : Thread nD τ).loc main_v1) = res m dest c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine θ_run_mono (run_main m ρ dest E) fun r ⟨h, hs⟩ => ⟨fun c => ⟨?_, ?_, ?_, ?_, ?_, ?_⟩, hs⟩
  · exact ((h c).1 4).trans (arr4 m dest c)
  · exact ((h c).1 0).trans (((dats m dest 0 c).arrAt_in 0 rfl _).trans ((A_eq m dest c 0).trans (V_main_arg0 m c)))
  · exact ((h c).1 1).trans (((dats m dest 0 c).arrAt_in 1 rfl _).trans ((A_eq m dest c 1).trans (V_main_arg1 m c)))
  · exact ((h c).1 2).trans (((dats m dest 0 c).arrAt_in 2 rfl _).trans ((A_eq m dest c 2).trans (V_main_arg2 m c)))
  · exact ((h c).2.2 main_arg3 (Finset.mem_sdiff.mpr ⟨Pipeline.mem_restRefs_of main_arg3 (by decide) (by decide), by decide⟩)).trans (V_main_arg3 m c)
  · exact ((h c).2.1 main_arg4 (by decide)).trans (V_main_arg4 m c)

end

end Cert.Kernel3.Hand
-- ==== Proof.CbSame.lean ====
/-
  The combine's call: the two printed programs have one text; and the words of a table the precondition holds of name
  slots.
-/
module

public import proofs.«01_k».proof.Proof.CbFrame
public import proofs.«01_k».proof.Proof.Gen.Kernel3Ideal
public import proofs.«01_k».proof.Proof.Gen.Pre_placed
public import proofs.«01_k».proof.Defs
public import Idealize.ShloMosaic.Lib.ReduceAll

@[expose] public section

namespace Cert.Same3

open Idealize.ShloMosaic Idealize.ShloMosaic.TcCoe
open Idealize.SL.Sem

attribute [local instance] Cert.Kernel3.Gen.facts Cert.Kernel3Ideal.Gen.facts Cert.Pre_placed.Gen.facts
variable {F : FTy → Type} [FloatOps F]

set_option maxHeartbeats 2000000 in
theorem pcfgs_eq : Cert.Kernel3Ideal.pcfgs (F := F) = Cert.Kernel3.pcfgs (F := F) := rfl

set_option maxHeartbeats 2000000 in
theorem main_eq : (Cert.Kernel3Ideal.main (F := F)) = Cert.Kernel3.main (F := F) := rfl

theorem defs₀_eq : Cert.Kernel3Ideal.defs₀ (F := F) = Cert.Kernel3.defs₀ (F := F) := by
  refine congrArg Defs.onTc (funext fun l => funext fun p => ?_)
  match l, p with
  | ⟨0, _⟩, (t, s) => rfl

set_option maxHeartbeats 4000000 in
theorem defs_eq : Cert.Kernel3Ideal.defs (F := F) = Cert.Kernel3.defs (F := F) :=
  congrArg (Pipeline.defs (Cert.Kernel3.pcfgs (F := F))) defs₀_eq

theorem of_kernel {s : MemSt Cert.Kernel3.nD Cert.Kernel3.τ Cert.Kernel3.sig (Elt F)} {Q : PUnit × MemSt Cert.Kernel3.nD Cert.Kernel3.τ Cert.Kernel3.sig (Elt F) → Prop}
    (h : θ_run (Cert.Kernel3.defs (F := F)) (onTc (τ := Cert.Kernel3.τ) (Cert.Kernel3.main (F := F))) s Q) :
    θ_run (Cert.Kernel3Ideal.defs (F := F)) (onTc (τ := Cert.Kernel3Ideal.τ) (Cert.Kernel3Ideal.main (F := F))) s Q := by
  rw [defs_eq, main_eq]
  exact h

/-- What the printed predicate says of the table. -/
theorem words_of (x : IVec Cert.Pre_placed.S131072 32) (a1) (a2) (a3) (a4)
    (h : Cert.Pre_placed.fn (F := F) x a1 a2 a3 a4 = fun _ => 1#1) (i : Fin 131072) : (x (ValueIdx.ix1 i)).toNat < 147456 := by
  unfold Cert.Pre_placed.fn at h
  dsimp only at h
  haveI : Subsingleton Cert.Pre_placed.S_.Idx := ⟨fun a b => funext fun i => i.elim0⟩
  have h := Host.reduce_andi_all _ _ _ _ ValueIdx.ix0 (congrFun h ValueIdx.ix0) (ValueIdx.ix1 i)
  change IntOp.andi (IntOp.cmpi .sge (x (ValueIdx.ix1 i)) 0#32) (IntOp.cmpi .slt (x (ValueIdx.ix1 i)) 147456#32) = 1#1 at h
  generalize x (ValueIdx.ix1 i) = w at h
  obtain ⟨ha, hb⟩ := IntOp.andi_eq_one.1 h
  have ha' := IntOp.cmpi_sge.1 ha
  have hb' := IntOp.cmpi_slt.1 hb
  rw [show (0#32 : BitVec 32).toInt = 0 by decide] at ha'
  rw [show (147456#32 : BitVec 32).toInt = 147456 by decide] at hb'
  rw [BitVec.toInt_eq_toNat_cond] at ha' hb'
  split at ha' <;> split at hb' <;> omega

/-- The table's words are slots. -/
def Good (m : (ℓ : Loc Cert.Kernel3.nD Cert.Kernel3.τ Cert.Kernel3.sig) → Buf (Elt F) ℓ) : Prop :=
  ∀ (c : Dev Cert.Kernel3.nD) (i : Fin 131072), ((m ((c.tc : Thread Cert.Kernel3.nD Cert.Kernel3.τ).loc Cert.Kernel3.main_arg0) : IVec Cert.Kernel3.S131072 32) (ValueIdx.ix1 i)).toNat < 147456

theorem good {m : (ℓ : Loc Cert.Kernel3.nD Cert.Kernel3.τ Cert.Kernel3.sig) → Buf (Elt F) ℓ}
    (h : ∀ c : Dev Cert.Kernel3.nD,
      Cert.Pre_placed.fn (F := F) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) = fun _ => 1#1) :
    Good m := fun c i => words_of _ _ _ _ _ (h c) i

/-- The slots that the table names. -/
def destOf (m : (ℓ : Loc Cert.Kernel3.nD Cert.Kernel3.τ Cert.Kernel3.sig) → Buf (Elt F) ℓ) (G : Good m) (c : Dev Cert.Kernel3.nD) (a : Fin 131072) : Fin 147456 :=
  ⟨((m ((c.tc : Thread Cert.Kernel3.nD Cert.Kernel3.τ).loc Cert.Kernel3.main_arg0) : IVec Cert.Kernel3.S131072 32) (ValueIdx.ix1 a)).toNat, G c a⟩

theorem entry {m : (ℓ : Loc Cert.Kernel3.nD Cert.Kernel3.τ Cert.Kernel3.sig) → Buf (Elt F) ℓ} (G : Good m) : Cert.Kernel3.Hand.Entry m (destOf m G) := fun c a => by
  rw [Cert.Kernel3.Gen.V_main_arg0]
  rfl

theorem frame3 : Cert.quiescent_Kernel3 := fun m ρ h =>
  (θ_run Cert.Kernel3.defs _ _).mono (fun _ H => ⟨fun c => (H.1 c).2, H.2⟩) (Cert.Kernel3.Hand.run m ρ _ (entry (good h)))

theorem frame3Ideal : Cert.quiescent_Kernel3Ideal := fun m ρ h =>
  of_kernel ((θ_run Cert.Kernel3.defs _ _).mono (fun _ H => ⟨fun c => (H.1 c).2, H.2⟩) (Cert.Kernel3.Hand.run (F := Ideal) m ρ _ (entry (good (F := Ideal) (m := m) h))))

end Cert.Same3

end
-- ==== Proof.CbModel.lean ====
/-
  The combine's call at the ideal values: what one token's row comes out as, read off the kernel's arithmetic and off the
  reference's.
-/
module

public import proofs.«01_k».proof.Proof.CbSame
public import proofs.«01_k».proof.Proof.ExModel
public import proofs.«01_k».proof.Proof.Gen.Reference3Ideal.Run
public import Idealize.ShloMosaic.Lib.Pointwise

@[expose] public section

noncomputable section

namespace Cert.Value3

open Idealize.ShloMosaic
open Cert.Value2 (halves)

attribute [local instance] Cert.Kernel3.Gen.facts Cert.Reference3Ideal.Gen.facts

/-- A token's row: its residual and its four slots' rows under its gates. -/
def mix (h : Fin 1024 → EReal) (w : Fin 4 → EReal) (u : Fin 4 → Fin 1024 → EReal) : Fin 1024 → EReal :=
  fun d => h d + ∑ j : Fin 4, u j d * w j

/-- The row over its root mean square, under the gains. -/
def normed (x g : Fin 1024 → EReal) : Fin 1024 → EReal := fun d =>
  x d * Ideal.rsqrt (Ideal.div (∑ e : Fin 1024, x e * x e) (Ideal.ofBits .f32 0x44800000#32) + Ideal.ofBits .f32 0x358637BD#32) * g d

section Kernel
open Cert.Kernel3

/-- A block's rows, read out of its words. -/
def unpK (x : IVec S256x512 32) : FVec Ideal S256x1024 .f32 :=
  concatenate S256x1024 1 [⟨S256x512, bitcastToFloat .f32 (shli x (broadcast S256x512 16#32))⟩,
    ⟨S256x512, bitcastToFloat .f32 (andi x (broadcast S256x512 4294901760#32))⟩] Gen.concatenates_S256x512_S256x512_S256x1024_d1

theorem unpK_at (x : IVec S256x512 32) (n : Fin 256) (d : Fin 1024) : unpK x (ix2 n d) = halves (fun k => x (ix2 n k)) d := by
  pointwise [unpK, halves]
  rfl

/-- The kernel's sum, of the four planes' rows. -/
def mixK (x : FVec Ideal S256x1024 .f32) (a : FVec Ideal S256x128 .f32) (U0 U1 U2 U3 : FVec Ideal S256x1024 .f32) : FVec Ideal S256x1024 .f32 :=
  addf (addf (addf (addf x (mulf (broadcastTo S256x1024 (extractStridedSlice S256x1 ![0, 4] a Gen.slices_S256x128_o0_4_S256x1) Gen.broadcasts_S256x1_S256x1024) U0))
    (mulf (broadcastTo S256x1024 (extractStridedSlice S256x1 ![0, 5] a Gen.slices_S256x128_o0_5_S256x1) Gen.broadcasts_S256x1_S256x1024) U1))
    (mulf (broadcastTo S256x1024 (extractStridedSlice S256x1 ![0, 6] a Gen.slices_S256x128_o0_6_S256x1) Gen.broadcasts_S256x1_S256x1024) U2))
    (mulf (broadcastTo S256x1024 (extractStridedSlice S256x1 ![0, 7] a Gen.slices_S256x128_o0_7_S256x1) Gen.broadcasts_S256x1_S256x1024) U3)

/-- The kernel's norm. -/
def normK (X : FVec Ideal S256x1024 .f32) (g : FVec Ideal S1x1024 .f32) : FVec Ideal S256x1024 .f32 :=
  mulf (mulf X (broadcastTo S256x1024 (rsqrt (addf (divf (shapeCast S256x1 (multiReduction .add [1] S256 (mulf X X) 0x00000000#32 Gen.reduces_S256x1024_S256 (.inl rfl) rfl) Gen.shapeCasts_S256_S256x1)
    (broadcast S256x1 (Scalar.ofBits .f32 0x44800000#32))) (broadcast S256x1 (Scalar.ofBits .f32 0x358637BD#32)))) Gen.broadcasts_S256x1_S256x1024))
    (broadcastTo S256x1024 (shapeCast S1x1024 g Gen.shapeCasts_S1x1024_S1x1024) Gen.broadcasts_S1x1024_S256x1024)

/-- A plane of the scratch as rows of words. -/
def planeW (s : S4x256x512.Idx → BitVec 32) (j : Fin 4) : IVec S256x512 32 :=
  shapeCast S256x512 (Hand.plane (F := Ideal) s j) Gen.shapeCasts_S1x256x512_S256x512

theorem planeW_at (s : S4x256x512.Idx → BitVec 32) (j : Fin 4) (n : Fin 256) (k : Fin 512) : planeW s j (ix2 n k) = s (ix3 j n k) := by
  pointwise [planeW, Hand.plane]

theorem combPay_eq (x : FVec Ideal S256x1024 .f32) (a : FVec Ideal S256x128 .f32) (g : FVec Ideal S1x1024 .f32) (s : S4x256x512.Idx → BitVec 32) :
    Hand.combPay (F := Ideal) x a g s = normK (mixK x a (unpK (planeW s 0)) (unpK (planeW s 1)) (unpK (planeW s 2)) (unpK (planeW s 3))) g := by
  unfold Hand.combPay Gen.k0_pay1 Gen.k0_pay2 Gen.k0_pay3 Gen.k0_pay4 normK mixK unpK planeW
  rfl

theorem mixK_at (x : FVec Ideal S256x1024 .f32) (a : FVec Ideal S256x128 .f32) (U0 U1 U2 U3 : FVec Ideal S256x1024 .f32) (n : Fin 256) (d : Fin 1024) :
    mixK x a U0 U1 U2 U3 (ix2 n d) = x (ix2 n d) + a (ix2 n 4) * U0 (ix2 n d) + a (ix2 n 5) * U1 (ix2 n d) + a (ix2 n 6) * U2 (ix2 n d) + a (ix2 n 7) * U3 (ix2 n d) := by
  pointwise [mixK]

theorem normK_at (X : FVec Ideal S256x1024 .f32) (g : FVec Ideal S1x1024 .f32) (n : Fin 256) (d : Fin 1024) :
    normK X g (ix2 n d) = normed (fun d => X (ix2 n d)) (fun d => g (ix2 0 d)) d := by
  pointwise [normK, normed]

end Kernel

section Reference
open Cert.Reference3Ideal Cert.Reference3Ideal.Gen

/-- The slots' rows, read out of their words. -/
def unpR (x : IVec S147456x512 32) : FVec Ideal S147456x1024 .f32 :=
  concatenate S147456x1024 1 [⟨S147456x512, bitcastToFloat .f32 (Host.shli x (broadcastInDim S147456x512 ![] bcast_S_S147456x512 (constantI S_ 32 16#32)))⟩,
    ⟨S147456x512, bitcastToFloat .f32 (andi x (broadcastInDim S147456x512 ![] bcast_S_S147456x512 (constantI S_ 32 4294901760#32)))⟩]
    concatenates_S147456x512_S147456x512_S147456x1024_d1

theorem unpR_at (x : IVec S147456x512 32) (r : Fin 147456) (d : Fin 1024) : unpR x (ix2 r d) = halves (fun k => x (ix2 r k)) d := by
  pointwise [unpR, halves]
  rfl

/-- The tokens' slots as the gather reads them. -/
def takeT (be : IVec S131072 32) : IVec S131072x1 32 :=
  broadcastInDim S131072x1 ![0] bcast_S131072_S131072x1_0 (select (cmpi .slt be (broadcastInDim S131072 ![] bcast_S_S131072 (constantI S_ 32 0#32))) (addi be (broadcastInDim S131072 ![] bcast_S_S131072 (constantI S_ 32 147456#32))) be)

theorem takeT_at (be : IVec S131072 32) (b : Fin 131072) (e : Fin 147456) (he : be (ix1 b) = BitVec.ofNat 32 e.val) :
    takeT be (ix2 b 0) = BitVec.ofNat 32 e.val := by
  have hl := e.isLt
  have h : ¬ IntOp.cmpi .slt (BitVec.ofNat 32 e.val) 0#32 = 1#1 := by
    rw [IntOp.cmpi_slt, StableHlo.Predicate.toInt_ofNat_small _ (by omega)]
    show ¬ ((e.val : Int) < 0)
    omega
  pointwise [takeT]
  rw [he]
  exact if_neg h

/-- The reference's sum, of the assignments' rows. -/
def mixT (h : FVec Ideal S32768x1024 .f32) (a : FVec Ideal S32768x128 .f32) (G : FVec Ideal S131072x1024 .f32) : FVec Ideal S32768x1024 .f32 :=
  addf h (Host.reduceAdd (shapeCast _ (mulf G (broadcastInDim S131072x1024 ![0, 1] bcast_S131072x1_S131072x1024_0_1 (broadcastInDim S131072x1 ![0] bcast_S131072_S131072x1_0 (shapeCast _ (extractStridedSlice S32768x4 ![0, 4] a slices_S32768x128_S32768x4_0_4) shapeCasts_S32768x4_S131072)))) shapeCasts_S131072x1024_S32768x4x1024) (constant S_ .f32 0x00000000#32) reducesTo_S32768x4x1024_S32768x1024_d1 h_S_)

/-- The reference's norm. -/
def normT (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's result of its five arrays. -/
def refT (be : IVec S131072 32) (h : FVec Ideal S32768x1024 .f32) (a : FVec Ideal S32768x128 .f32) (g : FVec Ideal S1024 .f32)
    (X : IVec S147456x512 32) : FVec Ideal S32768x1024 .f32 :=
  normT (mixT h a (Host.gather gather_S147456x1024_S131072x1_S131072x1024_1_0_n_n_0_1_11024 (unpR X) (takeT be))) g

open Idealize.ShloMosaic.TcCoe in
/-- What the reference leaves, by these names. -/
theorem ref_eq (m : (ℓ : Loc nD τ sig) → Buf (Elt Ideal) ℓ) (c : Dev nD) :
    Value.res_out0 m c = refT (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem rows (W : FVec Ideal S147456x1024 .f32) (idx : IVec S131072x1 32) (b : Fin 131072) (e : Fin 147456)
    (he : idx (ix2 b 0) = BitVec.ofNat 32 e.val) (k : Fin 1024) :
    Host.gather gather_S147456x1024_S131072x1_S131072x1024_1_0_n_n_0_1_11024 W idx (ix2 b k) = W (ix2 e k) :=
  Routing.gather_row gather_S147456x1024_S131072x1_S131072x1024_1_0_n_n_0_1_11024 rfl rfl rfl rfl rfl W idx b k e he (by decide)

theorem normT_at (X : FVec Ideal S32768x1024 .f32) (g : FVec Ideal S1024 .f32) (n : Fin 32768) (d : Fin 1024) :
    normT X g (ix2 n d) = normed (fun d => X (ix2 n d)) (fun d => g (ix1 d)) d := by
  pointwise [normT, normed]

theorem mixT_at (h : FVec Ideal S32768x1024 .f32) (a : FVec Ideal S32768x128 .f32) (G : FVec Ideal S131072x1024 .f32) (n : Fin 32768) (d : Fin 1024) :
    mixT h a G (ix2 n d) = h (ix2 n d) + ∑ j : Fin 4, G (ix2 (⟨n.val * 4 + j.val, by omega⟩ : Fin 131072) d) * a (ix2 n (⟨4 + j.val, by omega⟩ : Fin 128)) := by
  pointwise [mixT]

theorem refT_at (be : IVec S131072 32) (h : FVec Ideal S32768x1024 .f32) (a : FVec Ideal S32768x128 .f32) (g : FVec Ideal S1024 .f32)
    (X : IVec S147456x512 32) (n : Fin 32768) (d : Fin 1024) (ds : Fin 131072 → Fin 147456) (hd : ∀ b, be (ix1 b) = BitVec.ofNat 32 (ds b).val) :
    refT be h a g X (ix2 n d) = normed (mix (fun d => h (ix2 n d)) (fun j => a (ix2 n (⟨4 + j.val, by omega⟩ : Fin 128)))
      (fun j => halves fun k => X (ix2 (ds ⟨n.val * 4 + j.val, by omega⟩) k))) (fun d => g (ix1 d)) d := by
  unfold refT
  rw [normT_at]
  refine congrArg (fun x => normed x (fun d => g (ix1 d)) d) (funext fun d => ?_)
  rw [mixT_at]
  unfold mix
  refine congrArg (h (ix2 n d) + ·) (Finset.sum_congr rfl fun j _ => ?_)
  rw [rows _ _ _ _ (takeT_at be _ _ (hd _)), unpR_at]

end Reference

section
open Cert.Kernel3 Cert.Kernel3.Gen Cert.Kernel3.Hand

theorem pay_at (x : FVec Ideal S256x1024 .f32) (a : FVec Ideal S256x128 .f32) (g : FVec Ideal S1x1024 .f32) (s : S4x256x512.Idx → BitVec 32) (n : Fin 256) (d : Fin 1024) :
    combPay (F := Ideal) x a g s (ix2 n d) = normed (mix (fun d => x (ix2 n d)) (fun j => a (ix2 n (⟨4 + j.val, by omega⟩ : Fin 128)))
      (fun j => halves fun k => s (ix3 j n k))) (fun d => g (ix2 0 d)) d := by
  rw [combPay_eq, normK_at]
  refine congrArg (fun x => normed x (fun d => g (ix2 0 d)) d) (funext fun d => ?_)
  rw [mixK_at, unpK_at, unpK_at, unpK_at, unpK_at]
  simp only [planeW_at]
  unfold mix
  rw [Fin.sum_univ_four, mul_comm (a _), mul_comm (a _), mul_comm (a _), mul_comm (a _), add_assoc, add_assoc, add_assoc, add_assoc, add_assoc]
  rfl

variable (m : (ℓ : Loc nD τ sig) → Buf (Elt Ideal) ℓ)

open Idealize.ShloMosaic.TcCoe in
theorem V_v0 (c : Dev nD) (k : Fin 1024) : (V m c main_v0 : S1x1024.Idx → Elt Ideal .f32) (ix2 0 k) = (m ((c : Thread nD τ).loc main_arg3) : S1024.Idx → Elt Ideal .f32) (ix1 k) := by
  have h : (V m c main_v0 : S1x1024.Idx → Elt Ideal .f32) = shapeCast S1x1024 (m ((c : Thread nD τ).loc main_arg3)) shapeCasts_S1024_S1x1024 := by
    entry_read
    rfl
  rw [h]
  pointwise []

theorem normed_congr {x x' g g' : Fin 1024 → EReal} (hx : ∀ d, x d = x' d) (hg : ∀ d, g d = g' d) (d : Fin 1024) : normed x g d = normed x' g' d := by
  rw [funext hx, funext hg]

theorem mix_congr {h h' : Fin 1024 → EReal} {w w' : Fin 4 → EReal} {u u' : Fin 4 → Fin 512 → BitVec 32} (hh : ∀ d, h d = h' d) (hw : ∀ j, w j = w' j) (hu : ∀ j k, u j k = u' j k) (d : Fin 1024) :
    mix h w (fun j => halves (u j)) d = mix h' w' (fun j => halves (u' j)) d := by
  rw [funext hh, funext hw, show u = u' from funext fun j => funext (hu j)]

open Idealize.ShloMosaic.TcCoe in
/-- The kernel leaves what the reference leaves of the same arrays. -/
theorem res_ref (G : Cert.Same3.Good m) (c : Dev nD) :
    res m (Cert.Same3.destOf m G) c = refT (m ((c : Thread nD τ).loc main_arg0)) (m ((c : Thread nD τ).loc main_arg1))
      (m ((c : Thread nD τ).loc main_arg2)) (m ((c : Thread nD τ).loc main_arg3)) (m ((c : Thread nD τ).loc main_arg4)) := by
  funext i
  obtain ⟨r, k, rfl⟩ : ∃ (r : Fin 32768) (k : Fin 1024), i = ix2 r k := ⟨i 0, i 1, eq_ix2 i⟩
  have hr := r.isLt
  have hN : cfg0.N = 128 := N_0
  obtain ⟨t, n, hl, rfl⟩ : ∃ (t : Fin cfg0.N) (n : Fin 256) (hl : 256 * t.val + n.val < 32768), r = ⟨256 * t.val + n.val, hl⟩ :=
    ⟨⟨r.val / 256, by omega⟩, ⟨r.val % 256, by omega⟩, by show 256 * (r.val / 256) + r.val % 256 < _; omega, Fin.ext (by show r.val = 256 * (r.val / 256) + r.val % 256; omega)⟩
  have ht := point_lt t
  rw [res_at m (Cert.Same3.destOf m G) c t n k hl]
  refine Eq.trans ?_ (refT_at _ _ _ _ _ _ k (Cert.Same3.destOf m G c) fun b =>
    ((BitVec.ofNat_toNat 32 _).trans (BitVec.setWidth_eq (m ((c : Thread nD τ).loc main_arg0) (ix1 b)))).symm).symm
  unfold outv
  refine (pay_at _ _ _ _ n k).trans ?_
  refine normed_congr (fun d => mix_congr (fun d => ?_) (fun j => ?_) (fun j k => ?_) d) (fun d => ?_) k
  · exact (iblk1_apply m c t n d).trans (congrFun (V_main_arg1 m c) _)
  · exact (iblk2_apply m c t n _).trans (congrFun (V_main_arg2 m c) _)
  · unfold filled
    refine (congrFun (V_main_arg4 m c) _).trans ?_
    refine congrArg (fun a => (m ((c : Thread nD τ).loc main_arg4) : S147456x512.Idx → Elt Ideal .i32) (ix2 (Cert.Same3.destOf m G c a) k)) (Fin.ext ?_)
    show (1024 * t.val + (4 * n.val + j.val)) % 131072 = (256 * t.val + n.val) * 4 + j.val
    have := j.isLt
    omega
  · exact (iblk3_apply m c t 0 d).trans (V_v0 m c d)

end

end Cert.Value3
-- ==== Proof.lean ====
/-
  The claims: the dispatch's from the two runs of Join.lean, the experts' call's from ExHost.lean's run and ExModel.lean's
  value, the combine's from CbFrame.lean's run and CbModel.lean's value; the programs read at the ideal instance have the text of the others.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_routed
public import proofs.«01_k».proof.Proof.Gen.Reference.Run
public import proofs.«01_k».proof.Proof.Gen.ReferenceIdeal.Run
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_blocks
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_placed
public import proofs.«01_k».proof.Proof.Join
public import proofs.«01_k».proof.Proof.Same
public import proofs.«01_k».proof.Proof.ExSame
public import proofs.«01_k».proof.Proof.ExModel
public import proofs.«01_k».proof.Proof.CbSame
public import proofs.«01_k».proof.Proof.CbModel

@[expose] public section

noncomputable section

namespace Cert.Proof

open Idealize.ShloMosaic Idealize.ShloMosaic.TcCoe
open Idealize.SL.Sem

attribute [local instance] Cert.Kernel.Gen.facts Cert.KernelIdeal.Gen.facts Cert.ReferenceIdeal.Gen.facts Cert.Reference.Gen.facts Cert.Pre_routed.Gen.facts
attribute [local instance] Cert.Kernel2.Gen.facts Cert.Kernel2Ideal.Gen.facts Cert.Reference2Ideal.Gen.facts Cert.Pre_blocks.Gen.facts
attribute [local instance] Cert.Kernel3.Gen.facts Cert.Kernel3Ideal.Gen.facts Cert.Reference3Ideal.Gen.facts Cert.Pre_placed.Gen.facts

theorem frame_kernel : Cert.quiescent_Kernel := fun m ρ h =>
  (θ_run Cert.Kernel.defs _ _).mono (fun _ H => ⟨fun c => (H.1 c).2, H.2⟩) (Cert.Join.runK m ρ h)

theorem frame_kernelIdeal : Cert.quiescent_KernelIdeal := fun m ρ h =>
  Cert.Same.of_kernel ((θ_run Cert.Kernel.defs _ _).mono (fun _ H => ⟨fun c => (H.1 c).2, H.2⟩) (Cert.Join.runK (F := Ideal) m ρ h))

theorem frame_reference : Cert.quiescent_Reference := fun m ρ _ =>
  (θ_run Cert.Reference.defs _ _).mono (fun _ H => ⟨fun c => (H.1 c).2, H.2⟩) (Cert.Join.runR m ρ)

theorem frame_referenceIdeal : Cert.quiescent_ReferenceIdeal := fun m ρ _ =>
  (θ_run Cert.Reference.defs _ _).mono (fun _ H => ⟨fun c => (H.1 c).2, H.2⟩) (Cert.Join.runR (F := Ideal) m ρ)

theorem algebraic : Cert.algebraic_KernelIdeal_ReferenceIdeal := fun m ρ m' ρ' h ha =>
  (Cert.Join.pair (F := Ideal) m ρ m' ρ' h ha).elim fun v H => ⟨v, Cert.Same.of_kernel H.1, H.2⟩

theorem bitexact : Cert.bitexact_Kernel_Reference := fun m ρ m' ρ' h ha =>
  Cert.Join.pair m ρ m' ρ' h ha

theorem frame_reference2Ideal : Cert.quiescent_Reference2Ideal := fun m ρ _ =>
  (θ_run Cert.Reference2Ideal.defs _ _).mono (fun r H => ⟨fun c => (H c).2, sem_eq_zero_of_no_sems (by decide) r.2⟩)
    (Cert.Reference2Ideal.Value.run (F := Ideal) m ρ)

theorem algebraic2 : Cert.algebraic_Kernel2Ideal_Reference2Ideal := by
  intro m ρ m' ρ' h ha
  have G : Cert.Kernel2.Hand.Good (F := Ideal) m := Cert.Same2.good (F := Ideal) (m := m) h
  refine ⟨fun c => Cert.Kernel2.Hand.res (F := Ideal) m c,
    Cert.Same2.of_kernel ((θ_run Cert.Kernel2.defs _ _).mono (fun _ H => H.1) (Cert.Kernel2.Hand.run (F := Ideal) (m := m) ρ G)),
    (θ_run Cert.Reference2Ideal.defs _ _).mono (fun _ H c => ⟨(H c).1.trans ?_, (H c).2⟩) (Cert.Reference2Ideal.Value.run (F := Ideal) m' ρ')⟩
  obtain ⟨h0, h1, h2, h3, h4, h5, h6, h7, h8⟩ := ha c
  refine (Cert.Value2.ref_eq m' c).trans ?_
  rw [h0, h1, h2, h3, h4, h5, h6, h7, h8]
  exact (Cert.Value2.res_ref G c).symm

theorem frame_reference3Ideal : Cert.quiescent_Reference3Ideal := fun m ρ _ =>
  (θ_run Cert.Reference3Ideal.defs _ _).mono (fun r H => ⟨fun c => (H c).2, sem_eq_zero_of_no_sems (by decide) r.2⟩)
    (Cert.Reference3Ideal.Value.run (F := Ideal) m ρ)

theorem algebraic3 : Cert.algebraic_Kernel3Ideal_Reference3Ideal := by
  intro m ρ m' ρ' h ha
  have G : Cert.Same3.Good (F := Ideal) m := Cert.Same3.good (F := Ideal) (m := m) h
  refine ⟨fun c => Cert.Kernel3.Hand.res (F := Ideal) m (Cert.Same3.destOf m G) c,
    Cert.Same3.of_kernel ((θ_run Cert.Kernel3.defs _ _).mono (fun _ H => H.1) (Cert.Kernel3.Hand.run (F := Ideal) m ρ _ (Cert.Same3.entry G))),
    (θ_run Cert.Reference3Ideal.defs _ _).mono (fun _ H c => ⟨(H c).1.trans ?_, (H c).2⟩) (Cert.Reference3Ideal.Value.run (F := Ideal) m' ρ')⟩
  obtain ⟨h0, h1, h2, h3, h4⟩ := ha c
  refine (Cert.Value3.ref_eq m' c).trans ?_
  rw [h0, h1, h2, h3, h4]
  exact (Cert.Value3.res_ref m G c).symm

theorem claim : Cert.Claim :=
  ⟨Cert.Kernel.Gen.facts, Cert.KernelIdeal.Gen.facts, Cert.ReferenceIdeal.Gen.facts, Cert.Reference.Gen.facts, Cert.Kernel2.Gen.facts,
    Cert.Kernel2Ideal.Gen.facts, Cert.Reference2Ideal.Gen.facts, Cert.Kernel3.Gen.facts, Cert.Kernel3Ideal.Gen.facts, Cert.Reference3Ideal.Gen.facts,
    Cert.Pre_routed.Gen.facts, Cert.Pre_blocks.Gen.facts, Cert.Pre_placed.Gen.facts,
    frame_kernel, frame_kernelIdeal, frame_referenceIdeal, frame_reference, Cert.Same2.frame2, Cert.Same2.frame2Ideal, frame_reference2Ideal,
    Cert.Same3.frame3, Cert.Same3.frame3Ideal, frame_reference3Ideal, trivial, algebraic, bitexact, trivial, algebraic2, trivial, algebraic3⟩

end Cert.Proof

end
